-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "freq" .f32 0xBE135D8E#32 ((-((Real.log 10000) * 64⁻¹) : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v86) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)

variable [Facts]

def fn {F : FTy → Type} [FloatOps F] (main_arg0 : FVec F S2x128x512 .bf16) (main_arg1 : FVec F S512x256 .bf16) (main_arg2 : FVec F S512x256 .bf16) (main_arg3 : FVec F S512x256 .bf16) (main_arg4 : FVec F S256x512 .bf16) : IVec S2x128x512 1 × IVec S512x256 1 × IVec S512x256 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S512x256 .bf16 := Host.absf main_arg2
  let main_cst_1 : FVec F S_ .bf16 := constant S_ .bf16 0x7F80#16
  let main_v7 : FVec F S512x256 .bf16 := broadcastInDim S512x256 ![] bcast_S_S512x256 main_cst_1
  let main_v8 : IVec S512x256 1 := cmpf .olt main_v6 main_v7
  (main_v2, main_v5, main_v8)
-- ==== Pre_finite_ReferenceIdeal.lean ====
abbrev S2x512x512 : Shape := ⟨3, ![2, 512, 512]⟩
abbrev S512x256 : Shape := ⟨2, ![512, 256]⟩
abbrev S256x512 : Shape := ⟨2, ![256, 512]⟩
abbrev S_ : Shape := ⟨0, ![]⟩

class Facts : Prop where
  bcast_S_S2x512x512 : S_.BroadcastsInDim S2x512x512 (![] : Fin 0 → Fin S2x512x512.rank)
  bcast_S_S512x256 : S_.BroadcastsInDim S512x256 (![] : Fin 0 → Fin S512x256.rank)

variable [Facts]

def fn {F : FTy → Type} [FloatOps F] (main_arg0 : FVec F S2x512x512 .bf16) (main_arg1 : FVec F S512x256 .bf16) (main_arg2 : FVec F S512x256 .bf16) (main_arg3 : FVec F S512x256 .bf16) (main_arg4 : FVec F S256x512 .bf16) : IVec S2x512x512 1 × IVec S512x256 1 × IVec S512x256 1 :=
  let main_v0 : FVec F S2x512x512 .bf16 := Host.absf main_arg0
  let main_cst : FVec F S_ .bf16 := constant S_ .bf16 0x7F80#16
  let main_v1 : FVec F S2x512x512 .bf16 := broadcastInDim S2x512x512 ![] bcast_S_S2x512x512 main_cst
  let main_v2 : IVec S2x512x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S512x256 .bf16 := Host.absf main_arg2
  let main_cst_1 : FVec F S_ .bf16 := constant S_ .bf16 0x7F80#16
  let main_v7 : FVec F S512x256 .bf16 := broadcastInDim S512x256 ![] bcast_S_S512x256 main_cst_1
  let main_v8 : IVec S512x256 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S256x512 : Shape := ⟨2, ![256, 512]⟩
abbrev S4x2x128x256 : Shape := ⟨4, ![4, 2, 128, 256]⟩
abbrev S2x128x256 : Shape := ⟨3, ![2, 128, 256]⟩
abbrev S3x2 : Shape := ⟨2, ![3, 2]⟩
abbrev S4x2 : Shape := ⟨2, ![4, 2]⟩
abbrev S3 : Shape := ⟨1, ![3]⟩
abbrev S4 : Shape := ⟨1, ![4]⟩
abbrev S_ : Shape := ⟨0, ![]⟩
abbrev S128x256 : Shape := ⟨2, ![128, 256]⟩
abbrev S256x256 : Shape := ⟨2, ![256, 256]⟩
abbrev S1x128x512 : Shape := ⟨3, ![1, 128, 512]⟩
abbrev S128x512 : Shape := ⟨2, ![128, 512]⟩
abbrev S1x1x128x256 : Shape := ⟨4, ![1, 1, 128, 256]⟩
abbrev S1x1 : Shape := ⟨2, ![1, 1]⟩
abbrev S1 : Shape := ⟨1, ![1]⟩
abbrev S1x2x128x256 : Shape := ⟨4, ![1, 2, 128, 256]⟩
abbrev S1x128x256 : Shape := ⟨3, ![1, 128, 256]⟩
abbrev S1x128x64 : Shape := ⟨3, ![1, 128, 64]⟩
abbrev S128x64 : Shape := ⟨2, ![128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩
abbrev S64x512 : Shape := ⟨2, ![64, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128x512, .bf16⟩
  | .local _ .vmem, ⟨6, _⟩ => ⟨S4x2x128x256, .bf16⟩
  | .local _ .vmem, ⟨7, _⟩ => ⟨S4x2x128x256, .bf16⟩
  | .local _ .vmem, ⟨8, _⟩ => ⟨S2x128x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_58 : BitVec 32 := 3#32
  let v142 : BitVec 32 := Scalar.addi v2 c3_i32_58
  let c4_i32_59 : BitVec 32 := 4#32
  let v143 : BitVec 32 := Scalar.remsi v142 c4_i32_59
  let c1_i32_68 : BitVec 32 := 1#32
  let v144 : BitVec 32 := Scalar.muli v143 c1_i32_68
  let v145 : BitVec 32 := Scalar.addi c0_i32_69 v144
  v145.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_74 : BitVec 32 := 1#32
  let v154 : BitVec 32 := Scalar.addi v2 c1_i32_74
  let c4_i32_75 : BitVec 32 := 4#32
  let v155 : BitVec 32 := Scalar.remsi v154 c4_i32_75
  let c1_i32_84 : BitVec 32 := 1#32
  let v156 : BitVec 32 := Scalar.muli v155 c1_i32_84
  let v157 : BitVec 32 := Scalar.addi c0_i32_85 v156
  v157.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v166 : BitVec 32 := Scalar.addi v2 c2_i32_90
  let c4_i32_91 : BitVec 32 := 4#32
  let v167 : BitVec 32 := Scalar.remsi v166 c4_i32_91
  let c1_i32_100 : BitVec 32 := 1#32
  let v168 : BitVec 32 := Scalar.muli v167 c1_i32_100
  let v169 : BitVec 32 := Scalar.addi c0_i32_101 v168
  v169.toNat
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v190 : BitVec 32 := Scalar.addi v2 c3_i32_113
  let c4_i32_114 : BitVec 32 := 4#32
  let v191 : BitVec 32 := Scalar.remsi v190 c4_i32_114
  let c1_i32_123 : BitVec 32 := 1#32
  let v192 : BitVec 32 := Scalar.muli v191 c1_i32_123
  let v193 : BitVec 32 := Scalar.addi c0_i32_124 v192
  v193.toNat
def k0_dev8 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_129 : BitVec 32 := 1#32
  let v202 : BitVec 32 := Scalar.addi v2 c1_i32_129
  let c4_i32_130 : BitVec 32 := 4#32
  let v203 : BitVec 32 := Scalar.remsi v202 c4_i32_130
  let c1_i32_139 : BitVec 32 := 1#32
  let v204 : BitVec 32 := Scalar.muli v203 c1_i32_139
  let v205 : BitVec 32 := Scalar.addi c0_i32_140 v204
  v205.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_145 : BitVec 32 := 2#32
  let v214 : BitVec 32 := Scalar.addi v2 c2_i32_145
  let c4_i32_146 : BitVec 32 := 4#32
  let v215 : BitVec 32 := Scalar.remsi v214 c4_i32_146
  let c1_i32_155 : BitVec 32 := 1#32
  let v216 : BitVec 32 := Scalar.muli v215 c1_i32_155
  let v217 : BitVec 32 := Scalar.addi c0_i32_156 v216
  v217.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_173 : BitVec 32 := 3#32
  let v238 : BitVec 32 := Scalar.addi v2 c3_i32_173
  let c4_i32_174 : BitVec 32 := 4#32
  let v239 : BitVec 32 := Scalar.remsi v238 c4_i32_174
  let c1_i32_179 : BitVec 32 := 1#32
  let v240 : BitVec 32 := Scalar.muli v239 c1_i32_179
  let v241 : BitVec 32 := Scalar.addi c0_i32_180 v240
  v241.toNat
def k0_dev11 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_187 : BitVec 32 := 1#32
  let v250 : BitVec 32 := Scalar.addi v2 c1_i32_187
  let c4_i32_188 : BitVec 32 := 4#32
  let v251 : BitVec 32 := Scalar.remsi v250 c4_i32_188
  let c1_i32_193 : BitVec 32 := 1#32
  let v252 : BitVec 32 := Scalar.muli v251 c1_i32_193
  let v253 : BitVec 32 := Scalar.addi c0_i32_194 v252
  v253.toNat
def k0_dev12 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_201 : BitVec 32 := 2#32
  let v262 : BitVec 32 := Scalar.addi v2 c2_i32_201
  let c4_i32_202 : BitVec 32 := 4#32
  let v263 : BitVec 32 := Scalar.remsi v262 c4_i32_202
  let c1_i32_207 : BitVec 32 := 1#32
  let v264 : BitVec 32 := Scalar.muli v263 c1_i32_207
  let v265 : BitVec 32 := Scalar.addi c0_i32_208 v264
  v265.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "freq" => some ((-((Real.log 10000) * 64⁻¹) : ℝ) : EReal)
  | _ => none
-- ==== ReferenceIdeal.lean ====
abbrev S2x512x512 : Shape := ⟨3, ![2, 512, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x32x2 : Shape := ⟨3, ![512, 32, 2]⟩
abbrev S512x64 : Shape := ⟨2, ![512, 64]⟩
abbrev S2x512x256 : Shape := ⟨3, ![2, 512, 256]⟩
abbrev S2x512x4x64 : Shape := ⟨4, ![2, 512, 4, 64]⟩
abbrev S2x512x4x32x2 : Shape := ⟨5, ![2, 512, 4, 32, 2]⟩
abbrev S2x512x4x32x1 : Shape := ⟨5, ![2, 512, 4, 32, 1]⟩
abbrev S2x512x4x32 : Shape := ⟨4, ![2, 512, 4, 32]⟩
abbrev S1x512x1x64 : Shape := ⟨4, ![1, 512, 1, 64]⟩
abbrev S2x4x512x512 : Shape := ⟨4, ![2, 4, 512, 512]⟩
abbrev S2x4x512 : Shape := ⟨3, ![2, 4, 512]⟩
abbrev S2x4x512x1 : Shape := ⟨4, ![2, 4, 512, 1]⟩
abbrev S2x4x64x512 : Shape := ⟨4, ![2, 4, 64, 512]⟩

abbrev nBuf : Space → Nat
  | .hbm => 100
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x512x512, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S256x512, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S512, .i32⟩
  | .hbm, ⟨28, _⟩ => ⟨S512x1, .i32⟩
  | .hbm, ⟨29, _⟩ => ⟨S1x32, .f32⟩
  | .hbm, ⟨30, _⟩ => ⟨S512x1, .f32⟩
  | .hbm, ⟨31, _⟩ => ⟨S512x32, .f32⟩
  | .hbm, ⟨32, _⟩ => ⟨S512x32, .f32⟩
  | .hbm, ⟨33, _⟩ => ⟨S512x32, .f32⟩
  | .hbm, ⟨34, _⟩ => ⟨S512x32, .f32⟩
  | .hbm, ⟨35, _⟩ => ⟨S512x32x2, .f32⟩
  | .hbm, ⟨36, _⟩ => ⟨S512x64, .f32⟩
  | .hbm, ⟨37, _⟩ => ⟨S512x32, .f32⟩
  | .hbm, ⟨38, _⟩ => ⟨S512x32x2, .f32⟩
  | .hbm, ⟨39, _⟩ => ⟨S512x64, .f32⟩
  | .hbm, ⟨40, _⟩ => ⟨S2x512x256, .f32⟩
  | .hbm, ⟨41, _⟩ => ⟨S2x512x4x64, .f32⟩
  | .hbm, ⟨42, _⟩ => ⟨S2x512x4x32x2, .f32⟩
  | .hbm, ⟨43, _⟩ => ⟨S2x512x4x32x1, .f32⟩
  | .hbm, ⟨44, _⟩ => ⟨S2x512x4x32, .f32⟩
  | .hbm, ⟨45, _⟩ => ⟨S2x512x4x32, .f32⟩
  | .hbm, ⟨46, _⟩ => ⟨S2x512x4x32x1, .f32⟩
  | .hbm, ⟨47, _⟩ => ⟨S2x512x4x32, .f32⟩
  | .hbm, ⟨48, _⟩ => ⟨S2x512x4x32x1, .f32⟩
  | .hbm, ⟨49, _⟩ => ⟨S2x512x4x32x1, .f32⟩
  | .hbm, ⟨50, _⟩ => ⟨S2x512x4x32x2, .f32⟩
  | .hbm, ⟨51, _⟩ => ⟨S2x512x4x64, .f32⟩
  | .hbm, ⟨52, _⟩ => ⟨S1x512x1x64, .f32⟩
  | .hbm, ⟨53, _⟩ => ⟨S2x512x4x64, .f32⟩
  | .hbm, ⟨54, _⟩ => ⟨S2x512x4x64, .f32⟩
  | .hbm, ⟨55, _⟩ => ⟨S1x512x1x64, .f32⟩
  | .hbm, ⟨56, _⟩ => ⟨S2x512x4x64, .f32⟩
  | .hbm, ⟨57, _⟩ => ⟨S2x512x4x64, .f32⟩
  | .hbm, ⟨58, _⟩ => ⟨S2x512x4x64, .f32⟩
  | .hbm, ⟨59, _⟩ => ⟨S2x512x256, .f32⟩
  | .hbm, ⟨60, _⟩ => ⟨S2x512x4x64, .f32⟩
  | .hbm, ⟨61, _⟩ => ⟨S2x512x4x32x2, .f32⟩
  | .hbm, ⟨62, _⟩ => ⟨S2x512x4x32x1, .f32⟩
  | .hbm, ⟨63, _⟩ => ⟨S2x512x4x32, .f32⟩
  | .hbm, ⟨64, _⟩ => ⟨S2x512x4x32, .f32⟩
  | .hbm, ⟨65, _⟩ => ⟨S2x512x4x32x1, .f32⟩
  | .hbm, ⟨66, _⟩ => ⟨S2x512x4x32, .f32⟩
  | .hbm, ⟨67, _⟩ => ⟨S2x512x4x32x1, .f32⟩
  | .hbm, ⟨68, _⟩ => ⟨S2x512x4x32x1, .f32⟩
  | .hbm, ⟨69, _⟩ => ⟨S2x512x4x32x2, .f32⟩
  | .hbm, ⟨70, _⟩ => ⟨S2x512x4x64, .f32⟩
  | .hbm, ⟨71, _⟩ => ⟨S1x512x1x64, .f32⟩
  | .hbm, ⟨72, _⟩ => ⟨S2x512x4x64, .f32⟩
  | .hbm, ⟨73, _⟩ => ⟨S2x512x4x64, .f32⟩
  | .hbm, ⟨74, _⟩ => ⟨S1x512x1x64, .f32⟩
  | .hbm, ⟨75, _⟩ => ⟨S2x512x4x64, .f32⟩
  | .hbm, ⟨76, _⟩ => ⟨S2x512x4x64, .f32⟩
  | .hbm, ⟨77, _⟩ => ⟨S2x512x4x64, .f32⟩
  | .hbm, ⟨78, _⟩ => ⟨S2x512x256, .f32⟩
  | .hbm, ⟨79, _⟩ => ⟨S2x512x4x64, .f32⟩
  | .hbm, ⟨80, _⟩ => ⟨S2x4x512x512, .f32⟩
  | .hbm, ⟨81, _⟩ => ⟨S_, .f32⟩
  | .hbm, ⟨82, _⟩ => ⟨S2x4x512x512, .f32⟩
  | .hbm, ⟨83, _⟩ => ⟨S2x4x512x512, .f32⟩
  | .hbm, ⟨84, _⟩ => ⟨S_, .f32⟩
  | .hbm, ⟨85, _⟩ => ⟨S2x4x512, .f32⟩
  | .hbm, ⟨86, _⟩ => ⟨S2x4x512x1, .f32⟩
  | .hbm, ⟨87, _⟩ => ⟨S2x4x512x512, .f32⟩
  | .hbm, ⟨88, _⟩ => ⟨S2x4x512x512, .f32⟩
  | .hbm, ⟨89, _⟩ => ⟨S2x4x512x512, .f32⟩
  | .hbm, ⟨90, _⟩ => ⟨S_, .f32⟩
  | .hbm, ⟨91, _⟩ => ⟨S2x4x512, .f32⟩
  | .hbm, ⟨92, _⟩ => ⟨S2x4x512x1, .f32⟩
  | .hbm, ⟨93, _⟩ => ⟨S2x4x512x512, .f32⟩
  | .hbm, ⟨94, _⟩ => ⟨S2x4x512x512, .f32⟩
  | .hbm, ⟨95, _⟩ => ⟨S2x4x64x512, .f32⟩
  | .hbm, ⟨96, _⟩ => ⟨S2x512x4x64, .f32⟩
  | .hbm, ⟨97, _⟩ => ⟨S2x512x256, .f32⟩
  | .hbm, ⟨98, _⟩ => ⟨S2x512x512, .f32⟩
  | .hbm, ⟨99, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩

abbrev nD : Nat := 1
abbrev τ : Topo := Topo.v7x

variable {F : FTy → Type} [FloatOps F]
-- ==== Proof.Ops.lean ====
/-
# The kernel's contents, written once per role

What device `c` holds and computes, as functions of the launch memory: its staged blocks, the two rotated key blocks
and the two value blocks it sends, the four-slot buffers as they stand when everything has landed (slot `s` holds the
block of device `c + s`), and its result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.Sem

variable {F : FTy → Type} [FloatOps F] [Named F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

/-- The device `o` steps on from `c`. -/
def on (c : Dev nD) (o : ℕ) : Dev nD := ⟨(c.val + o) % 4, Nat.mod_lt _ (by decide)⟩

theorem on_on (c : Dev nD) (a b : ℕ) : on (on c a) b = on c (a + b) := by
  apply Fin.ext; simp only [on]; omega
theorem on_four (c : Dev nD) : on c 4 = c := by
  apply Fin.ext; have h : c.val < 4 := c.isLt; simp only [on]; omega
theorem on_zero (c : Dev nD) : on c 0 = c := by
  apply Fin.ext; have h : c.val < 4 := c.isLt; simp only [on]; omega

/-! ## The staged blocks -/

/-- The staged contents of the five inputs on device `c`. -/
def xS (c : Dev nD) : (cc0_stg0_0 : Ref sig .tc).ty.Contents (Elt F) :=
  (win0_0.blk (0 : Fin 1)).view.read (Elt F) ((s₀ m ρ).mem ((c : Thread nD τ).loc main_arg0))
def wqS (c : Dev nD) : (cc0_stg1_0 : Ref sig .tc).ty.Contents (Elt F) :=
  (win0_1.blk (0 : Fin 1)).view.read (Elt F) ((s₀ m ρ).mem ((c : Thread nD τ).loc main_arg1))
def wkS (c : Dev nD) : (cc0_stg2_0 : Ref sig .tc).ty.Contents (Elt F) :=
  (win0_2.blk (0 : Fin 1)).view.read (Elt F) ((s₀ m ρ).mem ((c : Thread nD τ).loc main_arg2))
def wvS (c : Dev nD) : (cc0_stg3_0 : Ref sig .tc).ty.Contents (Elt F) :=
  (win0_3.blk (0 : Fin 1)).view.read (Elt F) ((s₀ m ρ).mem ((c : Thread nD τ).loc main_arg3))
def woS (c : Dev nD) : (cc0_stg4_0 : Ref sig .tc).ty.Contents (Elt F) :=
  (win0_4.blk (0 : Fin 1)).view.read (Elt F) ((s₀ m ρ).mem ((c : Thread nD τ).loc main_arg4))

/-! ## What the kernel computes before any communication -/

/-- The word of the device's ring position. -/
abbrev pos (c : Dev nD) : BitVec 32 := Scalar.remsi (Dev.word c) 4#32
/-- The cosine and the sine table of device `c`'s rows, and the signed pair-swap matrix. -/
def cosT (c : Dev nD) : FVec F S128x256 .f32 := k0_pay6 (pos c) k0_pay1 k0_pay2 k0_pay3 k0_pay4
def sinT (c : Dev nD) : FVec F S128x256 .f32 := k0_pay7 (pos c) k0_pay1 k0_pay2 k0_pay3 k0_pay4
def swapM : FVec F S256x256 .bf16 :=
  k0_pay9 (iota .tc S256x256 32 [0] iota_S256x256_d0_w32) (iota .tc S256x256 32 [1] iota_S256x256_d1_w32) k0_pay8
    (Scalar.select (Scalar.cmpi .eq 2#32 0#32) 1#32 2#32)

/-- Batch row `b` of the staged `x`, as loaded. -/
abbrev xLd0 (c : Dev nD) : Vec F S1x128x512 .bf16 :=
  (Memref.whole cc0_stg0_0 : Memref sig .tc .vmem S2x128x512 .bf16).view.readAt (Elt F) (Rect.unit (s := S2x128x512) ![0, 0, 0] S1x128x512.size inb_S2x128x512_S1x128x512_0_0_0).toLoadRect (xS m ρ c)
abbrev xLd1 (c : Dev nD) : Vec F S1x128x512 .bf16 :=
  (Memref.whole cc0_stg0_0 : Memref sig .tc .vmem S2x128x512 .bf16).view.readAt (Elt F) (Rect.unit (s := S2x128x512) ![1, 0, 0] S1x128x512.size inb_S2x128x512_S1x128x512_1_0_0).toLoadRect (xS m ρ c)
abbrev wqLd (c : Dev nD) : Vec F S512x256 .bf16 :=
  (Memref.whole cc0_stg1_0 : Memref sig .tc .vmem S512x256 .bf16).view.readAt (Elt F) (Rect.unit (s := S512x256) ![0, 0] S512x256.size inb_S512x256_S512x256_0_0).toLoadRect (wqS m ρ c)
abbrev wkLd (c : Dev nD) : Vec F S512x256 .bf16 :=
  (Memref.whole cc0_stg2_0 : Memref sig .tc .vmem S512x256 .bf16).view.readAt (Elt F) (Rect.unit (s := S512x256) ![0, 0] S512x256.size inb_S512x256_S512x256_0_0).toLoadRect (wkS m ρ c)
abbrev wvLd (c : Dev nD) : Vec F S512x256 .bf16 :=
  (Memref.whole cc0_stg3_0 : Memref sig .tc .vmem S512x256 .bf16).view.readAt (Elt F) (Rect.unit (s := S512x256) ![0, 0] S512x256.size inb_S512x256_S512x256_0_0).toLoadRect (wvS m ρ c)
abbrev woLd (c : Dev nD) : Vec F S256x512 .bf16 :=
  (Memref.whole cc0_stg4_0 : Memref sig .tc .vmem S256x512 .bf16).view.readAt (Elt F) (Rect.unit (s := S256x512) ![0, 0] S256x512.size inb_S256x512_S256x512_0_0).toLoadRect (woS m ρ c)

/-- Device `c`'s rotated keys, values and rotated, scaled queries, per batch row, as stored. -/
def kBlk (c : Dev nD) (b : ℕ) : FVec F S1x1x128x256 .bf16 :=
  if b = 0 then k0_pay13 (cosT c) (sinT c) swapM (wkLd m ρ c) (xLd0 m ρ c)
  else k0_pay14 (cosT c) (sinT c) swapM (k0_pay10 (wkLd m ρ c)) (k0_pay12 (xLd1 m ρ c))
def vBlk (c : Dev nD) (b : ℕ) : FVec F S1x1x128x256 .bf16 :=
  if b = 0 then k0_pay17 (k0_pay16 (k0_pay11 (xLd0 m ρ c)) (wvLd m ρ c))
  else k0_pay18 (k0_pay12 (xLd1 m ρ c)) (k0_pay15 (wvLd m ρ c))
def qBlk (c : Dev nD) (b : ℕ) : FVec F S1x128x256 .bf16 :=
  if b = 0 then k0_pay20 (cosT c) (sinT c) swapM (k0_pay11 (xLd0 m ρ c)) (wqLd m ρ c)
  else k0_pay21 (cosT c) (sinT c) swapM (k0_pay12 (xLd1 m ρ c)) (k0_pay19 (wqLd m ρ c))

/-! ## The buffers as they stand when everything has landed -/

/-- An index into one slot, from the row and the column. -/
def ix4 (i : S4x2x128x256.Idx) : S1x1x128x256.Idx := fun a => match a with
  | ⟨0, _⟩ => (0 : Fin 1)
  | ⟨1, _⟩ => (0 : Fin 1)
  | ⟨2, _⟩ => i ⟨2, by decide⟩
  | ⟨3, _⟩ => i ⟨3, by decide⟩
def ix3 (i : S2x128x256.Idx) : S1x128x256.Idx := fun a => match a with
  | ⟨0, _⟩ => (0 : Fin 1)
  | ⟨1, _⟩ => i ⟨1, by decide⟩
  | ⟨2, _⟩ => i ⟨2, by decide⟩
def ix3' (i : S2x128x512.Idx) : S1x128x512.Idx := fun a => match a with
  | ⟨0, _⟩ => (0 : Fin 1)
  | ⟨1, _⟩ => i ⟨1, by decide⟩
  | ⟨2, _⟩ => i ⟨2, by decide⟩

def kAll (c : Dev nD) : (cc0_scratch0 : Ref sig .tc).ty.Contents (Elt F) :=
  fun i : S4x2x128x256.Idx => kBlk m ρ (on c (i ⟨0, by decide⟩)) (i ⟨1, by decide⟩) (ix4 i)
def vAll (c : Dev nD) : (cc0_scratch1 : Ref sig .tc).ty.Contents (Elt F) :=
  fun i : S4x2x128x256.Idx => vBlk m ρ (on c (i ⟨0, by decide⟩)) (i ⟨1, by decide⟩) (ix4 i)
def qAll (c : Dev nD) : (cc0_scratch2 : Ref sig .tc).ty.Contents (Elt F) :=
  fun i : S2x128x256.Idx => qBlk m ρ c (i ⟨0, by decide⟩) (ix3 i)

/-! ## Attention, head by head -/

/-- What the head at columns `off …` of batch row `b` loads: the queries, and slot `s`'s keys and values. -/
abbrev qLd (c : Dev nD) (b off : ℕ) (h : ∀ a, (![b, 0, off] : Fin 3 → Nat) a + S1x128x64.size a ≤ S2x128x256.size a) : Vec F S1x128x64 .bf16 :=
  (Memref.whole cc0_scratch2 : Memref sig .tc .vmem S2x128x256 .bf16).view.readAt (Elt F) (Rect.unit (s := S2x128x256) ![b, 0, off] S1x128x64.size h).toLoadRect (qAll m ρ c)
abbrev kLd (c : Dev nD) (s b off : ℕ) (h : ∀ a, (![s, b, 0, off] : Fin 4 → Nat) a + S1x1x128x64.size a ≤ S4x2x128x256.size a) : Vec F S1x1x128x64 .bf16 :=
  (Memref.whole cc0_scratch0 : Memref sig .tc .vmem S4x2x128x256 .bf16).view.readAt (Elt F) (Rect.unit (s := S4x2x128x256) ![s, b, 0, off] S1x1x128x64.size h).toLoadRect (kAll m ρ c)
abbrev vLd (c : Dev nD) (s b off : ℕ) (h : ∀ a, (![s, b, 0, off] : Fin 4 → Nat) a + S1x1x128x64.size a ≤ S4x2x128x256.size a) : Vec F S1x1x128x64 .bf16 :=
  (Memref.whole cc0_scratch1 : Memref sig .tc .vmem S4x2x128x256 .bf16).view.readAt (Elt F) (Rect.unit (s := S4x2x128x256) ![s, b, 0, off] S1x1x128x64.size h).toLoadRect (vAll m ρ c)

/-- The exponentials of the scores of one block, their row sums, and their product with the block's values. -/
def eOp (q : Vec F S1x128x64 .bf16) (k : Vec F S1x1x128x64 .bf16) : FVec F S128x128 .f32 :=
  exp (matmul dot_S128x64_S128x64_S128x128_1_1_0_0_n_n none (shapeCast S128x64 q shapeCasts_S1x128x64_S128x64 : FVec F S128x64 .bf16)
    (shapeCast S128x64 k shapeCasts_S1x1x128x64_S128x64 : FVec F S128x64 .bf16) (constant S128x128 .f32 0x00000000#32 : FVec F S128x128 .f32))
def lOp (e : FVec F S128x128 .f32) : FVec F S128x1 .f32 :=
  shapeCast S128x1 (multiReduction .add [1] S128 e 0x00000000#32 reduces_S128x128_S128 (.inl rfl) rfl : FVec F S128 .f32) shapeCasts_S128_S128x1
def cOp (e : FVec F S128x128 .f32) (v : Vec F S1x1x128x64 .bf16) : FVec F S128x64 .f32 :=
  matmul dot_S128x128_S128x64_S128x64_1_0_0_1_n_n none (truncf .bf16 e bitsLt_bf16_f32 : FVec F S128x128 .bf16)
    (shapeCast S128x64 v shapeCasts_S1x1x128x64_S128x64 : FVec F S128x64 .bf16) (constant S128x64 .f32 0x00000000#32 : FVec F S128x64 .f32)

/-- The head's denominators and its unnormalised result, the four blocks in the order the kernel takes them. -/
def lSum (e₀ e₁ e₃ e₂ : FVec F S128x128 .f32) : FVec F S128x1 .f32 := addf (addf (addf (lOp e₀) (lOp e₁)) (lOp e₃)) (lOp e₂)
def cSum (e₀ e₁ e₃ e₂ : FVec F S128x128 .f32) (v₀ v₁ v₃ v₂ : Vec F S1x1x128x64 .bf16) : FVec F S128x64 .f32 :=
  addf (addf (addf (cOp e₀ v₀) (cOp e₁ v₁)) (cOp e₃ v₃)) (cOp e₂ v₂)

/-- One batch row's result from the four heads' denominators and unnormalised results. -/
def oOp (l₀ l₁ l₂ l₃ : FVec F S128x1 .f32) (a₀ a₁ a₂ a₃ : FVec F S128x64 .f32) (wo : Vec F S256x512 .bf16) : FVec F S1x128x512 .bf16 :=
  k0_pay159 l₀ l₁ l₂ l₃ a₀ a₁ a₂ a₃ wo

theorem inbQ : ∀ (b : Fin 2) (h : Fin 4), ∀ a, (![b.val, 0, 64 * h.val] : Fin 3 → Nat) a + S1x128x64.size a ≤ S2x128x256.size a := by decide
theorem inbS : ∀ (s : Fin 4) (b : Fin 2) (h : Fin 4), ∀ a, (![s.val, b.val, 0, 64 * h.val] : Fin 4 → Nat) a + S1x1x128x64.size a ≤ S4x2x128x256.size a := by decide

/-- Head `h` of batch row `b` against slot `s`. -/
def eH (c : Dev nD) (s : Fin 4) (b : Fin 2) (h : Fin 4) : FVec F S128x128 .f32 := eOp (qLd m ρ c b.val (64 * h.val) (inbQ b h)) (kLd m ρ c s.val b.val (64 * h.val) (inbS s b h))
def vH (c : Dev nD) (s : Fin 4) (b : Fin 2) (h : Fin 4) : Vec F S1x1x128x64 .bf16 := vLd m ρ c s.val b.val (64 * h.val) (inbS s b h)
def lH (c : Dev nD) (b : Fin 2) (h : Fin 4) : FVec F S128x1 .f32 := lSum (eH m ρ c 0 b h) (eH m ρ c 1 b h) (eH m ρ c 3 b h) (eH m ρ c 2 b h)
def aH (c : Dev nD) (b : Fin 2) (h : Fin 4) : FVec F S128x64 .f32 :=
  cSum (eH m ρ c 0 b h) (eH m ρ c 1 b h) (eH m ρ c 3 b h) (eH m ρ c 2 b h) (vH m ρ c 0 b h) (vH m ρ c 1 b h) (vH m ρ c 3 b h) (vH m ρ c 2 b h)

/-- Batch row `b` of device `c`'s result, and the staged result. -/
def oBlk (c : Dev nD) (b : Fin 2) : FVec F S1x128x512 .bf16 :=
  oOp (lH m ρ c b 0) (lH m ρ c b 1) (lH m ρ c b 2) (lH m ρ c b 3) (aH m ρ c b 0) (aH m ρ c b 1) (aH m ρ c b 2) (aH m ρ c b 3) (woLd m ρ c)
def outAll (c : Dev nD) : (cc0_stg5_0 : Ref sig .tc).ty.Contents (Elt F) :=
  fun i : S2x128x512.Idx => oBlk m ρ c (if (i ⟨0, by decide⟩ : ℕ) = 0 then 0 else 1) (ix3' i)

end Cert.KernelIdeal.Ring

end
-- ==== Proof.Cells.lean ====
/-
# The slots of the two exchange buffers

Slot `(s, b)` of the key buffer and slot `s` of the value buffer as memrefs, the elements they cover, their points-to
facts, and the three facts about contents: a store to the device's own slot, a landing on another device's slot, and the
buffer as the sum of its slots.
-/
module

public import proofs.«01_k».proof.Proof.Ops

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs -/

abbrev kW : Memref sig .tc .vmem S4x2x128x256 .bf16 := Memref.whole cc0_scratch0
abbrev vW : Memref sig .tc .vmem S4x2x128x256 .bf16 := Memref.whole cc0_scratch1
abbrev qW : Memref sig .tc .vmem S2x128x256 .bf16 := Memref.whole cc0_scratch2

abbrev InK (s b : ℕ) : Prop := ∀ a, (![s, b, 0, 0] : Fin 4 → Nat) a + S1x1x128x256.size a ≤ S4x2x128x256.size a
abbrev InV (s : ℕ) : Prop := ∀ a, (![s, 0, 0, 0] : Fin 4 → Nat) a + S1x2x128x256.size a ≤ S4x2x128x256.size a

abbrev kM (s b : ℕ) (h : InK s b) : Memref sig .tc .vmem S128x256 .bf16 :=
  ((kW).slice (Rect.unit (s := S4x2x128x256) ![s, b, 0, 0] S1x1x128x256.size h) (fun _ => rfl)).squeeze S128x256 squeezes_S1x1x128x256_S128x256
abbrev vM (s : ℕ) (h : InV s) : Memref sig .tc .vmem S2x128x256 .bf16 :=
  ((vW).slice (Rect.unit (s := S4x2x128x256) ![s, 0, 0, 0] S1x2x128x256.size h) (fun _ => rfl)).squeeze S2x128x256 squeezes_S1x2x128x256_S2x128x256

/-- The elements of slot `(s, b)`, and of slot `s`. -/
def kSet (s b : ℕ) : Finset S4x2x128x256.Idx := Finset.univ.filter fun i => (i ⟨0, by decide⟩ : ℕ) = s ∧ (i ⟨1, by decide⟩ : ℕ) = b
def vSet (s : ℕ) : Finset S4x2x128x256.Idx := Finset.univ.filter fun i => (i ⟨0, by decide⟩ : ℕ) = s

theorem mem_kSet {s b : ℕ} {i : S4x2x128x256.Idx} : i ∈ kSet s b ↔ (i ⟨0, by decide⟩ : ℕ) = s ∧ (i ⟨1, by decide⟩ : ℕ) = b := by
  unfold kSet; rw [Finset.mem_filter]; exact and_iff_right (Finset.mem_univ _)
theorem mem_vSet {s : ℕ} {i : S4x2x128x256.Idx} : i ∈ vSet s ↔ (i ⟨0, by decide⟩ : ℕ) = s := by
  unfold vSet; rw [Finset.mem_filter]; exact and_iff_right (Finset.mem_univ _)

theorem kRect_set (s b : ℕ) (h : InK s b) : (Rect.unit (s := S4x2x128x256) ![s, b, 0, 0] S1x1x128x256.size h).set = kSet s b := by
  ext i
  rw [Rect.mem_set_unit, mem_kSet]
  constructor
  · intro hi
    have h0 := hi ⟨0, by decide⟩
    have h1 := hi ⟨1, by decide⟩
    change s ≤ _ ∧ _ < s + 1 at h0
    change b ≤ _ ∧ _ < b + 1 at h1
    omega
  · rintro ⟨h0, h1⟩ a
    match a with
    | ⟨0, _⟩ => exact ⟨h0.ge, show _ < s + 1 by omega⟩
    | ⟨1, _⟩ => exact ⟨h1.ge, show _ < b + 1 by omega⟩
    | ⟨2, _⟩ => exact ⟨Nat.zero_le _, by have := (i ⟨2, by decide⟩).isLt; change _ < 128 at this; show _ < 0 + 128; omega⟩
    | ⟨3, _⟩ => exact ⟨Nat.zero_le _, by have := (i ⟨3, by decide⟩).isLt; change _ < 256 at this; show _ < 0 + 256; omega⟩

theorem vRect_set (s : ℕ) (h : InV s) : (Rect.unit (s := S4x2x128x256) ![s, 0, 0, 0] S1x2x128x256.size h).set = vSet s := by
  ext i
  rw [Rect.mem_set_unit, mem_vSet]
  constructor
  · intro hi
    have h0 := hi ⟨0, by decide⟩
    change s ≤ _ ∧ _ < s + 1 at h0
    omega
  · rintro h0 a
    match a with
    | ⟨0, _⟩ => exact ⟨h0.ge, show _ < s + 1 by omega⟩
    | ⟨1, _⟩ => exact ⟨Nat.zero_le _, by have := (i ⟨1, by decide⟩).isLt; change _ < 2 at this; show _ < 0 + 2; omega⟩
    | ⟨2, _⟩ => exact ⟨Nat.zero_le _, by have := (i ⟨2, by decide⟩).isLt; change _ < 128 at this; show _ < 0 + 128; omega⟩
    | ⟨3, _⟩ => exact ⟨Nat.zero_le _, by have := (i ⟨3, by decide⟩).isLt; change _ < 256 at this; show _ < 0 + 256; omega⟩

theorem kM_set (s b : ℕ) (h : InK s b) : (kM s b h).view.set = kSet s b :=
  (View.set_reshape _ _).trans ((View.set_slice_whole cc0_scratch0 _).trans (kRect_set s b h))
theorem vM_set (s : ℕ) (h : InV s) : (vM s h).view.set = vSet s :=
  (View.set_reshape _ _).trans ((View.set_slice_whole cc0_scratch1 _).trans (vRect_set s h))

/-! ## Points-to -/

omit [FloatOps F] [Named F] in
def kP (c : Dev nD) (s b : ℕ) (q : PosShare TreeShare) (f : (cc0_scratch0 : Ref sig .tc).ty.Contents (Elt F)) : sProp 𝕄 :=
  ((c : Thread nD τ).loc cc0_scratch0) ↦[kSet s b]{q} f
omit [FloatOps F] [Named F] in
def vP (c : Dev nD) (s : ℕ) (q : PosShare TreeShare) (f : (cc0_scratch1 : Ref sig .tc).ty.Contents (Elt F)) : sProp 𝕄 :=
  ((c : Thread nD τ).loc cc0_scratch1) ↦[vSet s]{q} f

instance kP_storable (c : Dev nD) (s b q f) : BI.Storable (upEmb : UEmb _ 𝕄) (kP (F := F) c s b q f) := by unfold kP; infer_instance
instance vP_storable (c : Dev nD) (s q f) : BI.Storable (upEmb : UEmb _ 𝕄) (vP (F := F) c s q f) := by unfold vP; infer_instance

/-! ## Contents -/

/-- A slot's element, from its row and column. -/
theorem kRect_idx (s b : ℕ) (h : InK s b) (i : S4x2x128x256.Idx) (hi : i ∈ kSet s b) :
    (Rect.unit (s := S4x2x128x256) ![s, b, 0, 0] S1x1x128x256.size h).emb (ix4 i) = i := by
  obtain ⟨h0, h1⟩ := mem_kSet.mp hi
  funext a
  apply Fin.ext
  match a with
  | ⟨0, _⟩ => show s + 1 * 0 = _; omega
  | ⟨1, _⟩ => show b + 1 * 0 = _; omega
  | ⟨2, _⟩ => show 0 + 1 * _ = _; rw [Nat.zero_add, Nat.one_mul]; rfl
  | ⟨3, _⟩ => show 0 + 1 * _ = _; rw [Nat.zero_add, Nat.one_mul]; rfl

theorem ix4_emb (s b : ℕ) (h : InK s b) (y : S1x1x128x256.Idx) :
    ix4 ((Rect.unit (s := S4x2x128x256) ![s, b, 0, 0] S1x1x128x256.size h).emb y) = y := by
  funext a
  match a with
  | ⟨0, _⟩ => exact Subsingleton.elim (α := Fin 1) _ _
  | ⟨1, _⟩ => exact Subsingleton.elim (α := Fin 1) _ _
  | ⟨2, _⟩ => apply Fin.ext; show 0 + 1 * (y ⟨2, by decide⟩ : ℕ) = _; rw [Nat.zero_add, Nat.one_mul]
  | ⟨3, _⟩ => apply Fin.ext; show 0 + 1 * (y ⟨3, by decide⟩ : ℕ) = _; rw [Nat.zero_add, Nat.one_mul]

/-- A store of the device's own key block onto its slot 0. -/
theorem kStore (c : Dev nD) (b : ℕ) (h : InK 0 b) (f : (cc0_scratch0 : Ref sig .tc).ty.Contents (Elt F))
    (w : (Rect.unit (s := S4x2x128x256) ![0, b, 0, 0] S1x1x128x256.size h).shape.Idx → Elt F .bf16) (hw : w = kBlk m ρ c b) :
    ∀ i ∈ kSet 0 b, ((kW).access (Rect.unit (s := S4x2x128x256) ![0, b, 0, 0] S1x1x128x256.size h)).write (Elt F) f w Finset.univ i = kAll m ρ c i := by
  intro i hi
  subst hw
  obtain ⟨h0, h1⟩ := mem_kSet.mp hi
  have e := kRect_idx 0 b h i hi
  have e' : i = ((kW).access (Rect.unit (s := S4x2x128x256) ![0, b, 0, 0] S1x1x128x256.size h)).emb (ix4 i) := e.symm
  have hb : kAll m ρ c i = kBlk m ρ (on c 0) b (ix4 i) := by
    unfold kAll; rw [h0, h1]
  rw [hb, on_zero]
  generalize hy : ix4 i = y at e'
  rw [e', View.write_emb_of_mem _ _ (Finset.mem_univ y)]
  rfl

/-- A landing of the sender's block on slot `s` of the device `s` places before it. -/
theorem kLand (c n : Dev nD) (s b : ℕ) (h : InK s b) (h' : InK 0 b) (hn : on n s = c) (fd : (cc0_scratch0 : Ref sig .tc).ty.Contents (Elt F)) :
    ∀ i ∈ kSet s b, (kM s b h).view.write (Elt F) fd ((kM 0 b h').view.read (Elt F) (kAll m ρ c)) Finset.univ i = kAll m ρ n i := by
  intro i hi
  obtain ⟨h0, h1⟩ := mem_kSet.mp hi
  have e := kRect_idx s b h i hi
  have hb : kAll m ρ n i = kBlk m ρ c b (ix4 i) := by
    unfold kAll; rw [h0, h1, hn]
  rw [hb]
  generalize hy : ix4 i = y at e
  obtain ⟨z, hz⟩ := (Shape.reshapeEquiv (squeezes_S1x1x128x256_S128x256).numel_eq).surjective y
  have ez : (kM s b h).view.emb z = i := by
    show (Rect.unit (s := S4x2x128x256) ![s, b, 0, 0] S1x1x128x256.size h).emb (Shape.reshapeEquiv _ z) = i
    rw [← e, ← hz]
  rw [← ez, View.write_emb_of_mem _ _ (Finset.mem_univ z)]
  show kAll m ρ c ((Rect.unit (s := S4x2x128x256) ![0, b, 0, 0] S1x1x128x256.size h').emb (Shape.reshapeEquiv _ z)) = _
  rw [hz]
  unfold kAll
  rw [ix4_emb 0 b h' y]
  have e0 : (((Rect.unit (s := S4x2x128x256) ![0, b, 0, 0] S1x1x128x256.size h').emb y) ⟨0, by decide⟩ : ℕ) = 0 :=
    by
      have hy0 : (y ⟨0, by decide⟩ : ℕ) < 1 := by have := (y ⟨0, by decide⟩).isLt; exact this
      show 0 + 1 * (y ⟨0, _⟩ : ℕ) = 0; omega
  have e1 : (((Rect.unit (s := S4x2x128x256) ![0, b, 0, 0] S1x1x128x256.size h').emb y) ⟨1, by decide⟩ : ℕ) = b :=
    by
      have hy0 : (y ⟨1, by decide⟩ : ℕ) < 1 := by have := (y ⟨1, by decide⟩).isLt; exact this
      show b + 1 * (y ⟨1, _⟩ : ℕ) = b; omega
  rw [e0, e1, on_zero]

/-! The value buffer: an index into a slot keeps its batch row. -/

def ix4v (i : S4x2x128x256.Idx) : S1x2x128x256.Idx := fun a => match a with
  | ⟨0, _⟩ => (0 : Fin 1)
  | ⟨1, _⟩ => i ⟨1, by decide⟩
  | ⟨2, _⟩ => i ⟨2, by decide⟩
  | ⟨3, _⟩ => i ⟨3, by decide⟩

theorem vRect_idx (s : ℕ) (h : InV s) (i : S4x2x128x256.Idx) (hi : i ∈ vSet s) :
    (Rect.unit (s := S4x2x128x256) ![s, 0, 0, 0] S1x2x128x256.size h).emb (ix4v i) = i := by
  have h0 := mem_vSet.mp hi
  funext a
  apply Fin.ext
  match a with
  | ⟨0, _⟩ => show s + 1 * 0 = _; omega
  | ⟨1, _⟩ => show 0 + 1 * _ = _; rw [Nat.zero_add, Nat.one_mul]; rfl
  | ⟨2, _⟩ => show 0 + 1 * _ = _; rw [Nat.zero_add, Nat.one_mul]; rfl
  | ⟨3, _⟩ => show 0 + 1 * _ = _; rw [Nat.zero_add, Nat.one_mul]; rfl

/-- The value buffer's element at an index differing in its slot only. -/
theorem vAll_eq (c n : Dev nD) (i j : S4x2x128x256.Idx) (hd : on n (i ⟨0, by decide⟩) = on c (j ⟨0, by decide⟩))
    (h1 : (i ⟨1, by decide⟩ : ℕ) = (j ⟨1, by decide⟩ : ℕ)) (h2 : (i ⟨2, by decide⟩ : ℕ) = (j ⟨2, by decide⟩ : ℕ))
    (h3 : (i ⟨3, by decide⟩ : ℕ) = (j ⟨3, by decide⟩ : ℕ)) : vAll m ρ n i = vAll m ρ c j := by
  have e : ix4 i = ix4 j := by
    funext a
    match a with
    | ⟨0, _⟩ => rfl
    | ⟨1, _⟩ => rfl
    | ⟨2, _⟩ => exact Fin.ext h2
    | ⟨3, _⟩ => exact Fin.ext h3
  unfold vAll
  rw [e, hd, h1]

theorem vLand (c n : Dev nD) (s : ℕ) (h : InV s) (h' : InV 0) (hn : on n s = c) (fd : (cc0_scratch1 : Ref sig .tc).ty.Contents (Elt F)) :
    ∀ i ∈ vSet s, (vM s h).view.write (Elt F) fd ((vM 0 h').view.read (Elt F) (vAll m ρ c)) Finset.univ i = vAll m ρ n i := by
  intro i hi
  have h0 := mem_vSet.mp hi
  have e := vRect_idx s h i hi
  have ej : vAll m ρ c ((Rect.unit (s := S4x2x128x256) ![0, 0, 0, 0] S1x2x128x256.size h').emb (ix4v i)) = vAll m ρ n i := by
    symm
    have e0 : (((Rect.unit (s := S4x2x128x256) ![0, 0, 0, 0] S1x2x128x256.size h').emb (ix4v i)) ⟨0, by decide⟩ : ℕ) = 0 :=
      by show 0 + 1 * 0 = 0; rfl
    refine vAll_eq m ρ c n i _ ?_ ?_ ?_ ?_
    · rw [h0, e0, hn, on_zero]
    · show _ = 0 + 1 * _; rw [Nat.zero_add, Nat.one_mul]; rfl
    · show _ = 0 + 1 * _; rw [Nat.zero_add, Nat.one_mul]; rfl
    · show _ = 0 + 1 * _; rw [Nat.zero_add, Nat.one_mul]; rfl
  rw [← ej]
  generalize hy : ix4v i = y at e
  obtain ⟨z, hz⟩ := (Shape.reshapeEquiv (squeezes_S1x2x128x256_S2x128x256).numel_eq).surjective y
  have ez : (vM s h).view.emb z = i := by
    show (Rect.unit (s := S4x2x128x256) ![s, 0, 0, 0] S1x2x128x256.size h).emb (Shape.reshapeEquiv _ z) = i
    rw [← e, ← hz]
  rw [← ez, View.write_emb_of_mem _ _ (Finset.mem_univ z)]
  show vAll m ρ c ((Rect.unit (s := S4x2x128x256) ![0, 0, 0, 0] S1x2x128x256.size h').emb (Shape.reshapeEquiv _ z)) = _
  rw [hz]

/-- The two stores of the device's own values onto its slot 0. -/
theorem vStore (c : Dev nD) (h0 : InK 0 0) (h1 : InK 0 1) (f : (cc0_scratch1 : Ref sig .tc).ty.Contents (Elt F))
    (w₀ : (Rect.unit (s := S4x2x128x256) ![0, 0, 0, 0] S1x1x128x256.size h0).shape.Idx → Elt F .bf16) (hw₀ : w₀ = vBlk m ρ c 0)
    (w₁ : (Rect.unit (s := S4x2x128x256) ![0, 1, 0, 0] S1x1x128x256.size h1).shape.Idx → Elt F .bf16) (hw₁ : w₁ = vBlk m ρ c 1) :
    ∀ i ∈ vSet 0, ((vW).access (Rect.unit (s := S4x2x128x256) ![0, 1, 0, 0] S1x1x128x256.size h1)).write (Elt F)
      (((vW).access (Rect.unit (s := S4x2x128x256) ![0, 0, 0, 0] S1x1x128x256.size h0)).write (Elt F) f w₀ Finset.univ) w₁ Finset.univ i = vAll m ρ c i := by
  intro i hi
  subst hw₀ hw₁
  have hs := mem_vSet.mp hi
  have hlt : (i ⟨1, by decide⟩ : ℕ) < 2 := by have := (i ⟨1, by decide⟩).isLt; exact this
  have hset : ((vW).access (Rect.unit (s := S4x2x128x256) ![0, 1, 0, 0] S1x1x128x256.size h1)).setOn Finset.univ = kSet 0 1 :=
    (View.set_slice_whole cc0_scratch1 _).trans (kRect_set 0 1 h1)
  rcases (by omega : (i ⟨1, by decide⟩ : ℕ) = 0 ∨ (i ⟨1, by decide⟩ : ℕ) = 1) with hb | hb
  · rw [View.write_of_not_mem _ _ _ (by rw [hset, mem_kSet]; omega)]
    have e := kRect_idx 0 0 h0 i (mem_kSet.mpr ⟨hs, hb⟩)
    have e' : i = ((vW).access (Rect.unit (s := S4x2x128x256) ![0, 0, 0, 0] S1x1x128x256.size h0)).emb (ix4 i) := e.symm
    have hv : vAll m ρ c i = vBlk m ρ (on c 0) 0 (ix4 i) := by
      unfold vAll; rw [hs, hb]
    rw [hv, on_zero]
    generalize hy : ix4 i = y at e'
    rw [e', View.write_emb_of_mem _ _ (Finset.mem_univ y)]
    rfl
  · have e := kRect_idx 0 1 h1 i (mem_kSet.mpr ⟨hs, hb⟩)
    have e' : i = ((vW).access (Rect.unit (s := S4x2x128x256) ![0, 1, 0, 0] S1x1x128x256.size h1)).emb (ix4 i) := e.symm
    have hv : vAll m ρ c i = vBlk m ρ (on c 0) 1 (ix4 i) := by
      unfold vAll; rw [hs, hb]
    rw [hv, on_zero]
    generalize hy : ix4 i = y at e'
    rw [e', View.write_emb_of_mem _ _ (Finset.mem_univ y)]
    rfl

/-! ## The two buffers of batch rows -/

theorem qRect_idx (b : ℕ) (h : ∀ a, (![b, 0, 0] : Fin 3 → Nat) a + S1x128x256.size a ≤ S2x128x256.size a) (i : S2x128x256.Idx) (hi : (i ⟨0, by decide⟩ : ℕ) = b) :
    (Rect.unit (s := S2x128x256) ![b, 0, 0] S1x128x256.size h).emb (ix3 i) = i := by
  funext a
  apply Fin.ext
  match a with
  | ⟨0, _⟩ => show b + 1 * 0 = _; omega
  | ⟨1, _⟩ => show 0 + 1 * _ = _; rw [Nat.zero_add, Nat.one_mul]; rfl
  | ⟨2, _⟩ => show 0 + 1 * _ = _; rw [Nat.zero_add, Nat.one_mul]; rfl

theorem qStore (c : Dev nD) (f : (cc0_scratch2 : Ref sig .tc).ty.Contents (Elt F))
    (w₀ : (Rect.unit (s := S2x128x256) ![0, 0, 0] S1x128x256.size inb_S2x128x256_S1x128x256_0_0_0).shape.Idx → Elt F .bf16) (hw₀ : w₀ = qBlk m ρ c 0)
    (w₁ : (Rect.unit (s := S2x128x256) ![1, 0, 0] S1x128x256.size inb_S2x128x256_S1x128x256_1_0_0).shape.Idx → Elt F .bf16) (hw₁ : w₁ = qBlk m ρ c 1) :
    ((qW).access (Rect.unit (s := S2x128x256) ![1, 0, 0] S1x128x256.size inb_S2x128x256_S1x128x256_1_0_0)).write (Elt F)
      (((qW).access (Rect.unit (s := S2x128x256) ![0, 0, 0] S1x128x256.size inb_S2x128x256_S1x128x256_0_0_0)).write (Elt F) f w₀ Finset.univ) w₁ Finset.univ = qAll m ρ c := by
  funext i
  subst hw₀ hw₁
  change S2x128x256.Idx at i
  have hlt : (i ⟨0, by decide⟩ : ℕ) < 2 := by have := (i ⟨0, by decide⟩).isLt; exact this
  rcases (by omega : (i ⟨0, by decide⟩ : ℕ) = 0 ∨ (i ⟨0, by decide⟩ : ℕ) = 1) with hb | hb
  · rw [View.write_of_not_mem _ _ _ (by
      rw [show ((qW).access (Rect.unit (s := S2x128x256) ![1, 0, 0] S1x128x256.size inb_S2x128x256_S1x128x256_1_0_0)).setOn Finset.univ = _ from View.set_slice_whole cc0_scratch2 _]
      intro hi
      have := (Rect.mem_set_unit.mp hi) ⟨0, by decide⟩
      change 1 ≤ _ ∧ _ at this
      omega)]
    have e' : i = ((qW).access (Rect.unit (s := S2x128x256) ![0, 0, 0] S1x128x256.size inb_S2x128x256_S1x128x256_0_0_0)).emb (ix3 i) := (qRect_idx 0 _ i hb).symm
    have hv : qAll m ρ c i = qBlk m ρ c 0 (ix3 i) := by unfold qAll; rw [hb]
    rw [hv]
    generalize hy : ix3 i = y at e'
    rw [e', View.write_emb_of_mem _ _ (Finset.mem_univ y)]
    rfl
  · have e' : i = ((qW).access (Rect.unit (s := S2x128x256) ![1, 0, 0] S1x128x256.size inb_S2x128x256_S1x128x256_1_0_0)).emb (ix3 i) := (qRect_idx 1 _ i hb).symm
    have hv : qAll m ρ c i = qBlk m ρ c 1 (ix3 i) := by unfold qAll; rw [hb]
    rw [hv]
    generalize hy : ix3 i = y at e'
    rw [e', View.write_emb_of_mem _ _ (Finset.mem_univ y)]
    rfl

abbrev oW : Memref sig .tc .vmem S2x128x512 .bf16 := Memref.whole cc0_stg5_0

theorem oRect_idx (b : ℕ) (h : ∀ a, (![b, 0, 0] : Fin 3 → Nat) a + S1x128x512.size a ≤ S2x128x512.size a) (i : S2x128x512.Idx) (hi : (i ⟨0, by decide⟩ : ℕ) = b) :
    (Rect.unit (s := S2x128x512) ![b, 0, 0] S1x128x512.size h).emb (ix3' i) = i := by
  funext a
  apply Fin.ext
  match a with
  | ⟨0, _⟩ => show b + 1 * 0 = _; omega
  | ⟨1, _⟩ => show 0 + 1 * _ = _; rw [Nat.zero_add, Nat.one_mul]; rfl
  | ⟨2, _⟩ => show 0 + 1 * _ = _; rw [Nat.zero_add, Nat.one_mul]; rfl

theorem oStore (c : Dev nD) (f : (cc0_stg5_0 : Ref sig .tc).ty.Contents (Elt F))
    (w₀ : (Rect.unit (s := S2x128x512) ![0, 0, 0] S1x128x512.size inb_S2x128x512_S1x128x512_0_0_0).shape.Idx → Elt F .bf16) (hw₀ : w₀ = oBlk m ρ c 0)
    (w₁ : (Rect.unit (s := S2x128x512) ![1, 0, 0] S1x128x512.size inb_S2x128x512_S1x128x512_1_0_0).shape.Idx → Elt F .bf16) (hw₁ : w₁ = oBlk m ρ c 1) :
    ((oW).access (Rect.unit (s := S2x128x512) ![1, 0, 0] S1x128x512.size inb_S2x128x512_S1x128x512_1_0_0)).write (Elt F)
      (((oW).access (Rect.unit (s := S2x128x512) ![0, 0, 0] S1x128x512.size inb_S2x128x512_S1x128x512_0_0_0)).write (Elt F) f w₀ Finset.univ) w₁ Finset.univ = outAll m ρ c := by
  funext i
  subst hw₀ hw₁
  change S2x128x512.Idx at i
  have hlt : (i ⟨0, by decide⟩ : ℕ) < 2 := by have := (i ⟨0, by decide⟩).isLt; exact this
  rcases (by omega : (i ⟨0, by decide⟩ : ℕ) = 0 ∨ (i ⟨0, by decide⟩ : ℕ) = 1) with hb | hb
  · rw [View.write_of_not_mem _ _ _ (by
      rw [show ((oW).access (Rect.unit (s := S2x128x512) ![1, 0, 0] S1x128x512.size inb_S2x128x512_S1x128x512_1_0_0)).setOn Finset.univ = _ from View.set_slice_whole cc0_stg5_0 _]
      intro hi
      have := (Rect.mem_set_unit.mp hi) ⟨0, by decide⟩
      change 1 ≤ _ ∧ _ at this
      omega)]
    have e' : i = ((oW).access (Rect.unit (s := S2x128x512) ![0, 0, 0] S1x128x512.size inb_S2x128x512_S1x128x512_0_0_0)).emb (ix3' i) := (oRect_idx 0 _ i hb).symm
    have hv : outAll m ρ c i = oBlk m ρ c 0 (ix3' i) := by unfold outAll; rw [if_pos hb]
    rw [hv]
    generalize hy : ix3' i = y at e'
    rw [e', View.write_emb_of_mem _ _ (Finset.mem_univ y)]
    rfl
  · have e' : i = ((oW).access (Rect.unit (s := S2x128x512) ![1, 0, 0] S1x128x512.size inb_S2x128x512_S1x128x512_1_0_0)).emb (ix3' i) := (oRect_idx 1 _ i hb).symm
    have hv : outAll m ρ c i = oBlk m ρ c 1 (ix3' i) := by unfold outAll; rw [if_neg (by omega)]
    rw [hv]
    generalize hy : ix3' i = y at e'
    rw [e', View.write_emb_of_mem _ _ (Finset.mem_univ y)]
    rfl

end Cert.KernelIdeal.Ring

end
-- ==== Proof.Sched.lean ====
/-
# The exchange's protocol

Every device has one barrier cell and, per send and receive semaphore, one cell; every cell has one round. A signal to
device `c` hands `c` the slot of the signaller that `c` writes; a landing hands the receiver its slot filled; a completed
send hands the sender the share of its own slot that it lent.
-/
module

public import proofs.«01_k».proof.Proof.Cells

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cells: 0 the barrier; 1–6 key sends, 7–14 key receives, 15–17 value sends, 18–21 value receives -/

abbrev barS : Sem sig := (SemArray.scalar (sig.barrier 0 rfl) : Sems sig S_).sem

def dsem (k : Fin 22) : DmaSem sig := (⟨5 + k.val, by have := k.isLt; omega⟩ : Fin 27)
def csem (k : Fin 22) : SemLoc sig := if k.val = 0 then .reg barS else .dma (dsem k)
abbrev kcell (c : Dev nD) (k : Fin 22) : GSem nD τ sig := ((c : Thread nD τ), csem k)

def kidx : SemLoc sig → Option (Fin 22)
  | .reg s => if s = barS then some 0 else none
  | .dma q => if h : 6 ≤ q.val then some ⟨q.val - 5, by have h27 : q.val < 27 := q.isLt; omega⟩ else none

theorem kidx_csem : ∀ k : Fin 22, kidx (csem k) = some k := by decide
theorem csem_inj {j k : Fin 22} (h : csem j = csem k) : j = k := by
  have := kidx_csem j; rw [h, kidx_csem] at this; exact (Option.some.inj this).symm
theorem kidx_stage (q : DmaSem sig) (hq : q.val < 6) : kidx (.dma q) = none := dif_neg (by omega)

/-- The credit of one key slot's copy, and of one value slot's. -/
def NK : ℕ := (kM 0 0 inb_S4x2x128x256_S1x1x128x256_0_0_0_0).view.dmaCredit
def NV : ℕ := (vM 0 inb_S4x2x128x256_S1x2x128x256_0_0_0_0).view.dmaCredit
theorem NK_pos : 0 < NK := View.dmaCredit_pos _ (by decide)
theorem NV_pos : 0 < NV := View.dmaCredit_pos _ (by decide)
theorem kM_amount (s b : ℕ) (h : InK s b) (q : DmaSem sig) : (kM s b h).view.amount (.dma q) = NK := rfl
theorem vM_amount (s : ℕ) (h : InV s) (q : DmaSem sig) : (vM s h).view.amount (.dma q) = NV := rfl

/-! ## Shares of the device's own slot: three lent to the sends, one kept -/

def sh : ℕ → PosShare TreeShare
  | 0 => fullShare.left.left
  | 1 => fullShare.left.right
  | 2 => fullShare.right.left
  | _ => fullShare.right.right
abbrev kept : PosShare TreeShare := sh 3

/-! ## The schedule -/

omit [FloatOps F] [Named F] in
/-- What the signal of `p = on c (3 - d)` hands `c`: slot `d + 1` of `p`, which `c`'s copies fill. -/
def barPay (c : Dev nD) (d : Fin 3) : sProp 𝕄 :=
  iprop((∃ f, kP (on c (3 - d.val)) (d.val + 1) 0 fullShare f) ∗ (∃ f, kP (on c (3 - d.val)) (d.val + 1) 1 fullShare f)
    ∗ (∃ f, vP (on c (3 - d.val)) (d.val + 1) fullShare f))

/-- The payload of cell `k` of device `c`. -/
def pay (c : Dev nD) (k : Fin 22) (d : Fin 3) : sProp 𝕄 :=
  if k.val = 0 then barPay c d
  else if k.val < 7 then kP c 0 ((k.val - 1) % 2) (sh ((k.val - 1) / 2)) (kAll m ρ c)
  else if k.val < 15 then kP c ((k.val - 7) / 2) ((k.val - 7) % 2) fullShare (kAll m ρ c)
  else if k.val < 18 then vP c 0 (sh (k.val - 15)) (vAll m ρ c)
  else vP c (k.val - 18) fullShare (vAll m ρ c)

def dut (k : Fin 22) : Finset (Fin 3) :=
  if k.val = 0 then Finset.univ else if k.val = 7 ∨ k.val = 8 ∨ k.val = 18 then ∅ else {0}

def amt (k : Fin 22) : ℕ := if k.val = 0 then 1 else if k.val < 15 then NK else NV

def ringRd : Rounds.Schedule (GSem nD τ sig) (Fin 3) 𝕄 where
  duties g r := if r = 0 ∧ g.1.2 = .tc then ((kidx g.2).map dut).getD ∅ else ∅
  unitless _ := False
  amount g _ _ := ((kidx g.2).map amt).getD 1
  payload g _ d := match kidx g.2 with
    | none => iprop(emp)
    | some k => pay m ρ g.1.1 k d
  amount_pos g _ _ _ := by
    cases kidx g.2 with
    | none => exact Nat.one_pos
    | some k =>
      show 0 < amt k
      unfold amt
      (repeat' split) <;> first | exact Nat.one_pos | exact NK_pos | exact NV_pos

instance pay_storable (c : Dev nD) (k : Fin 22) (d : Fin 3) : BI.Storable (upEmb : UEmb _ 𝕄) (pay (F := F) m ρ c k d) := by
  unfold pay barPay
  (repeat' split) <;> infer_instance

instance ringRd_payload_storable (g : GSem nD τ sig) (r : ℕ) (d : Fin 3) :
    BI.Storable (upEmb : UEmb _ 𝕄) ((ringRd (F := F) m ρ).payload g r d) := by
  show BI.Storable upEmb (match kidx g.2 with | none => iprop(emp) | some k => pay m ρ g.1.1 k d)
  split <;> infer_instance

theorem duties_cell (c : Dev nD) (k : Fin 22) : (ringRd (F := F) m ρ).duties (kcell c k) 0 = dut k := by
  dsimp only [ringRd]; rw [if_pos ⟨rfl, rfl⟩, kidx_csem]; rfl
theorem duties_later (g : GSem nD τ sig) : ∀ r, 1 ≤ r → (ringRd (F := F) m ρ).duties g r = ∅ :=
  fun r hr => by dsimp only [ringRd]; rw [if_neg fun h => by omega]
theorem amount_cell (c : Dev nD) (k : Fin 22) (d : Fin 3) : (ringRd (F := F) m ρ).amount (kcell c k) 0 d = amt k := by
  dsimp only [ringRd]; rw [kidx_csem]; rfl
theorem payload_cell (c : Dev nD) (k : Fin 22) (d : Fin 3) : (ringRd (F := F) m ρ).payload (kcell c k) 0 d = pay m ρ c k d := by
  dsimp only [ringRd]; rw [kidx_csem]
theorem expect_cell (c : Dev nD) (k : Fin 22) : (ringRd (F := F) m ρ).expect (kcell c k) 0 = (dut k).card * amt k := by
  unfold Schedule.expect Schedule.amountOf
  rw [duties_cell, Finset.sum_congr rfl fun d _ => amount_cell m ρ c k d, Finset.sum_const, smul_eq_mul]
theorem rest_cell (c : Dev nD) (k : Fin 22) : bigSep ((ringRd (F := F) m ρ).duties (kcell c k) 0 \ ∅) (fun d => (ringRd (F := F) m ρ).payload (kcell c k) 0 d)
    = bigSep (dut k) (fun d => pay m ρ c k d) := by
  rw [Finset.sdiff_empty, duties_cell]
  exact congrArg _ (funext fun d => payload_cell m ρ c k d)

/-! ## What a device owes, in program order -/

def tl : List (GSem nD τ sig × ℕ) → CellTallies nD τ sig Unit
  | [] => 0
  | x :: xs => tl xs + tallyAt x.1 () x.2

theorem tl_pos : ∀ {xs : List (GSem nD τ sig × ℕ)} {g : GSem nD τ sig} {u : Unit}, 0 < tl xs g u → ∃ n, (g, n) ∈ xs
  | [], _, _, h => absurd h (Nat.lt_irrefl 0)
  | x :: xs, g, u, h => by
    unfold tl at h
    rw [Pi.add_apply, Finsupp.add_apply, tallyAt_apply] at h
    by_cases hx : g = x.1 ∧ u = ()
    · exact ⟨x.2, by rw [hx.1]; exact List.mem_cons_self⟩
    · rw [if_neg hx, Nat.add_zero] at h
      obtain ⟨n, hn⟩ := tl_pos h
      exact ⟨n, List.mem_cons_of_mem _ hn⟩

/-- The nine transfers a device owes: to three places on, one and two; keys of batch row 0, of row 1, values. -/
def dueX (c : Dev nD) : List (GSem nD τ sig × ℕ) :=
  [(kcell (on c 3) 9, NK), (kcell (on c 1) 13, NK), (kcell (on c 2) 11, NK),
   (kcell (on c 3) 10, NK), (kcell (on c 1) 14, NK), (kcell (on c 2) 12, NK),
   (kcell (on c 3) 19, NV), (kcell (on c 1) 21, NV), (kcell (on c 2) 20, NV)]
def due (c : Dev nD) : List (GSem nD τ sig × ℕ) :=
  (kcell (on c 1) 0, 1) :: (kcell (on c 2) 0, 1) :: (kcell (on c 3) 0, 1) :: dueX c

def L (g : GSem nD τ sig) : Finset Unit := if g.1.2 = .tc then {()} else ∅
def lvk (k : Fin 22) : ℕ := if k.val = 0 then 1 else if k.val < 7 then 0 else if k.val < 15 then 2 else if k.val < 18 then 0 else 2
/-- Barrier cells at 1, receive cells at 2, everything else at 0. -/
def lv (g : GSem nD τ sig) (_ : Unit) : ℕ := ((kidx g.2).map lvk).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 22) : lv (kcell c k) () = lvk k := by unfold lv; rw [kidx_csem]; rfl

theorem mayWait_of (c : Dev nD) (sm : SemLoc sig) (xs : List (GSem nD τ sig × ℕ))
    (h : ∀ x ∈ xs, ∃ c' k, x.1 = kcell c' k ∧ lv ((c : Thread nD τ), sm) () < lvk k) :
    (levAts L lv : sProp 𝕄) ⊢ MayWait (c : Thread nD τ) sm () (tl xs) := by
  refine MayOwe.of_cut (L := L) (lev := lv) (lv ((c : Thread nD τ), sm) ()) (fun p hp => by rw [Finset.mem_singleton.mp hp, L_tc]; exact Finset.mem_singleton_self _)
    (fun g u hg => by
      obtain ⟨n, hn⟩ := tl_pos hg
      obtain ⟨c', k, e, -⟩ := h _ hn
      dsimp only at e
      rw [e, L_tc]; exact Finset.mem_singleton_self _)
    (fun p hp => by rw [Finset.mem_singleton.mp hp])
    (fun g u hg => by
      obtain ⟨n, hn⟩ := tl_pos hg
      obtain ⟨c', k, e, hlt⟩ := h _ hn
      dsimp only at e
      rw [e]
      exact (lv_cell c' k).symm ▸ hlt)

theorem mem_dueX {c : Dev nD} {x : GSem nD τ sig × ℕ} (h : x ∈ dueX c) : ∃ c' k, x.1 = kcell c' k ∧ 1 < lvk k := by
  unfold dueX at h
  simp only [List.mem_cons, List.not_mem_nil, or_false] at h
  rcases h with rfl | rfl | rfl | rfl | rfl | rfl | rfl | rfl | rfl <;> exact ⟨_, _, rfl, by decide⟩
theorem mem_due {c : Dev nD} {x : GSem nD τ sig × ℕ} (h : x ∈ due c) : ∃ c' k, x.1 = kcell c' k ∧ 0 < lvk k := by
  unfold due at h
  rcases List.mem_cons.mp h with rfl | h
  · exact ⟨_, _, rfl, by decide⟩
  rcases List.mem_cons.mp h with rfl | h
  · exact ⟨_, _, rfl, by decide⟩
  rcases List.mem_cons.mp h with rfl | h
  · exact ⟨_, _, rfl, by decide⟩
  obtain ⟨c', k, e, hk⟩ := mem_dueX h
  exact ⟨c', k, e, by omega⟩

theorem mayWait_stage (c : Dev nD) (q : DmaSem sig) (hq : q.val < 6) : (levAts L lv : sProp 𝕄) ⊢ MayWait (c : Thread nD τ) (.dma q) () (tl (due c)) :=
  mayWait_of c _ _ fun x hx => by
    obtain ⟨c', k, e, hk⟩ := mem_due hx
    exact ⟨c', k, e, by unfold lv; rw [kidx_stage q hq]; exact hk⟩
theorem mayWait_bar (c : Dev nD) : (levAts L lv : sProp 𝕄) ⊢ MayWait (c : Thread nD τ) (csem 0) () (tl (dueX c)) :=
  mayWait_of c _ _ fun x hx => by
    obtain ⟨c', k, e, hk⟩ := mem_dueX hx
    exact ⟨c', k, e, by rw [show ((c : Thread nD τ), csem 0) = kcell c 0 from rfl, lv_cell]; exact hk⟩

end Cert.KernelIdeal.Ring

end
-- ==== Proof.Rules.lean ====
/-
# The exchange's steps

One lemma per kind of step of the body: a signal, the barrier wait, a key or value copy, a wait on a send or receive cell,
and the loads and stores at the slots.
-/
module

public import proofs.«01_k».proof.Proof.Sched

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells' invariants and their first rounds -/

def rec1 (K : Dev nD × Fin 22 → ℕ) (x : Dev nD × Fin 22) : sProp 𝕄 :=
  iprop(cellInv ER (ringRd m ρ) (K x) (kcell x.1 x.2) ∗ reached ER (kcell x.1 x.2) 0)
instance rec1_persistent (K : Dev nD × Fin 22 → ℕ) (x) : BI.Persistent (rec1 (F := F) m ρ K x) := by unfold rec1; infer_instance
def records (K : Dev nD × Fin 22 → ℕ) : sProp 𝕄 := bigSep Finset.univ (rec1 (F := F) m ρ K)
instance records_persistent (K : Dev nD × Fin 22 → ℕ) : BI.Persistent (records (F := F) m ρ K) := by unfold records; infer_instance

theorem rec_at (K : Dev nD × Fin 22 → ℕ) (c : Dev nD) (k : Fin 22) : records (F := F) m ρ K ⊢ rec1 (F := F) m ρ K (c, k) := by
  unfold records; exact bigSep_elim (Finset.mem_univ (c, k))
theorem inv_at (K : Dev nD × Fin 22 → ℕ) (c : Dev nD) (k : Fin 22) : records (F := F) m ρ K ⊢ cellInv ER (ringRd m ρ) (K (c, k)) (kcell c k) :=
  (rec_at m ρ K c k).trans (by unfold rec1; iintro ⟨H, -⟩; iexact H)
theorem reached_at (K : Dev nD × Fin 22 → ℕ) (c : Dev nD) (k : Fin 22) : records (F := F) m ρ K ⊢ (reached ER (kcell c k) 0 : sProp 𝕄) :=
  (rec_at m ρ K c k).trans (by unfold rec1; iintro ⟨-, H⟩; iexact H)

omit [FloatOps F] [Named F] in
/-- What the device still owes. -/
def oX (c : Dev nD) (xs : List (GSem nD τ sig × ℕ)) : sProp 𝕄 := iprop(∃ W, owes (c : Thread nD τ) (tl xs) W)
omit [FloatOps F] [Named F] in
/-- What a wait for the whole of cell `k` spends, and the payload's token of one that is paid. -/
def atP (c : Dev nD) (k : Fin 22) : sProp 𝕄 := atPos ER (kcell c k) 0 ∅ 0
omit [FloatOps F] [Named F] in
def crd (c : Dev nD) (k : Fin 22) (n : ℕ) : sProp 𝕄 := cred (tallyAt (kcell c k) () n)
omit [FloatOps F] [Named F] in
def tok (c : Dev nD) (k : Fin 22) (d : Fin 3) : sProp 𝕄 := dutyTok ER (kcell c k) 0 d
omit [FloatOps F] [Named F] in
def zero (c : Dev nD) (k : Fin 22) : sProp 𝕄 := semVal (kcell c k) 0

section Steps

theorem on_back (c : Dev nD) (d : Fin 3) : on (on c (d.val + 1)) (3 - d.val) = c := by
  rw [on_on, show d.val + 1 + (3 - d.val) = 4 by have := d.isLt; omega, on_four]

/-- A signal, handing over the device's slot. -/
theorem wp_sig (K : Dev nD × Fin 22 → ℕ) {α : Type} {Q : α → sProp 𝕄} {k : PUnit → Prog (TpuEff nD τ sig (Elt F) Λ₀ .tc) α} (c n : Dev nD) (d : Fin 3) (hn : n = on c (d.val + 1)) (n1 : ℕ) (h1 : n1 = 1) (xs : List (GSem nD τ sig × ℕ))
    (f₀ f₁ : (cc0_scratch0 : Ref sig .tc).ty.Contents (Elt F)) (f₂ : (cc0_scratch1 : Ref sig .tc).ty.Contents (Elt F)) :
    iprop(records m ρ K ∗ oX c ((kcell (on c (d.val + 1)) 0, 1) :: xs) ∗ tok (on c (d.val + 1)) 0 d
        ∗ kP c (d.val + 1) 0 fullShare f₀ ∗ kP c (d.val + 1) 1 fullShare f₁ ∗ vP c (d.val + 1) fullShare f₂)
      ⊢ iprop((oX c xs -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS n1) k) Q) := by
  subst hn h1
  unfold oX
  iintro ⟨#HR, ⟨%W, HO⟩, Ht, H0, H1, H2⟩ Hk
  ihave #HI := (inv_at m ρ K (on c (d.val + 1)) 0) $$ HR
  ihave #Hr := (reached_at m ρ K (on c (d.val + 1)) 0) $$ HR
  iapply (Rounds.wp_signal 𝒱₀ ER (ringRd m ρ) (c : Thread nD τ) none (dst := (on c (d.val + 1) : Thread nD τ)) (κ := K (on c (d.val + 1), 0))
      (sem := barS) (r := 0) (d := d) (k' := 1) (by rw [show ((on c (d.val + 1) : Thread nD τ), SemLoc.reg barS) = kcell (on c (d.val + 1)) 0 from rfl, duties_cell]; exact Finset.mem_univ _)
      (amount_cell m ρ (on c (d.val + 1)) 0 d) () (tl xs) rfl) $$ [HO Ht H0 H1 H2]
  · isplitr; · iexact HI
    isplitl [HO]; · iexact HO
    isplitl [Ht]; · unfold tok; iexact Ht
    isplitl [H0 H1 H2]
    · rw [show ((on c (d.val + 1) : Thread nD τ), SemLoc.reg barS) = kcell (on c (d.val + 1)) 0 from rfl, payload_cell]
      unfold pay; rw [if_pos (by rfl)]; unfold barPay; rw [on_back]
      isplitl [H0]; · iexists f₀; iexact H0
      isplitl [H1]; · iexists f₁; iexact H1
      iexists f₂; iexact H2
    iexact Hr
  iintro HO
  iapply Hk
  iexists W; iexact HO

theorem bar_rest (c : Dev nD) : bigSep (dut 0) (fun d => pay m ρ c 0 d) = iprop(barPay (F := F) c 0 ∗ barPay c 1 ∗ barPay c 2) := by
  rw [show dut 0 = Finset.univ from rfl, bigSep_univ_eq_bigSepL [0, 1, 2] (by decide) (by decide), bigSepL_cons_cons, bigSepL_cons_cons, bigSepL_singleton]
  rfl

/-- The barrier wait: all three other devices' slots. -/
theorem wp_bar (K : Dev nD × Fin 22 → ℕ) {α : Type} {Q : α → sProp 𝕄} {k : PUnit → Prog (TpuEff nD τ sig (Elt F) Λ₀ .tc) α} (c : Dev nD) (n3 : ℕ) (h3 : n3 = 3) :
    iprop(records m ρ K ∗ levAts L lv ∗ oX c (dueX c) ∗ crd c 0 3 ∗ atP c 0)
      ⊢ iprop((oX c (dueX c) ∗ zero c 0 ∗ barPay c 0 ∗ barPay c 1 ∗ barPay c 2 -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n3) k) Q) := by
  subst h3
  unfold oX crd atP zero
  iintro ⟨#HR, #Hlev, ⟨%W, HO⟩, Hc, Hat⟩ Hk
  ihave #HI := (inv_at m ρ K c 0) $$ HR
  iapply (Rounds.wp_wait_rest_token 𝒱₀ ER (ringRd m ρ) (c : Thread nD τ) none (κ := K (c, 0))
      (wpE_semWait_eq 𝒱₀ (c : Thread nD τ) none Set.univ) (Set.mem_univ _) () (O := tl (dueX c)) (W := W) (R := 0) (m := 0) (T := ∅)
      (by rw [show ((c : Thread nD τ), SemLoc.reg barS) = kcell c 0 from rfl, expect_cell]; rfl)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (show bigSep ((ringRd (F := F) m ρ).duties ((c : Thread nD τ), SemLoc.reg barS) 0 \ ∅) (fun d => (ringRd (F := F) m ρ).payload ((c : Thread nD τ), SemLoc.reg barS) 0 d) = _ from (rest_cell m ρ c 0).trans (bar_rest m ρ c))) $$ Hpay
  imod (Rounds.cell_close ER (ringRd m ρ) (Set.mem_univ (K (c, 0))) (fun h => h) (R := 0 + 1) (duties_later m ρ (kcell c 0))) $$ [Hat] with Hz
  · isplitr; · iexact HI
    iexact Hat
  iapply Hk
  isplitl [HO]; · iexists _; iexact HO
  isplitl [Hz]; · iexact Hz
  iexact Hp

/-- A wait on a send or receive cell, with nothing owed: its payload. -/
theorem wp_dma (K : Dev nD × Fin 22 → ℕ) {α : Type} {Q : α → sProp 𝕄} {k : PUnit → Prog (TpuEff nD τ sig (Elt F) Λ₀ .tc) α} (c : Dev nD) (j : Fin 22) (hd : dut j = {0}) {sem : DmaSem sig} (hs : csem j = .dma sem) {sp sp' : Space} {s s' : Shape} {e e' : EltTy}
    {src : Memref sig .tc sp' s' e'} {dst : Memref sig .tc sp s e} {hsrc : src.view.WordExact} {hdst : dst.view.WordExact}
    (hN : dst.view.dmaCredit = amt j) :
    iprop(records m ρ K ∗ oX c [] ∗ crd c j (amt j) ∗ atP c j)
      ⊢ iprop((oX c [] ∗ zero c j ∗ pay m ρ c j 0 -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have hc : ((c : Thread nD τ), SemLoc.dma sem) = kcell c j := by rw [← hs]
  have hexp : 0 + dst.view.dmaCredit = (ringRd (F := F) m ρ).expect ((c : Thread nD τ), SemLoc.dma sem) 0 := by
    rw [hc, expect_cell, hd, Finset.card_singleton, Nat.one_mul, Nat.zero_add, hN]
  have hrest : bigSep ((ringRd (F := F) m ρ).duties ((c : Thread nD τ), SemLoc.dma sem) 0 \ ∅) (fun d => (ringRd (F := F) m ρ).payload ((c : Thread nD τ), SemLoc.dma sem) 0 d) = pay m ρ c j 0 := by
    rw [hc, rest_cell, hd, bigSep_singleton]
  unfold oX crd atP zero
  rw [← hN, ← hc]
  iintro ⟨#HR, ⟨%W, HO⟩, Hc, Hat⟩ Hk
  ihave #HI := (inv_at m ρ K c j) $$ HR
  rw [← hc]
  iapply (Rounds.wp_wait_rest_token 𝒱₀ ER (ringRd m ρ) (c : Thread nD τ) none (κ := K (c, j))
      (wpE_waitDma2_eq 𝒱₀ (c : Thread nD τ) none Set.univ) (Set.mem_univ _) () (O := tl []) (W := W) (R := 0) (m := 0) (T := ∅)
      hexp) $$ [Hc HO Hat]
  · isplitr; · iexact HI
    isplitl [Hc]; · iexact Hc
    isplitl [HO]; · iexact HO
    isplitr; · rw [show tl [] = 0 from rfl, MayWait_zero]; iempintro
    iexact Hat
  iintro ⟨HO, Hat, -, Hpay⟩
  ihave Hp := (Entails.of_eq hrest) $$ Hpay
  imod (Rounds.cell_close ER (ringRd m ρ) (Set.mem_univ (K (c, j))) (fun h => h) (R := 0 + 1) (duties_later m ρ _)) $$ [Hat] with Hz
  · isplitr; · iexact HI
    iexact Hat
  iapply Hk
  isplitl [HO]; · iexists _; iexact HO
  isplitl [Hz]; · iexact Hz
  iexact Hp

/-- A key copy to the device `o` places on, whose slot `s` it fills. -/
theorem wp_sndK (K : Dev nD × Fin 22 → ℕ) {α : Type} {Q : α → sProp 𝕄} {k : PUnit → Prog (TpuEff nD τ sig (Elt F) Λ₀ .tc) α} (c n : Dev nD) (o s b : ℕ) (hn : n = on c o) (ho : o + s = 4) (i j : Fin 22) (h' : InK 0 b) (h : InK s b)
    (hdi : dut i = {0}) (hdj : dut j = {0}) (hai : amt i = NK) (haj : amt j = NK) (q : PosShare TreeShare)
    (hpi : pay m ρ c i 0 = kP c 0 b q (kAll m ρ c)) (hpj : ∀ n, pay m ρ n j 0 = kP n s b fullShare (kAll m ρ n))
    {sS sR : DmaSem sig} (hi : csem i = .dma sS) (hj : csem j = .dma sR)
    {hsc : (kM s b h : Memref sig (Dev.tc n : Thread nD τ).2.kind .vmem S128x256 .bf16).view.ref.isScScratch = false}
    {hsrc : (kM 0 b h').view.WordExact} {hdst : (kM s b h).view.WordExact}
    {hsem : DmaTarget.Typed .vmem (.dma sR) (.remote (Dev.tc n : Thread nD τ) (kM s b h) (.dma sS) hsc)}
    (fd : (cc0_scratch0 : Ref sig .tc).ty.Contents (Elt F)) (xs : List (GSem nD τ sig × ℕ)) :
    iprop(records m ρ K ∗ kP c 0 b q (kAll m ρ c) ∗ kP (on c o) s b fullShare fd ∗ oX c ((kcell (on c o) j, NK) :: xs) ∗ tok c i 0 ∗ tok (on c o) j 0)
      ⊢ iprop((crd c i NK ∗ oX c xs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kM 0 b h') (.remote (Dev.tc n : Thread nD τ) (kM s b h) (.dma sS) hsc) (.dma sR) hsrc hdst hsem) k) Q) := by
  subst hn
  have hback : on (on c o) s = c := by rw [on_on, ho, on_four]
  have hci : ((c : Thread nD τ), SemLoc.dma sS) = kcell c i := by rw [← hi]
  have hcj : ((on c o : Thread nD τ), SemLoc.dma sR) = kcell (on c o) j := by rw [← hj]
  unfold oX crd tok
  iintro ⟨#HR, Hs, Hd, ⟨%W, HO⟩, Hti, Htj⟩ Hk
  ihave #HIi := (inv_at m ρ K c i) $$ HR
  ihave #HIj := (inv_at m ρ K (on c o) j) $$ HR
  ihave #Hri := (reached_at m ρ K c i) $$ HR
  ihave #Hrj := (reached_at m ρ K (on c o) j) $$ HR
  rw [← hci, ← hcj]
  iapply (Rounds.wp_send_pointsTo 𝒱₀ ER (ringRd m ρ) (c : Thread nD τ) none (κ₁ := K (c, i)) (κ₂ := K (on c o, j))
    (r₁ := 0) (r₂ := 0) (d₁ := 0) (d₂ := 0) (fd := fd) (fs := kAll m ρ c) (q := q)
    (by rw [hci, duties_cell, hdi]; exact Finset.mem_singleton_self _) (by rw [hcj, duties_cell, hdj]; exact Finset.mem_singleton_self _)
    () () NK (kM_amount s b h sR) (by rw [hci, amount_cell, hai]) (by rw [hcj, amount_cell, haj]) (tl xs) rfl (W := W)
    (by rw [hci, payload_cell, hpi, kM_set]; exact BI.Entails.refl _)
    (by
      rw [hcj, payload_cell, hpj, kM_set]
      exact Entails.of_eq (pointsTo_congr (kLand m ρ c (on c o) s b h h' hback fd)))) $$ [Hs Hd HO Hti Htj]
  · isplitr; · iexact HIi
    isplitr; · iexact HIj
    isplitl [Hs]; · rw [kM_set]; unfold kP; iexact Hs
    isplitl [Hd]; · rw [kM_set]; unfold kP; iexact Hd
    isplitl [HO]; · iexact HO
    isplitl [Hti]; · iexact Hti
    isplitr; · iexact Hri
    isplitl [Htj]; · iexact Htj
    iexact Hrj
  iintro ⟨Hc, HO⟩
  iapply Hk
  isplitl [Hc]; · iexact Hc
  iexists W; iexact HO

/-- A value copy to the device `o` places on, whose slot `s` it fills. -/
theorem wp_sndV (K : Dev nD × Fin 22 → ℕ) {α : Type} {Q : α → sProp 𝕄} {k : PUnit → Prog (TpuEff nD τ sig (Elt F) Λ₀ .tc) α} (c n : Dev nD) (o s : ℕ) (hn : n = on c o) (ho : o + s = 4) (i j : Fin 22) (h' : InV 0) (h : InV s)
    (hdi : dut i = {0}) (hdj : dut j = {0}) (hai : amt i = NV) (haj : amt j = NV) (q : PosShare TreeShare)
    (hpi : pay m ρ c i 0 = vP c 0 q (vAll m ρ c)) (hpj : ∀ n, pay m ρ n j 0 = vP n s fullShare (vAll m ρ n))
    {sS sR : DmaSem sig} (hi : csem i = .dma sS) (hj : csem j = .dma sR)
    {hsc : (vM s h : Memref sig (Dev.tc n : Thread nD τ).2.kind .vmem S2x128x256 .bf16).view.ref.isScScratch = false}
    {hsrc : (vM 0 h').view.WordExact} {hdst : (vM s h).view.WordExact}
    {hsem : DmaTarget.Typed .vmem (.dma sR) (.remote (Dev.tc n : Thread nD τ) (vM s h) (.dma sS) hsc)}
    (fd : (cc0_scratch1 : Ref sig .tc).ty.Contents (Elt F)) (xs : List (GSem nD τ sig × ℕ)) :
    iprop(records m ρ K ∗ vP c 0 q (vAll m ρ c) ∗ vP (on c o) s fullShare fd ∗ oX c ((kcell (on c o) j, NV) :: xs) ∗ tok c i 0 ∗ tok (on c o) j 0)
      ⊢ iprop((crd c i NV ∗ oX c xs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vM 0 h') (.remote (Dev.tc n : Thread nD τ) (vM s h) (.dma sS) hsc) (.dma sR) hsrc hdst hsem) k) Q) := by
  subst hn
  have hback : on (on c o) s = c := by rw [on_on, ho, on_four]
  have hci : ((c : Thread nD τ), SemLoc.dma sS) = kcell c i := by rw [← hi]
  have hcj : ((on c o : Thread nD τ), SemLoc.dma sR) = kcell (on c o) j := by rw [← hj]
  unfold oX crd tok
  iintro ⟨#HR, Hs, Hd, ⟨%W, HO⟩, Hti, Htj⟩ Hk
  ihave #HIi := (inv_at m ρ K c i) $$ HR
  ihave #HIj := (inv_at m ρ K (on c o) j) $$ HR
  ihave #Hri := (reached_at m ρ K c i) $$ HR
  ihave #Hrj := (reached_at m ρ K (on c o) j) $$ HR
  rw [← hci, ← hcj]
  iapply (Rounds.wp_send_pointsTo 𝒱₀ ER (ringRd m ρ) (c : Thread nD τ) none (κ₁ := K (c, i)) (κ₂ := K (on c o, j))
    (r₁ := 0) (r₂ := 0) (d₁ := 0) (d₂ := 0) (fd := fd) (fs := vAll m ρ c) (q := q)
    (by rw [hci, duties_cell, hdi]; exact Finset.mem_singleton_self _) (by rw [hcj, duties_cell, hdj]; exact Finset.mem_singleton_self _)
    () () NV (vM_amount s h sR) (by rw [hci, amount_cell, hai]) (by rw [hcj, amount_cell, haj]) (tl xs) rfl (W := W)
    (by rw [hci, payload_cell, hpi, vM_set]; exact BI.Entails.refl _)
    (by
      rw [hcj, payload_cell, hpj, vM_set]
      exact Entails.of_eq (pointsTo_congr (vLand m ρ c (on c o) s h h' hback fd)))) $$ [Hs Hd HO Hti Htj]
  · isplitr; · iexact HIi
    isplitr; · iexact HIj
    isplitl [Hs]; · rw [vM_set]; unfold vP; iexact Hs
    isplitl [Hd]; · rw [vM_set]; unfold vP; iexact Hd
    isplitl [HO]; · iexact HO
    isplitl [Hti]; · iexact Hti
    isplitr; · iexact Hri
    isplitl [Htj]; · iexact Htj
    iexact Hrj
  iintro ⟨Hc, HO⟩
  iapply Hk
  isplitl [Hc]; · iexact Hc
  iexists W; iexact HO

end Steps

end Cert.KernelIdeal.Ring

end
-- ==== Proof.Mem.lean ====
/-
# Loads, stores, shares and pieces of the exchange's buffers
-/
module

public import proofs.«01_k».proof.Proof.Rules

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Loads -/

theorem setOn_whole' (b : Ref sig .tc) (I : Finset b.ty.shape.Idx) : (View.whole b).setOn I = I := by
  ext i
  unfold View.setOn
  rw [Finset.mem_map]
  exact ⟨fun ⟨j, hj, e⟩ => by have : j = i := e; exact this ▸ hj, fun h => ⟨i, h, rfl⟩⟩

theorem sub_kSet (s b off : ℕ) (h : ∀ a, (![s, b, 0, off] : Fin 4 → Nat) a + S1x1x128x64.size a ≤ S4x2x128x256.size a) :
    (Rect.unit (s := S4x2x128x256) ![s, b, 0, off] S1x1x128x64.size h).set ⊆ kSet s b := by
  intro i hi
  rw [Rect.mem_set_unit] at hi
  have h0 := hi ⟨0, by decide⟩
  have h1 := hi ⟨1, by decide⟩
  change s ≤ _ ∧ _ < s + 1 at h0
  change b ≤ _ ∧ _ < b + 1 at h1
  exact mem_kSet.mpr ⟨by omega, by omega⟩
theorem sub_vSet (s b off : ℕ) (h : ∀ a, (![s, b, 0, off] : Fin 4 → Nat) a + S1x1x128x64.size a ≤ S4x2x128x256.size a) :
    (Rect.unit (s := S4x2x128x256) ![s, b, 0, off] S1x1x128x64.size h).set ⊆ vSet s :=
  (sub_kSet s b off h).trans fun i hi => mem_vSet.mpr (mem_kSet.mp hi).1

theorem setOn_sub (b : Ref sig .tc) {I S : Finset b.ty.shape.Idx} (h : I ⊆ S) : (View.whole b).setOn I ⊆ S :=
  (setOn_whole' b I).symm ▸ h

theorem ldK (c : Dev nD) (s b off : ℕ) (q : PosShare TreeShare) (f : (cc0_scratch0 : Ref sig .tc).ty.Contents (Elt F))
    (h : ∀ a, (![s, b, 0, off] : Fin 4 → Nat) a + S1x1x128x64.size a ≤ S4x2x128x256.size a)
    {hl : (kW).view.LoadsAt (Rect.unit (s := S4x2x128x256) ![s, b, 0, off] S1x1x128x64.size h).toLoadRect}
    {α : Type} {Q : α → sProp 𝕄} {k : Vec F S1x1x128x64 .bf16 → Prog (TpuEff nD τ sig (Elt F) Λ₀ .tc) α} :
    kP c s b q f ⊢ iprop((kP c s b q f -∗ wp frame (wpE (defs₀ (F := F)) 𝒱₀ (c : Thread nD τ) none) Set.univ
          (k ((kW).view.readAt (Elt F) (Rect.unit (s := S4x2x128x256) ![s, b, 0, off] S1x1x128x64.size h).toLoadRect f)) Q)
        -∗ wp frame (wpE (defs₀ (F := F)) 𝒱₀ (c : Thread nD τ) none) Set.univ (.op (.load kW (Rect.unit (s := S4x2x128x256) ![s, b, 0, off] S1x1x128x64.size h).toLoadRect hl) k) Q) := by
  unfold kP
  refine wp_load (Ix := Unit) (Name := ℕ) (U := UU) (Lvl := ℕ) (defs := defs₀ (F := F)) 𝒱₀ (c : Thread nD τ) none Set.univ (m := kW) (k := k) (q := q) (f := f)
    (setOn_sub cc0_scratch0 (sub_kSet s b off h))

theorem ldKrow (c : Dev nD) (s b : ℕ) (q : PosShare TreeShare) (f : (cc0_scratch0 : Ref sig .tc).ty.Contents (Elt F)) (h : InK s b)
    {hl : (kW).view.LoadsAt (Rect.unit (s := S4x2x128x256) ![s, b, 0, 0] S1x1x128x256.size h).toLoadRect}
    {α : Type} {Q : α → sProp 𝕄} {k : Vec F S1x1x128x256 .bf16 → Prog (TpuEff nD τ sig (Elt F) Λ₀ .tc) α} :
    kP c s b q f ⊢ iprop((kP c s b q f -∗ wp frame (wpE (defs₀ (F := F)) 𝒱₀ (c : Thread nD τ) none) Set.univ
          (k ((kW).view.readAt (Elt F) (Rect.unit (s := S4x2x128x256) ![s, b, 0, 0] S1x1x128x256.size h).toLoadRect f)) Q)
        -∗ wp frame (wpE (defs₀ (F := F)) 𝒱₀ (c : Thread nD τ) none) Set.univ (.op (.load kW (Rect.unit (s := S4x2x128x256) ![s, b, 0, 0] S1x1x128x256.size h).toLoadRect hl) k) Q) := by
  unfold kP
  refine wp_load (Ix := Unit) (Name := ℕ) (U := UU) (Lvl := ℕ) (defs := defs₀ (F := F)) 𝒱₀ (c : Thread nD τ) none Set.univ (m := kW) (k := k) (q := q) (f := f)
    (setOn_sub cc0_scratch0 ((kRect_set s b h).subset))

theorem ldV (c : Dev nD) (s b off : ℕ) (q : PosShare TreeShare) (f : (cc0_scratch1 : Ref sig .tc).ty.Contents (Elt F))
    (h : ∀ a, (![s, b, 0, off] : Fin 4 → Nat) a + S1x1x128x64.size a ≤ S4x2x128x256.size a)
    {hl : (vW).view.LoadsAt (Rect.unit (s := S4x2x128x256) ![s, b, 0, off] S1x1x128x64.size h).toLoadRect}
    {α : Type} {Q : α → sProp 𝕄} {k : Vec F S1x1x128x64 .bf16 → Prog (TpuEff nD τ sig (Elt F) Λ₀ .tc) α} :
    vP c s q f ⊢ iprop((vP c s q f -∗ wp frame (wpE (defs₀ (F := F)) 𝒱₀ (c : Thread nD τ) none) Set.univ
          (k ((vW).view.readAt (Elt F) (Rect.unit (s := S4x2x128x256) ![s, b, 0, off] S1x1x128x64.size h).toLoadRect f)) Q)
        -∗ wp frame (wpE (defs₀ (F := F)) 𝒱₀ (c : Thread nD τ) none) Set.univ (.op (.load vW (Rect.unit (s := S4x2x128x256) ![s, b, 0, off] S1x1x128x64.size h).toLoadRect hl) k) Q) := by
  unfold vP
  refine wp_load (Ix := Unit) (Name := ℕ) (U := UU) (Lvl := ℕ) (defs := defs₀ (F := F)) 𝒱₀ (c : Thread nD τ) none Set.univ (m := vW) (k := k) (q := q) (f := f)
    (setOn_sub cc0_scratch1 (sub_vSet s b off h))

theorem sub_vRow (s b : ℕ) (h : InK s b) : (Rect.unit (s := S4x2x128x256) ![s, b, 0, 0] S1x1x128x256.size h).set ⊆ vSet s :=
  (kRect_set s b h).subset.trans fun i hi => mem_vSet.mpr (mem_kSet.mp hi).1

theorem ldVrow (c : Dev nD) (s b : ℕ) (q : PosShare TreeShare) (f : (cc0_scratch1 : Ref sig .tc).ty.Contents (Elt F)) (h : InK s b)
    {hl : (vW).view.LoadsAt (Rect.unit (s := S4x2x128x256) ![s, b, 0, 0] S1x1x128x256.size h).toLoadRect}
    {α : Type} {Q : α → sProp 𝕄} {k : Vec F S1x1x128x256 .bf16 → Prog (TpuEff nD τ sig (Elt F) Λ₀ .tc) α} :
    vP c s q f ⊢ iprop((vP c s q f -∗ wp frame (wpE (defs₀ (F := F)) 𝒱₀ (c : Thread nD τ) none) Set.univ
          (k ((vW).view.readAt (Elt F) (Rect.unit (s := S4x2x128x256) ![s, b, 0, 0] S1x1x128x256.size h).toLoadRect f)) Q)
        -∗ wp frame (wpE (defs₀ (F := F)) 𝒱₀ (c : Thread nD τ) none) Set.univ (.op (.load vW (Rect.unit (s := S4x2x128x256) ![s, b, 0, 0] S1x1x128x256.size h).toLoadRect hl) k) Q) := by
  unfold vP
  refine wp_load (Ix := Unit) (Name := ℕ) (U := UU) (Lvl := ℕ) (defs := defs₀ (F := F)) 𝒱₀ (c : Thread nD τ) none Set.univ (m := vW) (k := k) (q := q) (f := f)
    (setOn_sub cc0_scratch1 (sub_vRow s b h))

/-! ## Stores -/

theorem stK (c : Dev nD) (b : ℕ) (f : (cc0_scratch0 : Ref sig .tc).ty.Contents (Elt F)) (h : InK 0 b)
    (w : (Rect.unit (s := S4x2x128x256) ![0, b, 0, 0] S1x1x128x256.size h).shape.Idx → Elt F .bf16) (hw : w = kBlk m ρ c b)
    {hx : ((kW).access (Rect.unit (s := S4x2x128x256) ![0, b, 0, 0] S1x1x128x256.size h)).Stores Finset.univ} {hm}
    {α : Type} {Q : α → sProp 𝕄} {k : PUnit → Prog (TpuEff nD τ sig (Elt F) Λ₀ .tc) α} :
    kP c 0 b fullShare f ⊢ iprop((kP c 0 b fullShare (kAll m ρ c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store kW (Rect.unit (s := S4x2x128x256) ![0, b, 0, 0] S1x1x128x256.size h) w Finset.univ hx hm) k) Q) := by
  unfold kP
  have e := pointsTo_congr (Ix := Unit) (Name := ℕ) (U := UU) (Lvl := ℕ) (ℓ := ((c : Dev nD) : Thread nD τ).loc cc0_scratch0) (q := fullShare) (kStore m ρ c b h f w hw)
  rw [← e]
  exact wp_store 𝒱₀ (c : Thread nD τ) none Set.univ (m := kW) (w := w) (Mk := Finset.univ) (k := k)
    ((View.set_slice_whole cc0_scratch0 _).subset.trans ((kRect_set 0 b h).subset))

theorem stV (c : Dev nD) (s b : ℕ) (f : (cc0_scratch1 : Ref sig .tc).ty.Contents (Elt F)) (h : InK s b)
    (w : (Rect.unit (s := S4x2x128x256) ![s, b, 0, 0] S1x1x128x256.size h).shape.Idx → Elt F .bf16)
    {hx : ((vW).access (Rect.unit (s := S4x2x128x256) ![s, b, 0, 0] S1x1x128x256.size h)).Stores Finset.univ} {hm}
    {α : Type} {Q : α → sProp 𝕄} {k : PUnit → Prog (TpuEff nD τ sig (Elt F) Λ₀ .tc) α} :
    vP c s fullShare f ⊢ iprop((vP c s fullShare (((vW).access (Rect.unit (s := S4x2x128x256) ![s, b, 0, 0] S1x1x128x256.size h)).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store vW (Rect.unit (s := S4x2x128x256) ![s, b, 0, 0] S1x1x128x256.size h) w Finset.univ hx hm) k) Q) := by
  unfold vP
  exact wp_store 𝒱₀ (c : Thread nD τ) none Set.univ (m := vW) (w := w) (Mk := Finset.univ) (k := k)
    ((View.set_slice_whole cc0_scratch1 _).subset.trans (sub_vRow s b h))

/-! ## Shares -/

theorem share4 {ℓ : Loc nD τ sig} (I : Finset (Idx ℓ)) (f : Buf (Elt F) ℓ) :
    (ℓ ↦[I]{fullShare} f : sProp 𝕄) = iprop((ℓ ↦[I]{sh 0} f) ∗ (ℓ ↦[I]{sh 1} f) ∗ (ℓ ↦[I]{sh 2} f) ∗ (ℓ ↦[I]{kept} f)) := by
  have e : ∀ q : PosShare TreeShare, (ℓ ↦[I]{q} f : sProp 𝕄) = iprop((ℓ ↦[I]{q.left} f) ∗ (ℓ ↦[I]{q.right} f)) := fun q =>
    BI.Entails.antisymm (pointsTo_share (PosShare.mem_left_op_right q)).1 (pointsTo_share (PosShare.mem_left_op_right q)).2
  rw [e fullShare, e fullShare.left, e fullShare.right]
  show _ = iprop((ℓ ↦[I]{fullShare.left.left} f) ∗ (ℓ ↦[I]{fullShare.left.right} f) ∗ (ℓ ↦[I]{fullShare.right.left} f) ∗ (ℓ ↦[I]{fullShare.right.right} f))
  exact BI.Entails.antisymm (Idealize.SL.BI.sep_assoc) (Idealize.SL.BI.sep_assoc')

theorem kP_share (c : Dev nD) (s b : ℕ) (f : (cc0_scratch0 : Ref sig .tc).ty.Contents (Elt F)) :
    (kP c s b fullShare f : sProp 𝕄) = iprop(kP c s b (sh 0) f ∗ kP c s b (sh 1) f ∗ kP c s b (sh 2) f ∗ kP c s b kept f) := by
  unfold kP; exact share4 _ _
theorem vP_share (c : Dev nD) (s : ℕ) (f : (cc0_scratch1 : Ref sig .tc).ty.Contents (Elt F)) :
    (vP c s fullShare f : sProp 𝕄) = iprop(vP c s (sh 0) f ∗ vP c s (sh 1) f ∗ vP c s (sh 2) f ∗ vP c s kept f) := by
  unfold vP; exact share4 _ _

/-! ## The whole buffers as their slots -/

theorem kP_slots (c : Dev nD) (f : (cc0_scratch0 : Ref sig .tc).ty.Contents (Elt F)) :
    ((((c : Dev nD) : Thread nD τ).loc cc0_scratch0) ↦{fullShare} f : sProp 𝕄)
      = iprop(kP c 0 0 fullShare f ∗ kP c 0 1 fullShare f ∗ kP c 1 0 fullShare f ∗ kP c 1 1 fullShare f
        ∗ kP c 2 0 fullShare f ∗ kP c 2 1 fullShare f ∗ kP c 3 0 fullShare f ∗ kP c 3 1 fullShare f) := by
  have hu : (Finset.univ : Finset (Idx (((c : Dev nD) : Thread nD τ).loc cc0_scratch0)))
      = (Finset.univ : Finset (Fin 4 × Fin 2)).biUnion fun p => kSet p.1.val p.2.val := by
    ext i
    change S4x2x128x256.Idx at i
    have h0 : (i ⟨0, by decide⟩ : ℕ) < 4 := by have := (i ⟨0, by decide⟩).isLt; exact this
    have h1 : (i ⟨1, by decide⟩ : ℕ) < 2 := by have := (i ⟨1, by decide⟩).isLt; exact this
    constructor
    · intro _
      exact Finset.mem_biUnion.mpr ⟨(⟨_, h0⟩, ⟨_, h1⟩), Finset.mem_univ _, mem_kSet.mpr ⟨rfl, rfl⟩⟩
    · intro _; exact Finset.mem_univ _
  have hb := pointsTo_biUnion (Ix := Unit) (Name := ℕ) (U := UU) (Lvl := ℕ) (ℓ := ((c : Dev nD) : Thread nD τ).loc cc0_scratch0) (q := fullShare) (f := f) (Finset.univ : Finset (Fin 4 × Fin 2))
    (fun p => kSet p.1.val p.2.val)
    (fun p _ p' _ hne => Finset.disjoint_left.mpr fun i hi hi' => hne (by
      obtain ⟨a, b⟩ := mem_kSet.mp hi
      obtain ⟨a', b'⟩ := mem_kSet.mp hi'
      exact Prod.ext (Fin.ext (a.symm.trans a')) (Fin.ext (b.symm.trans b'))))
  rw [hu]
  refine hb.trans ?_
  rw [bigSep_univ_eq_bigSepL [(0, 0), (0, 1), (1, 0), (1, 1), (2, 0), (2, 1), (3, 0), (3, 1)] (by decide) (by decide)]
  simp only [bigSepL_cons_cons, bigSepL_singleton]
  rfl

theorem vP_slots (c : Dev nD) (f : (cc0_scratch1 : Ref sig .tc).ty.Contents (Elt F)) :
    ((((c : Dev nD) : Thread nD τ).loc cc0_scratch1) ↦{fullShare} f : sProp 𝕄)
      = iprop(vP c 0 fullShare f ∗ vP c 1 fullShare f ∗ vP c 2 fullShare f ∗ vP c 3 fullShare f) := by
  have hu : (Finset.univ : Finset (Idx (((c : Dev nD) : Thread nD τ).loc cc0_scratch1)))
      = (Finset.univ : Finset (Fin 4)).biUnion fun p => vSet p.val := by
    ext i
    change S4x2x128x256.Idx at i
    have h0 : (i ⟨0, by decide⟩ : ℕ) < 4 := by have := (i ⟨0, by decide⟩).isLt; exact this
    constructor
    · intro _
      exact Finset.mem_biUnion.mpr ⟨⟨_, h0⟩, Finset.mem_univ _, mem_vSet.mpr rfl⟩
    · intro _; exact Finset.mem_univ _
  have hb := pointsTo_biUnion (Ix := Unit) (Name := ℕ) (U := UU) (Lvl := ℕ) (ℓ := ((c : Dev nD) : Thread nD τ).loc cc0_scratch1) (q := fullShare) (f := f) (Finset.univ : Finset (Fin 4))
    (fun p => vSet p.val)
    (fun p _ p' _ hne => Finset.disjoint_left.mpr fun i hi hi' => hne (Fin.ext ((mem_vSet.mp hi).symm.trans (mem_vSet.mp hi'))))
  rw [hu]
  refine hb.trans ?_
  rw [bigSep_univ_eq_bigSepL [0, 1, 2, 3] (by decide) (by decide)]
  simp only [bigSepL_cons_cons, bigSepL_singleton]
  rfl

/-! ## After the stores -/

theorem vP_stored (c : Dev nD) (h0 : InK 0 0) (h1 : InK 0 1) (f : (cc0_scratch1 : Ref sig .tc).ty.Contents (Elt F))
    (w₀ : (Rect.unit (s := S4x2x128x256) ![0, 0, 0, 0] S1x1x128x256.size h0).shape.Idx → Elt F .bf16) (hw₀ : w₀ = vBlk m ρ c 0)
    (w₁ : (Rect.unit (s := S4x2x128x256) ![0, 1, 0, 0] S1x1x128x256.size h1).shape.Idx → Elt F .bf16) (hw₁ : w₁ = vBlk m ρ c 1) :
    (vP c 0 fullShare (((vW).access (Rect.unit (s := S4x2x128x256) ![0, 1, 0, 0] S1x1x128x256.size h1)).write (Elt F)
      (((vW).access (Rect.unit (s := S4x2x128x256) ![0, 0, 0, 0] S1x1x128x256.size h0)).write (Elt F) f w₀ Finset.univ) w₁ Finset.univ) : sProp 𝕄)
      = vP c 0 fullShare (vAll m ρ c) := by
  unfold vP; exact pointsTo_congr (vStore m ρ c h0 h1 f w₀ hw₀ w₁ hw₁)

theorem qP_stored (c : Dev nD) (f : (cc0_scratch2 : Ref sig .tc).ty.Contents (Elt F))
    (w₀ : (Rect.unit (s := S2x128x256) ![0, 0, 0] S1x128x256.size inb_S2x128x256_S1x128x256_0_0_0).shape.Idx → Elt F .bf16) (hw₀ : w₀ = qBlk m ρ c 0)
    (w₁ : (Rect.unit (s := S2x128x256) ![1, 0, 0] S1x128x256.size inb_S2x128x256_S1x128x256_1_0_0).shape.Idx → Elt F .bf16) (hw₁ : w₁ = qBlk m ρ c 1) :
    ((((c : Dev nD) : Thread nD τ).loc cc0_scratch2) ↦{fullShare} (((qW).access (Rect.unit (s := S2x128x256) ![1, 0, 0] S1x128x256.size inb_S2x128x256_S1x128x256_1_0_0)).write (Elt F)
      (((qW).access (Rect.unit (s := S2x128x256) ![0, 0, 0] S1x128x256.size inb_S2x128x256_S1x128x256_0_0_0)).write (Elt F) f w₀ Finset.univ) w₁ Finset.univ) : sProp 𝕄)
      = ((((c : Dev nD) : Thread nD τ).loc cc0_scratch2) ↦{fullShare} qAll m ρ c) :=
  congrArg (fun g => ((((c : Dev nD) : Thread nD τ).loc cc0_scratch2) ↦{fullShare} g : sProp 𝕄)) (qStore m ρ c f w₀ hw₀ w₁ hw₁)

theorem oP_stored (c : Dev nD) (f : (cc0_stg5_0 : Ref sig .tc).ty.Contents (Elt F))
    (w₀ : (Rect.unit (s := S2x128x512) ![0, 0, 0] S1x128x512.size inb_S2x128x512_S1x128x512_0_0_0).shape.Idx → Elt F .bf16) (hw₀ : w₀ = oBlk m ρ c 0)
    (w₁ : (Rect.unit (s := S2x128x512) ![1, 0, 0] S1x128x512.size inb_S2x128x512_S1x128x512_1_0_0).shape.Idx → Elt F .bf16) (hw₁ : w₁ = oBlk m ρ c 1) :
    ((((c : Dev nD) : Thread nD τ).loc cc0_stg5_0) ↦{fullShare} (((oW).access (Rect.unit (s := S2x128x512) ![1, 0, 0] S1x128x512.size inb_S2x128x512_S1x128x512_1_0_0)).write (Elt F)
      (((oW).access (Rect.unit (s := S2x128x512) ![0, 0, 0] S1x128x512.size inb_S2x128x512_S1x128x512_0_0_0)).write (Elt F) f w₀ Finset.univ) w₁ Finset.univ) : sProp 𝕄)
      = ((((c : Dev nD) : Thread nD τ).loc cc0_stg5_0) ↦{fullShare} outAll m ρ c) :=
  congrArg (fun g => ((((c : Dev nD) : Thread nD τ).loc cc0_stg5_0) ↦{fullShare} g : sProp 𝕄)) (oStore m ρ c f w₀ hw₀ w₁ hw₁)

/-- A wait on a send or receive cell, its amount and its payload spelt out. -/
theorem wp_dmaK (K : Dev nD × Fin 22 → ℕ) {α : Type} {Q : α → sProp 𝕄} {k : PUnit → Prog (TpuEff nD τ sig (Elt F) Λ₀ .tc) α} (c : Dev nD) (j : Fin 22) (P : sProp 𝕄)
    (hA : amt j = NK) (hP : pay m ρ c j 0 = P) (hd : dut j = {0}) {sem : DmaSem sig} (hs : csem j = .dma sem)
    (s b s' b' : ℕ) (h : InK s b) (h' : InK s' b') {hsrc : (kM s' b' h').view.WordExact} {hdst : (kM s b h).view.WordExact} :
    iprop(records m ρ K ∗ oX c [] ∗ crd c j NK ∗ atP c j)
      ⊢ iprop((oX c [] ∗ zero c j ∗ P -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem (kM s' b' h') (kM s b h) hsrc hdst) k) Q) := by
  have hN : (kM s b h).view.dmaCredit = amt j := hA ▸ rfl
  rw [← hA]
  subst hP
  exact wp_dma m ρ K c j hd hs hN
theorem wp_dmaV (K : Dev nD × Fin 22 → ℕ) {α : Type} {Q : α → sProp 𝕄} {k : PUnit → Prog (TpuEff nD τ sig (Elt F) Λ₀ .tc) α} (c : Dev nD) (j : Fin 22) (P : sProp 𝕄)
    (hA : amt j = NV) (hP : pay m ρ c j 0 = P) (hd : dut j = {0}) {sem : DmaSem sig} (hs : csem j = .dma sem)
    (s s' : ℕ) (h : InV s) (h' : InV s') {hsrc : (vM s' h').view.WordExact} {hdst : (vM s h).view.WordExact} :
    iprop(records m ρ K ∗ oX c [] ∗ crd c j NV ∗ atP c j)
      ⊢ iprop((oX c [] ∗ zero c j ∗ P -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem (vM s' h') (vM s h) hsrc hdst) k) Q) := by
  have hN : (vM s h).view.dmaCredit = amt j := hA ▸ rfl
  rw [← hA]
  subst hP
  exact wp_dma m ρ K c j hd hs hN

/-- A store through a whole buffer. -/
theorem stQ (c : Dev nD) (r : Rect S2x128x256) (f : (cc0_scratch2 : Ref sig .tc).ty.Contents (Elt F)) (w : r.shape.Idx → Elt F .bf16)
    {hx : ((qW).access r).Stores Finset.univ} {hm} {α : Type} {Q : α → sProp 𝕄} {k : PUnit → Prog (TpuEff nD τ sig (Elt F) Λ₀ .tc) α} :
    ((((c : Dev nD) : Thread nD τ).loc cc0_scratch2) ↦{fullShare} f)
      ⊢ iprop((((((c : Dev nD) : Thread nD τ).loc cc0_scratch2) ↦{fullShare} (((qW).access r).write (Elt F) f w Finset.univ))
          -∗ wp frame (wpE (defs₀ (F := F)) 𝒱₀ (c : Thread nD τ) none) Set.univ (k ⟨⟩) Q)
        -∗ wp frame (wpE (defs₀ (F := F)) 𝒱₀ (c : Thread nD τ) none) Set.univ (.op (.store qW r w Finset.univ hx hm) k) Q) :=
  wp_store 𝒱₀ (c : Thread nD τ) none Set.univ (m := qW) (w := w) (Mk := Finset.univ) (k := k) (Finset.subset_univ _)
theorem stO (c : Dev nD) (r : Rect S2x128x512) (f : (cc0_stg5_0 : Ref sig .tc).ty.Contents (Elt F)) (w : r.shape.Idx → Elt F .bf16)
    {hx : ((oW).access r).Stores Finset.univ} {hm} {α : Type} {Q : α → sProp 𝕄} {k : PUnit → Prog (TpuEff nD τ sig (Elt F) Λ₀ .tc) α} :
    ((((c : Dev nD) : Thread nD τ).loc cc0_stg5_0) ↦{fullShare} f)
      ⊢ iprop((((((c : Dev nD) : Thread nD τ).loc cc0_stg5_0) ↦{fullShare} (((oW).access r).write (Elt F) f w Finset.univ))
          -∗ wp frame (wpE (defs₀ (F := F)) 𝒱₀ (c : Thread nD τ) none) Set.univ (k ⟨⟩) Q)
        -∗ wp frame (wpE (defs₀ (F := F)) 𝒱₀ (c : Thread nD τ) none) Set.univ (.op (.store oW r w Finset.univ hx hm) k) Q) :=
  wp_store 𝒱₀ (c : Thread nD τ) none Set.univ (m := oW) (w := w) (Mk := Finset.univ) (k := k) (Finset.subset_univ _)

theorem barPay0 (c : Dev nD) : (barPay c 0 : sProp 𝕄) = iprop((∃ f, kP (on c 3) 1 0 fullShare f) ∗ (∃ f, kP (on c 3) 1 1 fullShare f) ∗ (∃ f, vP (on c 3) 1 fullShare f)) := rfl
theorem barPay1 (c : Dev nD) : (barPay c 1 : sProp 𝕄) = iprop((∃ f, kP (on c 2) 2 0 fullShare f) ∗ (∃ f, kP (on c 2) 2 1 fullShare f) ∗ (∃ f, vP (on c 2) 2 fullShare f)) := rfl
theorem barPay2 (c : Dev nD) : (barPay c 2 : sProp 𝕄) = iprop((∃ f, kP (on c 1) 3 0 fullShare f) ∗ (∃ f, kP (on c 1) 3 1 fullShare f) ∗ (∃ f, vP (on c 1) 3 fullShare f)) := rfl

theorem oX_dueX (c : Dev nD) : (oX c (dueX c) : sProp 𝕄) = oX c
  [(kcell (on c 3) 9, NK), (kcell (on c 1) 13, NK), (kcell (on c 2) 11, NK),
   (kcell (on c 3) 10, NK), (kcell (on c 1) 14, NK), (kcell (on c 2) 12, NK),
   (kcell (on c 3) 19, NV), (kcell (on c 1) 21, NV), (kcell (on c 2) 20, NV)] := rfl

end Cert.KernelIdeal.Ring

end
-- ==== Proof.Vals.lean ====
/-
# What every part of the body hands to the next
-/
module

public import proofs.«01_k».proof.Proof.Mem

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

def wv2 (m : (ℓ : Loc nD τ sig) → Buf (Elt F) ℓ) (ρ : Dev nD → PrngReg) (c : Dev nD) : BitVec 32 := (Scalar.remsi (Scalar.divsi (Dev.word c) 1#32) 4#32)
def wv3 (m : (ℓ : Loc nD τ sig) → Buf (Elt F) ℓ) (ρ : Dev nD → PrngReg) (c : Dev nD) : Sems sig S_ := (SemArray.scalar (sig.barrier 0 rfl))
def wv17 (m : (ℓ : Loc nD τ sig) → Buf (Elt F) ℓ) (ρ : Dev nD → PrngReg) (c : Dev nD) : FVec F S128x256 .f32 := k0_pay1 (F := F)
def wv22 (m : (ℓ : Loc nD τ sig) → Buf (Elt F) ℓ) (ρ : Dev nD → PrngReg) (c : Dev nD) : IVec S128x256 32 := k0_pay2
def wv31 (m : (ℓ : Loc nD τ sig) → Buf (Elt F) ℓ) (ρ : Dev nD → PrngReg) (c : Dev nD) : IVec S128x256 1 := k0_pay3
def wv32 (m : (ℓ : Loc nD τ sig) → Buf (Elt F) ℓ) (ρ : Dev nD → PrngReg) (c : Dev nD) : IVec S128x256 32 := k0_pay4
def wv70 (m : (ℓ : Loc nD τ sig) → Buf (Elt F) ℓ) (ρ : Dev nD → PrngReg) (c : Dev nD) : FVec F S128x256 .f32 := k0_pay6 (wv2 m ρ c) (wv17 m ρ c) (wv22 m ρ c) (wv31 m ρ c) (wv32 m ρ c)
def wv71 (m : (ℓ : Loc nD τ sig) → Buf (Elt F) ℓ) (ρ : Dev nD → PrngReg) (c : Dev nD) : FVec F S128x256 .f32 := k0_pay7 (wv2 m ρ c) (wv17 m ρ c) (wv22 m ρ c) (wv31 m ρ c) (wv32 m ρ c)
def wv72 (m : (ℓ : Loc nD τ sig) → Buf (Elt F) ℓ) (ρ : Dev nD → PrngReg) (c : Dev nD) : IVec S256x256 32 := (iota .tc S256x256 32 [0] iota_S256x256_d0_w32)
def wv73 (m : (ℓ : Loc nD τ sig) → Buf (Elt F) ℓ) (ρ : Dev nD → PrngReg) (c : Dev nD) : IVec S256x256 32 := (iota .tc S256x256 32 [1] iota_S256x256_d1_w32)
def wv76 (m : (ℓ : Loc nD τ sig) → Buf (Elt F) ℓ) (ρ : Dev nD → PrngReg) (c : Dev nD) : IVec S256x256 1 := k0_pay8
def wv78 (m : (ℓ : Loc nD τ sig) → Buf (Elt F) ℓ) (ρ : Dev nD → PrngReg) (c : Dev nD) : BitVec 32 := (Scalar.select (Scalar.cmpi .eq 2#32 0#32) 1#32 2#32)
def wv123 (m : (ℓ : Loc nD τ sig) → Buf (Elt F) ℓ) (ρ : Dev nD → PrngReg) (c : Dev nD) : FVec F S256x256 .bf16 := (k0_pay9 (F := F) (wv72 m ρ c) (wv73 m ρ c) (wv76 m ρ c) (wv78 m ρ c))
def wv125 (m : (ℓ : Loc nD τ sig) → Buf (Elt F) ℓ) (ρ : Dev nD → PrngReg) (c : Dev nD) : FVec F S512x256 .bf16 := k0_pay10 (wkLd m ρ c)
def wv127 (m : (ℓ : Loc nD τ sig) → Buf (Elt F) ℓ) (ρ : Dev nD → PrngReg) (c : Dev nD) : FVec F S128x512 .bf16 := k0_pay11 (xLd0 m ρ c)
def wv129 (m : (ℓ : Loc nD τ sig) → Buf (Elt F) ℓ) (ρ : Dev nD → PrngReg) (c : Dev nD) : FVec F S128x512 .bf16 := k0_pay12 (xLd1 m ρ c)
def wv143 (m : (ℓ : Loc nD τ sig) → Buf (Elt F) ℓ) (ρ : Dev nD → PrngReg) (c : Dev nD) : BitVec 32 := (Scalar.remsi (Scalar.addi (wv2 m ρ c) 3#32) 4#32)
def wv155 (m : (ℓ : Loc nD τ sig) → Buf (Elt F) ℓ) (ρ : Dev nD → PrngReg) (c : Dev nD) : BitVec 32 := (Scalar.remsi (Scalar.addi (wv2 m ρ c) 1#32) 4#32)
def wv167 (m : (ℓ : Loc nD τ sig) → Buf (Elt F) ℓ) (ρ : Dev nD → PrngReg) (c : Dev nD) : BitVec 32 := (Scalar.remsi (Scalar.addi (wv2 m ρ c) 2#32) 4#32)
def wv191 (m : (ℓ : Loc nD τ sig) → Buf (Elt F) ℓ) (ρ : Dev nD → PrngReg) (c : Dev nD) : BitVec 32 := (Scalar.remsi (Scalar.addi (wv2 m ρ c) 3#32) 4#32)
def wv203 (m : (ℓ : Loc nD τ sig) → Buf (Elt F) ℓ) (ρ : Dev nD → PrngReg) (c : Dev nD) : BitVec 32 := (Scalar.remsi (Scalar.addi (wv2 m ρ c) 1#32) 4#32)
def wv215 (m : (ℓ : Loc nD τ sig) → Buf (Elt F) ℓ) (ρ : Dev nD → PrngReg) (c : Dev nD) : BitVec 32 := (Scalar.remsi (Scalar.addi (wv2 m ρ c) 2#32) 4#32)
def wv227 (m : (ℓ : Loc nD τ sig) → Buf (Elt F) ℓ) (ρ : Dev nD → PrngReg) (c : Dev nD) : FVec F S512x256 .bf16 := k0_pay15 (wvLd m ρ c)
def wv229 (m : (ℓ : Loc nD τ sig) → Buf (Elt F) ℓ) (ρ : Dev nD → PrngReg) (c : Dev nD) : FVec F S128x256 .bf16 := k0_pay16 (wv127 m ρ c) (wvLd m ρ c)
def wv239 (m : (ℓ : Loc nD τ sig) → Buf (Elt F) ℓ) (ρ : Dev nD → PrngReg) (c : Dev nD) : BitVec 32 := (Scalar.remsi (Scalar.addi (wv2 m ρ c) 3#32) 4#32)
def wv251 (m : (ℓ : Loc nD τ sig) → Buf (Elt F) ℓ) (ρ : Dev nD → PrngReg) (c : Dev nD) : BitVec 32 := (Scalar.remsi (Scalar.addi (wv2 m ρ c) 1#32) 4#32)
def wv263 (m : (ℓ : Loc nD τ sig) → Buf (Elt F) ℓ) (ρ : Dev nD → PrngReg) (c : Dev nD) : BitVec 32 := (Scalar.remsi (Scalar.addi (wv2 m ρ c) 2#32) 4#32)
def wv275 (m : (ℓ : Loc nD τ sig) → Buf (Elt F) ℓ) (ρ : Dev nD → PrngReg) (c : Dev nD) : FVec F S512x256 .bf16 := k0_pay19 (wqLd m ρ c)
def wv287 (m : (ℓ : Loc nD τ sig) → Buf (Elt F) ℓ) (ρ : Dev nD → PrngReg) (c : Dev nD) : FVec F S1x128x256 .bf16 := k0_pay20 (wv70 m ρ c) (wv71 m ρ c) (wv123 m ρ c) (wv127 m ρ c) (wqLd m ρ c)
def wv307 (m : (ℓ : Loc nD τ sig) → Buf (Elt F) ℓ) (ρ : Dev nD → PrngReg) (c : Dev nD) : FVec F S128x1 .f32 := k0_pay23 (qLd m ρ c 0 0 inb_S2x128x256_S1x128x64_0_0_0) (kLd m ρ c 0 0 0 inb_S4x2x128x256_S1x1x128x64_0_0_0_0)
def wv308 (m : (ℓ : Loc nD τ sig) → Buf (Elt F) ℓ) (ρ : Dev nD → PrngReg) (c : Dev nD) : FVec F S128x128 .bf16 := k0_pay24 (qLd m ρ c 0 0 inb_S2x128x256_S1x128x64_0_0_0) (kLd m ρ c 0 0 0 inb_S4x2x128x256_S1x1x128x64_0_0_0_0)
def wv316 (m : (ℓ : Loc nD τ sig) → Buf (Elt F) ℓ) (ρ : Dev nD → PrngReg) (c : Dev nD) : FVec F S128x1 .f32 := k0_pay26 (qLd m ρ c 0 64 inb_S2x128x256_S1x128x64_0_0_64) (kLd m ρ c 0 0 64 inb_S4x2x128x256_S1x1x128x64_0_0_0_64)
def wv317 (m : (ℓ : Loc nD τ sig) → Buf (Elt F) ℓ) (ρ : Dev nD → PrngReg) (c : Dev nD) : FVec F S128x128 .bf16 := k0_pay27 (qLd m ρ c 0 64 inb_S2x128x256_S1x128x64_0_0_64) (kLd m ρ c 0 0 64 inb_S4x2x128x256_S1x1x128x64_0_0_0_64)
def wv318 (m : (ℓ : Loc nD τ sig) → Buf (Elt F) ℓ) (ρ : Dev nD → PrngReg) (c : Dev nD) : Vec F S1x128x64 .bf16 := (qLd m ρ c 0 128 inb_S2x128x256_S1x128x64_0_0_128)
def wv325 (m : (ℓ : Loc nD τ sig) → Buf (Elt F) ℓ) (ρ : Dev nD → PrngReg) (c : Dev nD) : FVec F S128x1 .f32 := k0_pay29 (wv318 m ρ c) (kLd m ρ c 0 0 128 inb_S4x2x128x256_S1x1x128x64_0_0_0_128)
def wv334 (m : (ℓ : Loc nD τ sig) → Buf (Elt F) ℓ) (ρ : Dev nD → PrngReg) (c : Dev nD) : FVec F S128x1 .f32 := k0_pay31 (qLd m ρ c 0 192 inb_S2x128x256_S1x128x64_0_0_192) (kLd m ρ c 0 0 192 inb_S4x2x128x256_S1x1x128x64_0_0_0_192)
def wv335 (m : (ℓ : Loc nD τ sig) → Buf (Elt F) ℓ) (ρ : Dev nD → PrngReg) (c : Dev nD) : FVec F S128x128 .bf16 := k0_pay32 (qLd m ρ c 0 192 inb_S2x128x256_S1x128x64_0_0_192) (kLd m ρ c 0 0 192 inb_S4x2x128x256_S1x1x128x64_0_0_0_192)
def wv338 (m : (ℓ : Loc nD τ sig) → Buf (Elt F) ℓ) (ρ : Dev nD → PrngReg) (c : Dev nD) : FVec F S128x64 .f32 := k0_pay33 (wv308 m ρ c) (vLd m ρ c 0 0 0 inb_S4x2x128x256_S1x1x128x64_0_0_0_0)
def wv341 (m : (ℓ : Loc nD τ sig) → Buf (Elt F) ℓ) (ρ : Dev nD → PrngReg) (c : Dev nD) : FVec F S128x64 .f32 := k0_pay34 (wv317 m ρ c) (vLd m ρ c 0 0 64 inb_S4x2x128x256_S1x1x128x64_0_0_0_64)
def wv344 (m : (ℓ : Loc nD τ sig) → Buf (Elt F) ℓ) (ρ : Dev nD → PrngReg) (c : Dev nD) : FVec F S128x64 .f32 := k0_pay35 (wv318 m ρ c) (kLd m ρ c 0 0 128 inb_S4x2x128x256_S1x1x128x64_0_0_0_128) (vLd m ρ c 0 0 128 inb_S4x2x128x256_S1x1x128x64_0_0_0_128)
def wv347 (m : (ℓ : Loc nD τ sig) → Buf (Elt F) ℓ) (ρ : Dev nD → PrngReg) (c : Dev nD) : FVec F S128x64 .f32 := k0_pay36 (wv335 m ρ c) (vLd m ρ c 0 0 192 inb_S4x2x128x256_S1x1x128x64_0_0_0_192)
def wv355 (m : (ℓ : Loc nD τ sig) → Buf (Elt F) ℓ) (ρ : Dev nD → PrngReg) (c : Dev nD) : FVec F S128x1 .f32 := k0_pay38 (qLd m ρ c 1 0 inb_S2x128x256_S1x128x64_1_0_0) (kLd m ρ c 0 1 0 inb_S4x2x128x256_S1x1x128x64_0_1_0_0)
def wv356 (m : (ℓ : Loc nD τ sig) → Buf (Elt F) ℓ) (ρ : Dev nD → PrngReg) (c : Dev nD) : FVec F S128x128 .bf16 := k0_pay39 (qLd m ρ c 1 0 inb_S2x128x256_S1x128x64_1_0_0) (kLd m ρ c 0 1 0 inb_S4x2x128x256_S1x1x128x64_0_1_0_0)
def wv364 (m : (ℓ : Loc nD τ sig) → Buf (Elt F) ℓ) (ρ : Dev nD → PrngReg) (c : Dev nD) : FVec F S128x1 .f32 := k0_pay41 (qLd m ρ c 1 64 inb_S2x128x256_S1x128x64_1_0_64) (kLd m ρ c 0 1 64 inb_S4x2x128x256_S1x1x128x64_0_1_0_64)
def wv365 (m : (ℓ : Loc nD τ sig) → Buf (Elt F) ℓ) (ρ : Dev nD → PrngReg) (c : Dev nD) : FVec F S128x128 .bf16 := k0_pay42 (qLd m ρ c 1 64 inb_S2x128x256_S1x128x64_1_0_64) (kLd m ρ c 0 1 64 inb_S4x2x128x256_S1x1x128x64_0_1_0_64)
def wv373 (m : (ℓ : Loc nD τ sig) → Buf (Elt F) ℓ) (ρ : Dev nD → PrngReg) (c : Dev nD) : FVec F S128x1 .f32 := k0_pay44 (qLd m ρ c 1 128 inb_S2x128x256_S1x128x64_1_0_128) (kLd m ρ c 0 1 128 inb_S4x2x128x256_S1x1x128x64_0_1_0_128)
def wv374 (m : (ℓ : Loc nD τ sig) → Buf (Elt F) ℓ) (ρ : Dev nD → PrngReg) (c : Dev nD) : FVec F S128x128 .bf16 := k0_pay45 (qLd m ρ c 1 128 inb_S2x128x256_S1x128x64_1_0_128) (kLd m ρ c 0 1 128 inb_S4x2x128x256_S1x1x128x64_0_1_0_128)
def wv382 (m : (ℓ : Loc nD τ sig) → Buf (Elt F) ℓ) (ρ : Dev nD → PrngReg) (c : Dev nD) : FVec F S128x1 .f32 := k0_pay47 (qLd m ρ c 1 192 inb_S2x128x256_S1x128x64_1_0_192) (kLd m ρ c 0 1 192 inb_S4x2x128x256_S1x1x128x64_0_1_0_192)
def wv386 (m : (ℓ : Loc nD τ sig) → Buf (Elt F) ℓ) (ρ : Dev nD → PrngReg) (c : Dev nD) : FVec F S128x64 .f32 := k0_pay48 (wv356 m ρ c) (vLd m ρ c 0 1 0 inb_S4x2x128x256_S1x1x128x64_0_1_0_0)
def wv389 (m : (ℓ : Loc nD τ sig) → Buf (Elt F) ℓ) (ρ : Dev nD → PrngReg) (c : Dev nD) : FVec F S128x64 .f32 := k0_pay49 (wv365 m ρ c) (vLd m ρ c 0 1 64 inb_S4x2x128x256_S1x1x128x64_0_1_0_64)
def wv392 (m : (ℓ : Loc nD τ sig) → Buf (Elt F) ℓ) (ρ : Dev nD → PrngReg) (c : Dev nD) : FVec F S128x64 .f32 := k0_pay50 (wv374 m ρ c) (vLd m ρ c 0 1 128 inb_S4x2x128x256_S1x1x128x64_0_1_0_128)
def wv395 (m : (ℓ : Loc nD τ sig) → Buf (Elt F) ℓ) (ρ : Dev nD → PrngReg) (c : Dev nD) : FVec F S128x64 .f32 := k0_pay51 (qLd m ρ c 1 192 inb_S2x128x256_S1x128x64_1_0_192) (kLd m ρ c 0 1 192 inb_S4x2x128x256_S1x1x128x64_0_1_0_192) (vLd m ρ c 0 1 192 inb_S4x2x128x256_S1x1x128x64_0_1_0_192)
def wv412 (m : (ℓ : Loc nD τ sig) → Buf (Elt F) ℓ) (ρ : Dev nD → PrngReg) (c : Dev nD) : FVec F S128x1 .f32 := k0_pay53 (wv307 m ρ c) (qLd m ρ c 0 0 inb_S2x128x256_S1x128x64_0_0_0) (kLd m ρ c 1 0 0 inb_S4x2x128x256_S1x1x128x64_1_0_0_0)
def wv413 (m : (ℓ : Loc nD τ sig) → Buf (Elt F) ℓ) (ρ : Dev nD → PrngReg) (c : Dev nD) : FVec F S128x128 .bf16 := k0_pay54 (qLd m ρ c 0 0 inb_S2x128x256_S1x128x64_0_0_0) (kLd m ρ c 1 0 0 inb_S4x2x128x256_S1x1x128x64_1_0_0_0)
def wv422 (m : (ℓ : Loc nD τ sig) → Buf (Elt F) ℓ) (ρ : Dev nD → PrngReg) (c : Dev nD) : FVec F S128x1 .f32 := k0_pay56 (wv316 m ρ c) (qLd m ρ c 0 64 inb_S2x128x256_S1x128x64_0_0_64) (kLd m ρ c 1 0 64 inb_S4x2x128x256_S1x1x128x64_1_0_0_64)
def wv423 (m : (ℓ : Loc nD τ sig) → Buf (Elt F) ℓ) (ρ : Dev nD → PrngReg) (c : Dev nD) : FVec F S128x128 .bf16 := k0_pay57 (qLd m ρ c 0 64 inb_S2x128x256_S1x128x64_0_0_64) (kLd m ρ c 1 0 64 inb_S4x2x128x256_S1x1x128x64_1_0_0_64)
def wv425 (m : (ℓ : Loc nD τ sig) → Buf (Elt F) ℓ) (ρ : Dev nD → PrngReg) (c : Dev nD) : FVec F S128x64 .bf16 := k0_pay58 (qLd m ρ c 0 128 inb_S2x128x256_S1x128x64_0_0_128)
def wv427 (m : (ℓ : Loc nD τ sig) → Buf (Elt F) ℓ) (ρ : Dev nD → PrngReg) (c : Dev nD) : FVec F S128x64 .bf16 := k0_pay59 (kLd m ρ c 1 0 128 inb_S4x2x128x256_S1x1x128x64_1_0_0_128)
def wv432 (m : (ℓ : Loc nD τ sig) → Buf (Elt F) ℓ) (ρ : Dev nD → PrngReg) (c : Dev nD) : FVec F S128x1 .f32 := k0_pay61 (wv325 m ρ c) (wv425 m ρ c) (wv427 m ρ c)
def wv433 (m : (ℓ : Loc nD τ sig) → Buf (Elt F) ℓ) (ρ : Dev nD → PrngReg) (c : Dev nD) : FVec F S128x128 .bf16 := k0_pay62 (wv425 m ρ c) (wv427 m ρ c)
def wv442 (m : (ℓ : Loc nD τ sig) → Buf (Elt F) ℓ) (ρ : Dev nD → PrngReg) (c : Dev nD) : FVec F S128x1 .f32 := k0_pay64 (wv334 m ρ c) (qLd m ρ c 0 192 inb_S2x128x256_S1x128x64_0_0_192) (kLd m ρ c 1 0 192 inb_S4x2x128x256_S1x1x128x64_1_0_0_192)
def wv443 (m : (ℓ : Loc nD τ sig) → Buf (Elt F) ℓ) (ρ : Dev nD → PrngReg) (c : Dev nD) : FVec F S128x128 .bf16 := k0_pay65 (qLd m ρ c 0 192 inb_S2x128x256_S1x128x64_0_0_192) (kLd m ρ c 1 0 192 inb_S4x2x128x256_S1x1x128x64_1_0_0_192)
def wv453 (m : (ℓ : Loc nD τ sig) → Buf (Elt F) ℓ) (ρ : Dev nD → PrngReg) (c : Dev nD) : FVec F S128x64 .bf16 := k0_pay66 (qLd m ρ c 1 0 inb_S2x128x256_S1x128x64_1_0_0)
def wv454 (m : (ℓ : Loc nD τ sig) → Buf (Elt F) ℓ) (ρ : Dev nD → PrngReg) (c : Dev nD) : Vec F S1x1x128x64 .bf16 := (kLd m ρ c 1 1 0 inb_S4x2x128x256_S1x1x128x64_1_1_0_0)
def wv460 (m : (ℓ : Loc nD τ sig) → Buf (Elt F) ℓ) (ρ : Dev nD → PrngReg) (c : Dev nD) : FVec F S128x1 .f32 := k0_pay68 (wv355 m ρ c) (wv453 m ρ c) (wv454 m ρ c)
def wv461 (m : (ℓ : Loc nD τ sig) → Buf (Elt F) ℓ) (ρ : Dev nD → PrngReg) (c : Dev nD) : FVec F S128x128 .bf16 := k0_pay69 (wv453 m ρ c) (wv454 m ρ c)
def wv470 (m : (ℓ : Loc nD τ sig) → Buf (Elt F) ℓ) (ρ : Dev nD → PrngReg) (c : Dev nD) : FVec F S128x1 .f32 := k0_pay71 (wv364 m ρ c) (qLd m ρ c 1 64 inb_S2x128x256_S1x128x64_1_0_64) (kLd m ρ c 1 1 64 inb_S4x2x128x256_S1x1x128x64_1_1_0_64)
def wv471 (m : (ℓ : Loc nD τ sig) → Buf (Elt F) ℓ) (ρ : Dev nD → PrngReg) (c : Dev nD) : FVec F S128x128 .bf16 := k0_pay72 (qLd m ρ c 1 64 inb_S2x128x256_S1x128x64_1_0_64) (kLd m ρ c 1 1 64 inb_S4x2x128x256_S1x1x128x64_1_1_0_64)
def wv480 (m : (ℓ : Loc nD τ sig) → Buf (Elt F) ℓ) (ρ : Dev nD → PrngReg) (c : Dev nD) : FVec F S128x1 .f32 := k0_pay74 (wv373 m ρ c) (qLd m ρ c 1 128 inb_S2x128x256_S1x128x64_1_0_128) (kLd m ρ c 1 1 128 inb_S4x2x128x256_S1x1x128x64_1_1_0_128)
def wv481 (m : (ℓ : Loc nD τ sig) → Buf (Elt F) ℓ) (ρ : Dev nD → PrngReg) (c : Dev nD) : FVec F S128x128 .bf16 := k0_pay75 (qLd m ρ c 1 128 inb_S2x128x256_S1x128x64_1_0_128) (kLd m ρ c 1 1 128 inb_S4x2x128x256_S1x1x128x64_1_1_0_128)
def wv486 (m : (ℓ : Loc nD τ sig) → Buf (Elt F) ℓ) (ρ : Dev nD → PrngReg) (c : Dev nD) : FVec F S128x128 .f32 := k0_pay76 (qLd m ρ c 1 192 inb_S2x128x256_S1x128x64_1_0_192) (kLd m ρ c 1 1 192 inb_S4x2x128x256_S1x1x128x64_1_1_0_192)
def wv490 (m : (ℓ : Loc nD τ sig) → Buf (Elt F) ℓ) (ρ : Dev nD → PrngReg) (c : Dev nD) : FVec F S128x1 .f32 := k0_pay78 (wv382 m ρ c) (wv486 m ρ c)
def wv491 (m : (ℓ : Loc nD τ sig) → Buf (Elt F) ℓ) (ρ : Dev nD → PrngReg) (c : Dev nD) : FVec F S128x128 .bf16 := k0_pay79 (wv486 m ρ c)
def wv508 (m : (ℓ : Loc nD τ sig) → Buf (Elt F) ℓ) (ρ : Dev nD → PrngReg) (c : Dev nD) : FVec F S128x1 .f32 := k0_pay81 (wv412 m ρ c) (qLd m ρ c 0 0 inb_S2x128x256_S1x128x64_0_0_0) (kLd m ρ c 3 0 0 inb_S4x2x128x256_S1x1x128x64_3_0_0_0)
def wv509 (m : (ℓ : Loc nD τ sig) → Buf (Elt F) ℓ) (ρ : Dev nD → PrngReg) (c : Dev nD) : FVec F S128x128 .bf16 := k0_pay82 (qLd m ρ c 0 0 inb_S2x128x256_S1x128x64_0_0_0) (kLd m ρ c 3 0 0 inb_S4x2x128x256_S1x1x128x64_3_0_0_0)
def wv511 (m : (ℓ : Loc nD τ sig) → Buf (Elt F) ℓ) (ρ : Dev nD → PrngReg) (c : Dev nD) : FVec F S128x64 .bf16 := k0_pay83 (qLd m ρ c 0 64 inb_S2x128x256_S1x128x64_0_0_64)
def wv513 (m : (ℓ : Loc nD τ sig) → Buf (Elt F) ℓ) (ρ : Dev nD → PrngReg) (c : Dev nD) : FVec F S128x64 .bf16 := k0_pay84 (kLd m ρ c 3 0 64 inb_S4x2x128x256_S1x1x128x64_3_0_0_64)
def wcst_467 (m : (ℓ : Loc nD τ sig) → Buf (Elt F) ℓ) (ρ : Dev nD → PrngReg) (c : Dev nD) : FVec F S128x128 .f32 := (constant S128x128 .f32 0x00000000#32)
def wv518 (m : (ℓ : Loc nD τ sig) → Buf (Elt F) ℓ) (ρ : Dev nD → PrngReg) (c : Dev nD) : FVec F S128x1 .f32 := k0_pay86 (wv422 m ρ c) (wv511 m ρ c) (wv513 m ρ c) (wcst_467 m ρ c)
def wv519 (m : (ℓ : Loc nD τ sig) → Buf (Elt F) ℓ) (ρ : Dev nD → PrngReg) (c : Dev nD) : FVec F S128x128 .bf16 := k0_pay87 (wv511 m ρ c) (wv513 m ρ c) (wcst_467 m ρ c)
def wv528 (m : (ℓ : Loc nD τ sig) → Buf (Elt F) ℓ) (ρ : Dev nD → PrngReg) (c : Dev nD) : FVec F S128x1 .f32 := k0_pay89 (wv432 m ρ c) (qLd m ρ c 0 128 inb_S2x128x256_S1x128x64_0_0_128) (kLd m ρ c 3 0 128 inb_S4x2x128x256_S1x1x128x64_3_0_0_128)
def wv529 (m : (ℓ : Loc nD τ sig) → Buf (Elt F) ℓ) (ρ : Dev nD → PrngReg) (c : Dev nD) : FVec F S128x128 .bf16 := k0_pay90 (qLd m ρ c 0 128 inb_S2x128x256_S1x128x64_0_0_128) (kLd m ρ c 3 0 128 inb_S4x2x128x256_S1x1x128x64_3_0_0_128)
def wv538 (m : (ℓ : Loc nD τ sig) → Buf (Elt F) ℓ) (ρ : Dev nD → PrngReg) (c : Dev nD) : FVec F S128x1 .f32 := k0_pay92 (wv442 m ρ c) (qLd m ρ c 0 192 inb_S2x128x256_S1x128x64_0_0_192) (kLd m ρ c 3 0 192 inb_S4x2x128x256_S1x1x128x64_3_0_0_192)
def wv539 (m : (ℓ : Loc nD τ sig) → Buf (Elt F) ℓ) (ρ : Dev nD → PrngReg) (c : Dev nD) : FVec F S128x128 .bf16 := k0_pay93 (qLd m ρ c 0 192 inb_S2x128x256_S1x128x64_0_0_192) (kLd m ρ c 3 0 192 inb_S4x2x128x256_S1x1x128x64_3_0_0_192)
def wv556 (m : (ℓ : Loc nD τ sig) → Buf (Elt F) ℓ) (ρ : Dev nD → PrngReg) (c : Dev nD) : FVec F S128x1 .f32 := k0_pay95 (wv460 m ρ c) (qLd m ρ c 1 0 inb_S2x128x256_S1x128x64_1_0_0) (kLd m ρ c 3 1 0 inb_S4x2x128x256_S1x1x128x64_3_1_0_0)
def wv557 (m : (ℓ : Loc nD τ sig) → Buf (Elt F) ℓ) (ρ : Dev nD → PrngReg) (c : Dev nD) : FVec F S128x128 .bf16 := k0_pay96 (qLd m ρ c 1 0 inb_S2x128x256_S1x128x64_1_0_0) (kLd m ρ c 3 1 0 inb_S4x2x128x256_S1x1x128x64_3_1_0_0)
def wv566 (m : (ℓ : Loc nD τ sig) → Buf (Elt F) ℓ) (ρ : Dev nD → PrngReg) (c : Dev nD) : FVec F S128x1 .f32 := k0_pay98 (wv470 m ρ c) (qLd m ρ c 1 64 inb_S2x128x256_S1x128x64_1_0_64) (kLd m ρ c 3 1 64 inb_S4x2x128x256_S1x1x128x64_3_1_0_64)
def wv567 (m : (ℓ : Loc nD τ sig) → Buf (Elt F) ℓ) (ρ : Dev nD → PrngReg) (c : Dev nD) : FVec F S128x128 .bf16 := k0_pay99 (qLd m ρ c 1 64 inb_S2x128x256_S1x128x64_1_0_64) (kLd m ρ c 3 1 64 inb_S4x2x128x256_S1x1x128x64_3_1_0_64)
def wv573 (m : (ℓ : Loc nD τ sig) → Buf (Elt F) ℓ) (ρ : Dev nD → PrngReg) (c : Dev nD) : FVec F S128x128 .f32 := k0_pay100 (qLd m ρ c 1 128 inb_S2x128x256_S1x128x64_1_0_128) (kLd m ρ c 3 1 128 inb_S4x2x128x256_S1x1x128x64_3_1_0_128)
def wv576 (m : (ℓ : Loc nD τ sig) → Buf (Elt F) ℓ) (ρ : Dev nD → PrngReg) (c : Dev nD) : FVec F S128x1 .f32 := k0_pay101 (wv480 m ρ c) (wv573 m ρ c)
def wv577 (m : (ℓ : Loc nD τ sig) → Buf (Elt F) ℓ) (ρ : Dev nD → PrngReg) (c : Dev nD) : FVec F S128x128 .bf16 := k0_pay102 (wv573 m ρ c)
def wv586 (m : (ℓ : Loc nD τ sig) → Buf (Elt F) ℓ) (ρ : Dev nD → PrngReg) (c : Dev nD) : FVec F S128x1 .f32 := k0_pay104 (wv490 m ρ c) (qLd m ρ c 1 192 inb_S2x128x256_S1x128x64_1_0_192) (kLd m ρ c 3 1 192 inb_S4x2x128x256_S1x1x128x64_3_1_0_192)
def wv587 (m : (ℓ : Loc nD τ sig) → Buf (Elt F) ℓ) (ρ : Dev nD → PrngReg) (c : Dev nD) : FVec F S128x128 .bf16 := k0_pay105 (qLd m ρ c 1 192 inb_S2x128x256_S1x128x64_1_0_192) (kLd m ρ c 3 1 192 inb_S4x2x128x256_S1x1x128x64_3_1_0_192)
def wv600 (m : (ℓ : Loc nD τ sig) → Buf (Elt F) ℓ) (ρ : Dev nD → PrngReg) (c : Dev nD) : FVec F S128x128 .f32 := k0_pay106 (qLd m ρ c 0 0 inb_S2x128x256_S1x128x64_0_0_0) (kLd m ρ c 2 0 0 inb_S4x2x128x256_S1x1x128x64_2_0_0_0)
def wv604 (m : (ℓ : Loc nD τ sig) → Buf (Elt F) ℓ) (ρ : Dev nD → PrngReg) (c : Dev nD) : FVec F S128x1 .f32 := k0_pay108 (wv508 m ρ c) (wv600 m ρ c)
def wv605 (m : (ℓ : Loc nD τ sig) → Buf (Elt F) ℓ) (ρ : Dev nD → PrngReg) (c : Dev nD) : FVec F S128x128 .bf16 := k0_pay109 (wv600 m ρ c)
def wv614 (m : (ℓ : Loc nD τ sig) → Buf (Elt F) ℓ) (ρ : Dev nD → PrngReg) (c : Dev nD) : FVec F S128x1 .f32 := k0_pay111 (wv518 m ρ c) (qLd m ρ c 0 64 inb_S2x128x256_S1x128x64_0_0_64) (kLd m ρ c 2 0 64 inb_S4x2x128x256_S1x1x128x64_2_0_0_64)
def wv615 (m : (ℓ : Loc nD τ sig) → Buf (Elt F) ℓ) (ρ : Dev nD → PrngReg) (c : Dev nD) : FVec F S128x128 .bf16 := k0_pay112 (qLd m ρ c 0 64 inb_S2x128x256_S1x128x64_0_0_64) (kLd m ρ c 2 0 64 inb_S4x2x128x256_S1x1x128x64_2_0_0_64)
def wv624 (m : (ℓ : Loc nD τ sig) → Buf (Elt F) ℓ) (ρ : Dev nD → PrngReg) (c : Dev nD) : FVec F S128x1 .f32 := k0_pay114 (wv528 m ρ c) (qLd m ρ c 0 128 inb_S2x128x256_S1x128x64_0_0_128) (kLd m ρ c 2 0 128 inb_S4x2x128x256_S1x1x128x64_2_0_0_128)
def wv625 (m : (ℓ : Loc nD τ sig) → Buf (Elt F) ℓ) (ρ : Dev nD → PrngReg) (c : Dev nD) : FVec F S128x128 .bf16 := k0_pay115 (qLd m ρ c 0 128 inb_S2x128x256_S1x128x64_0_0_128) (kLd m ρ c 2 0 128 inb_S4x2x128x256_S1x1x128x64_2_0_0_128)
def wv631 (m : (ℓ : Loc nD τ sig) → Buf (Elt F) ℓ) (ρ : Dev nD → PrngReg) (c : Dev nD) : FVec F S128x128 .f32 := k0_pay116 (qLd m ρ c 0 192 inb_S2x128x256_S1x128x64_0_0_192) (kLd m ρ c 2 0 192 inb_S4x2x128x256_S1x1x128x64_2_0_0_192)
def wv632 (m : (ℓ : Loc nD τ sig) → Buf (Elt F) ℓ) (ρ : Dev nD → PrngReg) (c : Dev nD) : FVec F S128 .f32 := k0_pay117 (qLd m ρ c 0 192 inb_S2x128x256_S1x128x64_0_0_192) (kLd m ρ c 2 0 192 inb_S4x2x128x256_S1x1x128x64_2_0_0_192)
def wv634 (m : (ℓ : Loc nD τ sig) → Buf (Elt F) ℓ) (ρ : Dev nD → PrngReg) (c : Dev nD) : FVec F S128x1 .f32 := k0_pay118 (wv538 m ρ c) (wv632 m ρ c)
def wv635 (m : (ℓ : Loc nD τ sig) → Buf (Elt F) ℓ) (ρ : Dev nD → PrngReg) (c : Dev nD) : FVec F S128x128 .bf16 := k0_pay119 (wv631 m ρ c)
def wv652 (m : (ℓ : Loc nD τ sig) → Buf (Elt F) ℓ) (ρ : Dev nD → PrngReg) (c : Dev nD) : FVec F S128x1 .f32 := k0_pay121 (wv556 m ρ c) (qLd m ρ c 1 0 inb_S2x128x256_S1x128x64_1_0_0) (kLd m ρ c 2 1 0 inb_S4x2x128x256_S1x1x128x64_2_1_0_0)
def wv653 (m : (ℓ : Loc nD τ sig) → Buf (Elt F) ℓ) (ρ : Dev nD → PrngReg) (c : Dev nD) : FVec F S128x128 .bf16 := k0_pay122 (qLd m ρ c 1 0 inb_S2x128x256_S1x128x64_1_0_0) (kLd m ρ c 2 1 0 inb_S4x2x128x256_S1x1x128x64_2_1_0_0)
def wv659 (m : (ℓ : Loc nD τ sig) → Buf (Elt F) ℓ) (ρ : Dev nD → PrngReg) (c : Dev nD) : FVec F S128x128 .f32 := k0_pay123 (qLd m ρ c 1 64 inb_S2x128x256_S1x128x64_1_0_64) (kLd m ρ c 2 1 64 inb_S4x2x128x256_S1x1x128x64_2_1_0_64)
def wv662 (m : (ℓ : Loc nD τ sig) → Buf (Elt F) ℓ) (ρ : Dev nD → PrngReg) (c : Dev nD) : FVec F S128x1 .f32 := k0_pay124 (wv566 m ρ c) (wv659 m ρ c)
def wv663 (m : (ℓ : Loc nD τ sig) → Buf (Elt F) ℓ) (ρ : Dev nD → PrngReg) (c : Dev nD) : FVec F S128x128 .bf16 := k0_pay125 (wv659 m ρ c)
def wv672 (m : (ℓ : Loc nD τ sig) → Buf (Elt F) ℓ) (ρ : Dev nD → PrngReg) (c : Dev nD) : FVec F S128x1 .f32 := k0_pay127 (wv576 m ρ c) (qLd m ρ c 1 128 inb_S2x128x256_S1x128x64_1_0_128) (kLd m ρ c 2 1 128 inb_S4x2x128x256_S1x1x128x64_2_1_0_128)
def wv673 (m : (ℓ : Loc nD τ sig) → Buf (Elt F) ℓ) (ρ : Dev nD → PrngReg) (c : Dev nD) : FVec F S128x128 .bf16 := k0_pay128 (qLd m ρ c 1 128 inb_S2x128x256_S1x128x64_1_0_128) (kLd m ρ c 2 1 128 inb_S4x2x128x256_S1x1x128x64_2_1_0_128)
def wv682 (m : (ℓ : Loc nD τ sig) → Buf (Elt F) ℓ) (ρ : Dev nD → PrngReg) (c : Dev nD) : FVec F S128x1 .f32 := k0_pay130 (wv586 m ρ c) (qLd m ρ c 1 192 inb_S2x128x256_S1x128x64_1_0_192) (kLd m ρ c 2 1 192 inb_S4x2x128x256_S1x1x128x64_2_1_0_192)
def wv683 (m : (ℓ : Loc nD τ sig) → Buf (Elt F) ℓ) (ρ : Dev nD → PrngReg) (c : Dev nD) : FVec F S128x128 .bf16 := k0_pay131 (qLd m ρ c 1 192 inb_S2x128x256_S1x128x64_1_0_192) (kLd m ρ c 2 1 192 inb_S4x2x128x256_S1x1x128x64_2_1_0_192)
def wv695 (m : (ℓ : Loc nD τ sig) → Buf (Elt F) ℓ) (ρ : Dev nD → PrngReg) (c : Dev nD) : FVec F S128x64 .f32 := k0_pay132 (wv338 m ρ c) (wv413 m ρ c) (vLd m ρ c 1 0 0 inb_S4x2x128x256_S1x1x128x64_1_0_0_0)
def wv699 (m : (ℓ : Loc nD τ sig) → Buf (Elt F) ℓ) (ρ : Dev nD → PrngReg) (c : Dev nD) : FVec F S128x64 .f32 := k0_pay133 (wv341 m ρ c) (wv423 m ρ c) (vLd m ρ c 1 0 64 inb_S4x2x128x256_S1x1x128x64_1_0_0_64)
def wv703 (m : (ℓ : Loc nD τ sig) → Buf (Elt F) ℓ) (ρ : Dev nD → PrngReg) (c : Dev nD) : FVec F S128x64 .f32 := k0_pay134 (wv344 m ρ c) (wv433 m ρ c) (vLd m ρ c 1 0 128 inb_S4x2x128x256_S1x1x128x64_1_0_0_128)
def wv707 (m : (ℓ : Loc nD τ sig) → Buf (Elt F) ℓ) (ρ : Dev nD → PrngReg) (c : Dev nD) : FVec F S128x64 .f32 := k0_pay135 (wv347 m ρ c) (wv443 m ρ c) (vLd m ρ c 1 0 192 inb_S4x2x128x256_S1x1x128x64_1_0_0_192)
def wv711 (m : (ℓ : Loc nD τ sig) → Buf (Elt F) ℓ) (ρ : Dev nD → PrngReg) (c : Dev nD) : FVec F S128x64 .f32 := k0_pay136 (wv386 m ρ c) (wv461 m ρ c) (vLd m ρ c 1 1 0 inb_S4x2x128x256_S1x1x128x64_1_1_0_0)
def wv715 (m : (ℓ : Loc nD τ sig) → Buf (Elt F) ℓ) (ρ : Dev nD → PrngReg) (c : Dev nD) : FVec F S128x64 .f32 := k0_pay137 (wv389 m ρ c) (wv471 m ρ c) (vLd m ρ c 1 1 64 inb_S4x2x128x256_S1x1x128x64_1_1_0_64)
def wv719 (m : (ℓ : Loc nD τ sig) → Buf (Elt F) ℓ) (ρ : Dev nD → PrngReg) (c : Dev nD) : FVec F S128x64 .f32 := k0_pay138 (wv392 m ρ c) (wv481 m ρ c) (vLd m ρ c 1 1 128 inb_S4x2x128x256_S1x1x128x64_1_1_0_128)
def wv723 (m : (ℓ : Loc nD τ sig) → Buf (Elt F) ℓ) (ρ : Dev nD → PrngReg) (c : Dev nD) : FVec F S128x64 .f32 := k0_pay139 (wv395 m ρ c) (wv491 m ρ c) (vLd m ρ c 1 1 192 inb_S4x2x128x256_S1x1x128x64_1_1_0_192)
def wv735 (m : (ℓ : Loc nD τ sig) → Buf (Elt F) ℓ) (ρ : Dev nD → PrngReg) (c : Dev nD) : FVec F S128x64 .f32 := k0_pay140 (wv509 m ρ c) (wv695 m ρ c) (vLd m ρ c 3 0 0 inb_S4x2x128x256_S1x1x128x64_3_0_0_0)
def wv739 (m : (ℓ : Loc nD τ sig) → Buf (Elt F) ℓ) (ρ : Dev nD → PrngReg) (c : Dev nD) : FVec F S128x64 .f32 := k0_pay141 (wv519 m ρ c) (wv699 m ρ c) (vLd m ρ c 3 0 64 inb_S4x2x128x256_S1x1x128x64_3_0_0_64)
def wv741 (m : (ℓ : Loc nD τ sig) → Buf (Elt F) ℓ) (ρ : Dev nD → PrngReg) (c : Dev nD) : FVec F S128x64 .bf16 := k0_pay142 (vLd m ρ c 3 0 128 inb_S4x2x128x256_S1x1x128x64_3_0_0_128)
def wv743 (m : (ℓ : Loc nD τ sig) → Buf (Elt F) ℓ) (ρ : Dev nD → PrngReg) (c : Dev nD) : FVec F S128x64 .f32 := k0_pay143 (wv529 m ρ c) (wv703 m ρ c) (wv741 m ρ c)
def wv747 (m : (ℓ : Loc nD τ sig) → Buf (Elt F) ℓ) (ρ : Dev nD → PrngReg) (c : Dev nD) : FVec F S128x64 .f32 := k0_pay144 (wv539 m ρ c) (wv707 m ρ c) (vLd m ρ c 3 0 192 inb_S4x2x128x256_S1x1x128x64_3_0_0_192)
def wv751 (m : (ℓ : Loc nD τ sig) → Buf (Elt F) ℓ) (ρ : Dev nD → PrngReg) (c : Dev nD) : FVec F S128x64 .f32 := k0_pay145 (wv557 m ρ c) (wv711 m ρ c) (vLd m ρ c 3 1 0 inb_S4x2x128x256_S1x1x128x64_3_1_0_0)
def wv755 (m : (ℓ : Loc nD τ sig) → Buf (Elt F) ℓ) (ρ : Dev nD → PrngReg) (c : Dev nD) : FVec F S128x64 .f32 := k0_pay146 (wv567 m ρ c) (wv715 m ρ c) (vLd m ρ c 3 1 64 inb_S4x2x128x256_S1x1x128x64_3_1_0_64)
def wv759 (m : (ℓ : Loc nD τ sig) → Buf (Elt F) ℓ) (ρ : Dev nD → PrngReg) (c : Dev nD) : FVec F S128x64 .f32 := k0_pay147 (wv577 m ρ c) (wv719 m ρ c) (vLd m ρ c 3 1 128 inb_S4x2x128x256_S1x1x128x64_3_1_0_128)
def wv763 (m : (ℓ : Loc nD τ sig) → Buf (Elt F) ℓ) (ρ : Dev nD → PrngReg) (c : Dev nD) : FVec F S128x64 .f32 := k0_pay148 (wv587 m ρ c) (wv723 m ρ c) (vLd m ρ c 3 1 192 inb_S4x2x128x256_S1x1x128x64_3_1_0_192)
def wv775 (m : (ℓ : Loc nD τ sig) → Buf (Elt F) ℓ) (ρ : Dev nD → PrngReg) (c : Dev nD) : FVec F S128x64 .f32 := k0_pay149 (wv605 m ρ c) (wv735 m ρ c) (vLd m ρ c 2 0 0 inb_S4x2x128x256_S1x1x128x64_2_0_0_0)
def wv779 (m : (ℓ : Loc nD τ sig) → Buf (Elt F) ℓ) (ρ : Dev nD → PrngReg) (c : Dev nD) : FVec F S128x64 .f32 := k0_pay150 (wv615 m ρ c) (wv739 m ρ c) (vLd m ρ c 2 0 64 inb_S4x2x128x256_S1x1x128x64_2_0_0_64)
def wv783 (m : (ℓ : Loc nD τ sig) → Buf (Elt F) ℓ) (ρ : Dev nD → PrngReg) (c : Dev nD) : FVec F S128x64 .f32 := k0_pay151 (wv625 m ρ c) (wv743 m ρ c) (vLd m ρ c 2 0 128 inb_S4x2x128x256_S1x1x128x64_2_0_0_128)
def wv787 (m : (ℓ : Loc nD τ sig) → Buf (Elt F) ℓ) (ρ : Dev nD → PrngReg) (c : Dev nD) : FVec F S128x64 .f32 := k0_pay152 (wv635 m ρ c) (wv747 m ρ c) (vLd m ρ c 2 0 192 inb_S4x2x128x256_S1x1x128x64_2_0_0_192)
def wv791 (m : (ℓ : Loc nD τ sig) → Buf (Elt F) ℓ) (ρ : Dev nD → PrngReg) (c : Dev nD) : FVec F S128x64 .f32 := k0_pay153 (wv653 m ρ c) (wv751 m ρ c) (vLd m ρ c 2 1 0 inb_S4x2x128x256_S1x1x128x64_2_1_0_0)
def wv793 (m : (ℓ : Loc nD τ sig) → Buf (Elt F) ℓ) (ρ : Dev nD → PrngReg) (c : Dev nD) : FVec F S128x64 .bf16 := k0_pay154 (vLd m ρ c 2 1 64 inb_S4x2x128x256_S1x1x128x64_2_1_0_64)
def wv795 (m : (ℓ : Loc nD τ sig) → Buf (Elt F) ℓ) (ρ : Dev nD → PrngReg) (c : Dev nD) : FVec F S128x64 .f32 := k0_pay155 (wv663 m ρ c) (wv755 m ρ c) (wv793 m ρ c)
def wv799 (m : (ℓ : Loc nD τ sig) → Buf (Elt F) ℓ) (ρ : Dev nD → PrngReg) (c : Dev nD) : FVec F S128x64 .f32 := k0_pay156 (wv673 m ρ c) (wv759 m ρ c) (vLd m ρ c 2 1 128 inb_S4x2x128x256_S1x1x128x64_2_1_0_128)
def wv803 (m : (ℓ : Loc nD τ sig) → Buf (Elt F) ℓ) (ρ : Dev nD → PrngReg) (c : Dev nD) : FVec F S128x64 .f32 := k0_pay157 (wv683 m ρ c) (wv763 m ρ c) (vLd m ρ c 2 1 192 inb_S4x2x128x256_S1x1x128x64_2_1_0_192)
def wv805 (m : (ℓ : Loc nD τ sig) → Buf (Elt F) ℓ) (ρ : Dev nD → PrngReg) (c : Dev nD) : FVec F S256x512 .bf16 := k0_pay158 (woLd m ρ c)

theorem wv2_eq (c : Dev nD) : wv2 m ρ c = pos c := by
  have h : ∀ c : Dev nD, (Scalar.remsi (Scalar.divsi (Dev.word c) 1#32) 4#32) = Scalar.remsi (Dev.word c) 4#32 := by decide
  exact h c
theorem wv70_eq (c : Dev nD) : wv70 m ρ c = cosT c := by
  unfold wv70 wv17 wv22 wv31 wv32 cosT; rw [wv2_eq]
theorem wv71_eq (c : Dev nD) : wv71 m ρ c = sinT c := by
  unfold wv71 wv17 wv22 wv31 wv32 sinT; rw [wv2_eq]
theorem wv123_eq (c : Dev nD) : wv123 m ρ c = swapM := rfl

theorem stK0 (c : Dev nD) : (k0_pay13 (wv70 m ρ c) (wv71 m ρ c) (wv123 m ρ c) (wkLd m ρ c) (xLd0 m ρ c)) = kBlk m ρ c 0 := by
  simp only [wv125, wv127, wv129, wv227, wv229, wv275, wv287, wv70_eq, wv71_eq, wv123_eq, wv805]
  rfl
theorem stK1 (c : Dev nD) : (k0_pay14 (wv70 m ρ c) (wv71 m ρ c) (wv123 m ρ c) (wv125 m ρ c) (wv129 m ρ c)) = kBlk m ρ c 1 := by
  simp only [wv125, wv127, wv129, wv227, wv229, wv275, wv287, wv70_eq, wv71_eq, wv123_eq, wv805]
  rfl
theorem stV0 (c : Dev nD) : (k0_pay17 (wv229 m ρ c)) = vBlk m ρ c 0 := by
  simp only [wv125, wv127, wv129, wv227, wv229, wv275, wv287, wv70_eq, wv71_eq, wv123_eq, wv805]
  rfl
theorem stV1 (c : Dev nD) : (k0_pay18 (wv129 m ρ c) (wv227 m ρ c)) = vBlk m ρ c 1 := by
  simp only [wv125, wv127, wv129, wv227, wv229, wv275, wv287, wv70_eq, wv71_eq, wv123_eq, wv805]
  rfl
theorem stQ0 (c : Dev nD) : (wv287 m ρ c) = qBlk m ρ c 0 := by
  simp only [wv125, wv127, wv129, wv227, wv229, wv275, wv287, wv70_eq, wv71_eq, wv123_eq, wv805]
  rfl
theorem stQ1 (c : Dev nD) : (k0_pay21 (wv70 m ρ c) (wv71 m ρ c) (wv123 m ρ c) (wv129 m ρ c) (wv275 m ρ c)) = qBlk m ρ c 1 := by
  simp only [wv125, wv127, wv129, wv227, wv229, wv275, wv287, wv70_eq, wv71_eq, wv123_eq, wv805]
  rfl
theorem stO0 (c : Dev nD) : (k0_pay159 (wv604 m ρ c) (wv614 m ρ c) (wv624 m ρ c) (wv634 m ρ c) (wv775 m ρ c) (wv779 m ρ c) (wv783 m ρ c) (wv787 m ρ c) (woLd m ρ c)) = oBlk m ρ c 0 := by
  rfl
theorem stO1 (c : Dev nD) : (k0_pay160 (wv652 m ρ c) (wv662 m ρ c) (wv672 m ρ c) (wv682 m ρ c) (wv791 m ρ c) (wv795 m ρ c) (wv799 m ρ c) (wv803 m ρ c) (wv805 m ρ c)) = oBlk m ρ c 1 := by
  rfl

end Cert.KernelIdeal.Ring

end
-- ==== Proof.Part1.lean ====
/-
# Parts 1 to 9 of the body
-/
module

public import proofs.«01_k».proof.Proof.Vals

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem part1 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (d0 : Dev nD) (v2 : BitVec 32) (v3 : Sems sig S_) (v17 : FVec F S128x256 .f32) (v22 : IVec S128x256 32) (v31 : IVec S128x256 1), IVec S128x256 32) → sProp 𝕄} :
    iprop(records m ρ K ∗ oX c (due c) ∗ tok (on c 1) 0 0 ∗ tok (on c 2) 0 1 ∗ tok (on c 3) 0 2 ∗ kP c 1 0 fullShare f₀ ∗ kP c 1 1 fullShare f₀ ∗ vP c 1 fullShare f₁ ∗ kP c 2 0 fullShare f₀ ∗ kP c 2 1 fullShare f₀ ∗ vP c 2 fullShare f₁ ∗ kP c 3 0 fullShare f₀ ∗ kP c 3 1 fullShare f₀ ∗ vP c 3 fullShare f₁)
      ⊢ iprop((oX c (dueX c) -∗ Q ⟨c, (wv2 m ρ c), (wv3 m ρ c), (wv17 m ρ c), (wv22 m ρ c), (wv31 m ρ c), (wv32 m ρ c)⟩)
        -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Q) := by
  rw [k0_part1_eq_skeleton]
  unfold k0_part1_skel wv2 wv3 wv17 wv22 wv31 wv32
  simp only [semSignalWord, semWaitWord, Prog.lift, Prog.bind_op, Prog.bind_ret, Prog.pure_eq_ret]
  iintro ⟨#HR, HO, Htb0, Htb1, Htb2, HK10, HK11, HV1, HK20, HK21, HV2, HK30, HK31, HV3⟩ HQ
  rw [wp_deviceId]
  iapply (wp_sig m ρ K c _ 0 (Fin.ext (k0_dev1_eq c)) _ rfl _ f₀ f₀ f₁) $$ [HO Htb0 HK10 HK11 HV1]
  · isplitr; · iexact HR
    isplitl [HO]; · iexact HO
    isplitl [Htb0]; · iexact Htb0
    isplitl [HK10]; · iexact HK10
    isplitl [HK11]; · iexact HK11
    iexact HV1
  iintro HO
  iapply (wp_sig m ρ K c _ 1 (Fin.ext (k0_dev2_eq c)) _ rfl _ f₀ f₀ f₁) $$ [HO Htb1 HK20 HK21 HV2]
  · isplitr; · iexact HR
    isplitl [HO]; · iexact HO
    isplitl [Htb1]; · iexact Htb1
    isplitl [HK20]; · iexact HK20
    isplitl [HK21]; · iexact HK21
    iexact HV2
  iintro HO
  iapply (wp_sig m ρ K c _ 2 (Fin.ext (k0_dev3_eq c)) _ rfl _ f₀ f₀ f₁) $$ [HO Htb2 HK30 HK31 HV3]
  · isplitr; · iexact HR
    isplitl [HO]; · iexact HO
    isplitl [Htb2]; · iexact Htb2
    isplitl [HK30]; · iexact HK30
    isplitl [HK31]; · iexact HK31
    iexact HV3
  iintro HO
  rw [wp_ret]; imodintro
  iapply HQ
  iexact HO

theorem part2 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v70 : FVec F S128x256 .f32) (v71 : FVec F S128x256 .f32) (v72 : IVec S256x256 32) (v73 : IVec S256x256 32) (v76 : IVec S256x256 1), BitVec 32) → sProp 𝕄} :
    Q ⟨(wv70 m ρ c), (wv71 m ρ c), (wv72 m ρ c), (wv73 m ρ c), (wv76 m ρ c), (wv78 m ρ c)⟩ ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv2 m ρ c) (wv17 m ρ c) (wv22 m ρ c) (wv31 m ρ c) (wv32 m ρ c)) Q := by
  rw [k0_part2_eq_skeleton]
  unfold k0_part2_skel wv70 wv71 wv72 wv73 wv76 wv78
  simp only [semSignalWord, semWaitWord, Prog.lift, Prog.bind_op, Prog.bind_ret, Prog.pure_eq_ret]
  iintro HQ; rw [wp_ret]; imodintro; iexact HQ

theorem part3 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (FVec F S256x256 .bf16) → sProp 𝕄} :
    Q (wv123 m ρ c) ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv72 m ρ c) (wv73 m ρ c) (wv76 m ρ c) (wv78 m ρ c)) Q := by
  rw [k0_part3_eq_skeleton]
  unfold k0_part3_skel wv123
  simp only [semSignalWord, semWaitWord, Prog.lift, Prog.bind_op, Prog.bind_ret, Prog.pure_eq_ret]
  iintro HQ; rw [wp_ret]; imodintro; iexact HQ

theorem part4 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v125 : FVec F S512x256 .bf16) (v127 : FVec F S128x512 .bf16) (v129 : FVec F S128x512 .bf16), BitVec 32) → sProp 𝕄} :
    iprop(records m ρ K ∗ oX c (dueX c) ∗ kP c 0 0 fullShare f₀ ∗ ((((c : Dev nD) : Thread nD τ).loc cc0_stg0_0) ↦{fullShare} xS m ρ c) ∗ ((((c : Dev nD) : Thread nD τ).loc cc0_stg2_0) ↦{fullShare} wkS m ρ c) ∗ levAts L lv ∗ crd c 0 3 ∗ atP c 0)
      ⊢ iprop((oX c [(kcell (on c 3) 9, NK), (kcell (on c 1) 13, NK), (kcell (on c 2) 11, NK), (kcell (on c 3) 10, NK), (kcell (on c 1) 14, NK), (kcell (on c 2) 12, NK), (kcell (on c 3) 19, NV), (kcell (on c 1) 21, NV), (kcell (on c 2) 20, NV)] ∗ ((((c : Dev nD) : Thread nD τ).loc cc0_stg0_0) ↦{fullShare} xS m ρ c) ∗ ((((c : Dev nD) : Thread nD τ).loc cc0_stg2_0) ↦{fullShare} wkS m ρ c) ∗ kP c 0 0 (sh 0) (kAll m ρ c) ∗ kP c 0 0 (sh 1) (kAll m ρ c) ∗ kP c 0 0 (sh 2) (kAll m ρ c) ∗ kP c 0 0 kept (kAll m ρ c) ∗ zero c 0 ∗ (∃ f, kP (on c 3) 1 0 fullShare f) ∗ (∃ f, kP (on c 3) 1 1 fullShare f) ∗ (∃ f, vP (on c 3) 1 fullShare f) ∗ (∃ f, kP (on c 2) 2 0 fullShare f) ∗ (∃ f, kP (on c 2) 2 1 fullShare f) ∗ (∃ f, vP (on c 2) 2 fullShare f) ∗ (∃ f, kP (on c 1) 3 0 fullShare f) ∗ (∃ f, kP (on c 1) 3 1 fullShare f) ∗ (∃ f, vP (on c 1) 3 fullShare f) -∗ Q ⟨(wv125 m ρ c), (wv127 m ρ c), (wv129 m ρ c), (wv143 m ρ c)⟩)
        -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv2 m ρ c) (wv3 m ρ c) (wv70 m ρ c) (wv71 m ρ c) (wv123 m ρ c)) Q) := by
  rw [k0_part4_eq_skeleton]
  unfold k0_part4_skel wv125 wv127 wv129 wv143
  simp only [semSignalWord, semWaitWord, Prog.lift, Prog.bind_op, Prog.bind_ret, Prog.pure_eq_ret]
  iintro ⟨#HR, HO, HK00, Hx, Hwk, #Hlev, Hc0, Ha0⟩ HQ
  iapply (wp_load 𝒱₀ (c : Thread nD τ) none Set.univ (m := Memref.whole cc0_stg2_0) (Finset.subset_univ _)) $$ Hwk; iintro Hwk
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg0_0) (Finset.subset_univ _)) $$ Hx; iintro Hx
  iapply (ldKrow c 0 0 _ _ _) $$ HK00; iintro HK00
  iapply (stK m ρ c 0 _ _ _ (stK0 m ρ c)) $$ HK00; iintro HK00
  ihave HK00 := (Entails.of_eq (kP_share c 0 0 (kAll m ρ c))) $$ HK00
  icases HK00 with ⟨HK000, HK001, HK002, HK00k⟩
  iapply (wp_bar m ρ K c _ rfl) $$ [HO Hc0 Ha0]
  · isplitr; · iexact HR
    isplitr; · iexact Hlev
    isplitl [HO]; · iexact HO
    isplitl [Hc0]; · iexact Hc0
    iexact Ha0
  iintro ⟨HO, Hz0, HB0, HB1, HB2⟩
  ihave HO := (Entails.of_eq (oX_dueX c)) $$ HO
  ihave HB0 := (Entails.of_eq (barPay0 c)) $$ HB0
  icases HB0 with ⟨HD10, HD11, HDV1⟩
  ihave HB1 := (Entails.of_eq (barPay1 c)) $$ HB1
  icases HB1 with ⟨HD20, HD21, HDV2⟩
  ihave HB2 := (Entails.of_eq (barPay2 c)) $$ HB2
  icases HB2 with ⟨HD30, HD31, HDV3⟩
  rw [wp_ret]; imodintro
  iapply HQ
  isplitl [HO]; · iexact HO
  isplitl [Hx]; · iexact Hx
  isplitl [Hwk]; · iexact Hwk
  isplitl [HK000]; · iexact HK000
  isplitl [HK001]; · iexact HK001
  isplitl [HK002]; · iexact HK002
  isplitl [HK00k]; · iexact HK00k
  isplitl [Hz0]; · iexact Hz0
  isplitl [HD10]; · iexact HD10
  isplitl [HD11]; · iexact HD11
  isplitl [HDV1]; · iexact HDV1
  isplitl [HD20]; · iexact HD20
  isplitl [HD21]; · iexact HD21
  isplitl [HDV2]; · iexact HDV2
  isplitl [HD30]; · iexact HD30
  isplitl [HD31]; · iexact HD31
  iexact HDV3

theorem part5 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v155 : BitVec 32), BitVec 32) → sProp 𝕄} :
    iprop(records m ρ K ∗ oX c [(kcell (on c 3) 9, NK), (kcell (on c 1) 13, NK), (kcell (on c 2) 11, NK), (kcell (on c 3) 10, NK), (kcell (on c 1) 14, NK), (kcell (on c 2) 12, NK), (kcell (on c 3) 19, NV), (kcell (on c 1) 21, NV), (kcell (on c 2) 20, NV)] ∗ tok c 1 0 ∗ tok c 5 0 ∗ tok (on c 3) 9 0 ∗ tok (on c 1) 13 0 ∗ kP c 0 0 (sh 0) (kAll m ρ c) ∗ kP c 0 0 (sh 2) (kAll m ρ c) ∗ (∃ f, kP (on c 3) 1 0 fullShare f) ∗ (∃ f, kP (on c 1) 3 0 fullShare f))
      ⊢ iprop((oX c [(kcell (on c 2) 11, NK), (kcell (on c 3) 10, NK), (kcell (on c 1) 14, NK), (kcell (on c 2) 12, NK), (kcell (on c 3) 19, NV), (kcell (on c 1) 21, NV), (kcell (on c 2) 20, NV)] ∗ crd c 5 NK ∗ crd c 1 NK -∗ Q ⟨(wv155 m ρ c), (wv167 m ρ c)⟩)
        -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (wv2 m ρ c)) Q) := by
  rw [k0_part5_eq_skeleton]
  unfold k0_part5_skel wv155 wv167
  simp only [semSignalWord, semWaitWord, Prog.lift, Prog.bind_op, Prog.bind_ret, Prog.pure_eq_ret]
  iintro ⟨#HR, HO, Ht1, Ht5, Hr9, Hr13, HK000, HK002, HD10, HD30⟩ HQ
  icases HD10 with ⟨%g, HD10⟩
  iapply (wp_sndK m ρ K c _ 3 1 0 (Fin.ext (k0_dev4_eq c)) rfl 5 9 inb_S4x2x128x256_S1x1x128x256_0_0_0_0 inb_S4x2x128x256_S1x1x128x256_1_0_0_0 (by decide) (by decide) rfl rfl (sh 2) rfl (fun _ => rfl) rfl rfl g _) $$ [HK002 HD10 HO Ht5 Hr9]
  · isplitr; · iexact HR
    isplitl [HK002]; · iexact HK002
    isplitl [HD10]; · iexact HD10
    isplitl [HO]; · iexact HO
    isplitl [Ht5]; · iexact Ht5
    iexact Hr9
  iintro ⟨Hc5, HO⟩
  icases HD30 with ⟨%g, HD30⟩
  iapply (wp_sndK m ρ K c _ 1 3 0 (Fin.ext (k0_dev5_eq c)) rfl 1 13 inb_S4x2x128x256_S1x1x128x256_0_0_0_0 inb_S4x2x128x256_S1x1x128x256_3_0_0_0 (by decide) (by decide) rfl rfl (sh 0) rfl (fun _ => rfl) rfl rfl g _) $$ [HK000 HD30 HO Ht1 Hr13]
  · isplitr; · iexact HR
    isplitl [HK000]; · iexact HK000
    isplitl [HD30]; · iexact HD30
    isplitl [HO]; · iexact HO
    isplitl [Ht1]; · iexact Ht1
    iexact Hr13
  iintro ⟨Hc1, HO⟩
  rw [wp_ret]; imodintro
  iapply HQ
  isplitl [HO]; · iexact HO
  isplitl [Hc5]; · iexact Hc5
  iexact Hc1

theorem part6 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v191 : BitVec 32), BitVec 32) → sProp 𝕄} :
    iprop(records m ρ K ∗ oX c [(kcell (on c 2) 11, NK), (kcell (on c 3) 10, NK), (kcell (on c 1) 14, NK), (kcell (on c 2) 12, NK), (kcell (on c 3) 19, NV), (kcell (on c 1) 21, NV), (kcell (on c 2) 20, NV)] ∗ kP c 0 1 fullShare f₀ ∗ tok c 3 0 ∗ tok c 6 0 ∗ tok (on c 2) 11 0 ∗ tok (on c 3) 10 0 ∗ kP c 0 0 (sh 1) (kAll m ρ c) ∗ (∃ f, kP (on c 3) 1 1 fullShare f) ∗ (∃ f, kP (on c 2) 2 0 fullShare f))
      ⊢ iprop((oX c [(kcell (on c 1) 14, NK), (kcell (on c 2) 12, NK), (kcell (on c 3) 19, NV), (kcell (on c 1) 21, NV), (kcell (on c 2) 20, NV)] ∗ crd c 3 NK ∗ kP c 0 1 (sh 0) (kAll m ρ c) ∗ kP c 0 1 (sh 1) (kAll m ρ c) ∗ kP c 0 1 kept (kAll m ρ c) ∗ crd c 6 NK -∗ Q ⟨(wv191 m ρ c), (wv203 m ρ c)⟩)
        -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (wv2 m ρ c) (wv70 m ρ c) (wv71 m ρ c) (wv123 m ρ c) (wv125 m ρ c) (wv129 m ρ c)) Q) := by
  rw [k0_part6_eq_skeleton]
  unfold k0_part6_skel wv191 wv203
  simp only [semSignalWord, semWaitWord, Prog.lift, Prog.bind_op, Prog.bind_ret, Prog.pure_eq_ret]
  iintro ⟨#HR, HO, HK01, Ht3, Ht6, Hr11, Hr10, HK001, HD11, HD20⟩ HQ
  icases HD20 with ⟨%g, HD20⟩
  iapply (wp_sndK m ρ K c _ 2 2 0 (Fin.ext (k0_dev6_eq c)) rfl 3 11 inb_S4x2x128x256_S1x1x128x256_0_0_0_0 inb_S4x2x128x256_S1x1x128x256_2_0_0_0 (by decide) (by decide) rfl rfl (sh 1) rfl (fun _ => rfl) rfl rfl g _) $$ [HK001 HD20 HO Ht3 Hr11]
  · isplitr; · iexact HR
    isplitl [HK001]; · iexact HK001
    isplitl [HD20]; · iexact HD20
    isplitl [HO]; · iexact HO
    isplitl [Ht3]; · iexact Ht3
    iexact Hr11
  iintro ⟨Hc3, HO⟩
  iapply (ldKrow c 0 1 _ _ _) $$ HK01; iintro HK01
  iapply (stK m ρ c 1 _ _ _ (stK1 m ρ c)) $$ HK01; iintro HK01
  ihave HK01 := (Entails.of_eq (kP_share c 0 1 (kAll m ρ c))) $$ HK01
  icases HK01 with ⟨HK010, HK011, HK012, HK01k⟩
  icases HD11 with ⟨%g, HD11⟩
  iapply (wp_sndK m ρ K c _ 3 1 1 (Fin.ext (k0_dev7_eq c)) rfl 6 10 inb_S4x2x128x256_S1x1x128x256_0_1_0_0 inb_S4x2x128x256_S1x1x128x256_1_1_0_0 (by decide) (by decide) rfl rfl (sh 2) rfl (fun _ => rfl) rfl rfl g _) $$ [HK012 HD11 HO Ht6 Hr10]
  · isplitr; · iexact HR
    isplitl [HK012]; · iexact HK012
    isplitl [HD11]; · iexact HD11
    isplitl [HO]; · iexact HO
    isplitl [Ht6]; · iexact Ht6
    iexact Hr10
  iintro ⟨Hc6, HO⟩
  rw [wp_ret]; imodintro
  iapply HQ
  isplitl [HO]; · iexact HO
  isplitl [Hc3]; · iexact Hc3
  isplitl [HK010]; · iexact HK010
  isplitl [HK011]; · iexact HK011
  isplitl [HK01k]; · iexact HK01k
  iexact Hc6

theorem part7 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v215 : BitVec 32) (v227 : FVec F S512x256 .bf16), FVec F S128x256 .bf16) → sProp 𝕄} :
    iprop(records m ρ K ∗ oX c [(kcell (on c 1) 14, NK), (kcell (on c 2) 12, NK), (kcell (on c 3) 19, NV), (kcell (on c 1) 21, NV), (kcell (on c 2) 20, NV)] ∗ ((((c : Dev nD) : Thread nD τ).loc cc0_stg3_0) ↦{fullShare} wvS m ρ c) ∗ tok c 2 0 ∗ tok c 4 0 ∗ tok (on c 1) 14 0 ∗ tok (on c 2) 12 0 ∗ (∃ f, kP (on c 2) 2 1 fullShare f) ∗ (∃ f, kP (on c 1) 3 1 fullShare f) ∗ kP c 0 1 (sh 0) (kAll m ρ c) ∗ kP c 0 1 (sh 1) (kAll m ρ c))
      ⊢ iprop((oX c [(kcell (on c 3) 19, NV), (kcell (on c 1) 21, NV), (kcell (on c 2) 20, NV)] ∗ ((((c : Dev nD) : Thread nD τ).loc cc0_stg3_0) ↦{fullShare} wvS m ρ c) ∗ crd c 2 NK ∗ crd c 4 NK -∗ Q ⟨(wv215 m ρ c), (wv227 m ρ c), (wv229 m ρ c)⟩)
        -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (wv2 m ρ c) (wv127 m ρ c) (wv203 m ρ c)) Q) := by
  rw [k0_part7_eq_skeleton]
  unfold k0_part7_skel wv215 wv227 wv229
  simp only [semSignalWord, semWaitWord, Prog.lift, Prog.bind_op, Prog.bind_ret, Prog.pure_eq_ret]
  iintro ⟨#HR, HO, Hwv, Ht2, Ht4, Hr14, Hr12, HD21, HD31, HK010, HK011⟩ HQ
  icases HD31 with ⟨%g, HD31⟩
  iapply (wp_sndK m ρ K c _ 1 3 1 (Fin.ext (k0_dev8_eq c)) rfl 2 14 inb_S4x2x128x256_S1x1x128x256_0_1_0_0 inb_S4x2x128x256_S1x1x128x256_3_1_0_0 (by decide) (by decide) rfl rfl (sh 0) rfl (fun _ => rfl) rfl rfl g _) $$ [HK010 HD31 HO Ht2 Hr14]
  · isplitr; · iexact HR
    isplitl [HK010]; · iexact HK010
    isplitl [HD31]; · iexact HD31
    isplitl [HO]; · iexact HO
    isplitl [Ht2]; · iexact Ht2
    iexact Hr14
  iintro ⟨Hc2, HO⟩
  icases HD21 with ⟨%g, HD21⟩
  iapply (wp_sndK m ρ K c _ 2 2 1 (Fin.ext (k0_dev9_eq c)) rfl 4 12 inb_S4x2x128x256_S1x1x128x256_0_1_0_0 inb_S4x2x128x256_S1x1x128x256_2_1_0_0 (by decide) (by decide) rfl rfl (sh 1) rfl (fun _ => rfl) rfl rfl g _) $$ [HK011 HD21 HO Ht4 Hr12]
  · isplitr; · iexact HR
    isplitl [HK011]; · iexact HK011
    isplitl [HD21]; · iexact HD21
    isplitl [HO]; · iexact HO
    isplitl [Ht4]; · iexact Ht4
    iexact Hr12
  iintro ⟨Hc4, HO⟩
  iapply (wp_load 𝒱₀ (c : Thread nD τ) none Set.univ (m := Memref.whole cc0_stg3_0) (Finset.subset_univ _)) $$ Hwv; iintro Hwv
  rw [wp_ret]; imodintro
  iapply HQ
  isplitl [HO]; · iexact HO
  isplitl [Hwv]; · iexact Hwv
  isplitl [Hc2]; · iexact Hc2
  iexact Hc4

theorem part8 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v239 : BitVec 32), BitVec 32) → sProp 𝕄} :
    iprop(records m ρ K ∗ oX c [(kcell (on c 3) 19, NV), (kcell (on c 1) 21, NV), (kcell (on c 2) 20, NV)] ∗ vP c 0 fullShare f₁ ∗ tok c 17 0 ∗ tok (on c 3) 19 0 ∗ (∃ f, vP (on c 3) 1 fullShare f))
      ⊢ iprop((oX c [(kcell (on c 1) 21, NV), (kcell (on c 2) 20, NV)] ∗ vP c 0 (sh 0) (vAll m ρ c) ∗ vP c 0 (sh 1) (vAll m ρ c) ∗ vP c 0 kept (vAll m ρ c) ∗ crd c 17 NV -∗ Q ⟨(wv239 m ρ c), (wv251 m ρ c)⟩)
        -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (wv2 m ρ c) (wv129 m ρ c) (wv227 m ρ c) (wv229 m ρ c)) Q) := by
  rw [k0_part8_eq_skeleton]
  unfold k0_part8_skel wv239 wv251
  simp only [semSignalWord, semWaitWord, Prog.lift, Prog.bind_op, Prog.bind_ret, Prog.pure_eq_ret]
  iintro ⟨#HR, HO, HV0, Ht17, Hr19, HDV1⟩ HQ
  iapply (ldVrow c 0 0 _ _ _) $$ HV0; iintro HV0
  iapply (stV c 0 0 _ _ _) $$ HV0; iintro HV0
  iapply (ldVrow c 0 1 _ _ _) $$ HV0; iintro HV0
  iapply (stV c 0 1 _ _ _) $$ HV0; iintro HV0
  ihave HV0 := (Entails.of_eq (vP_stored m ρ c _ _ _ _ (stV0 m ρ c) _ (stV1 m ρ c))) $$ HV0
  ihave HV0 := (Entails.of_eq (vP_share c 0 (vAll m ρ c))) $$ HV0
  icases HV0 with ⟨HV00, HV01, HV02, HV0k⟩
  icases HDV1 with ⟨%g, HDV1⟩
  iapply (wp_sndV m ρ K c _ 3 1 (Fin.ext (k0_dev10_eq c)) rfl 17 19 inb_S4x2x128x256_S1x2x128x256_0_0_0_0 inb_S4x2x128x256_S1x2x128x256_1_0_0_0 (by decide) (by decide) rfl rfl (sh 2) rfl (fun _ => rfl) rfl rfl g _) $$ [HV02 HDV1 HO Ht17 Hr19]
  · isplitr; · iexact HR
    isplitl [HV02]; · iexact HV02
    isplitl [HDV1]; · iexact HDV1
    isplitl [HO]; · iexact HO
    isplitl [Ht17]; · iexact Ht17
    iexact Hr19
  iintro ⟨Hc17, HO⟩
  rw [wp_ret]; imodintro
  iapply HQ
  isplitl [HO]; · iexact HO
  isplitl [HV00]; · iexact HV00
  isplitl [HV01]; · iexact HV01
  isplitl [HV0k]; · iexact HV0k
  iexact Hc17

theorem part9 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v263 : BitVec 32) (v275 : FVec F S512x256 .bf16), FVec F S1x128x256 .bf16) → sProp 𝕄} :
    iprop(records m ρ K ∗ oX c [(kcell (on c 1) 21, NV), (kcell (on c 2) 20, NV)] ∗ ((((c : Dev nD) : Thread nD τ).loc cc0_scratch2) ↦{fullShare} f₂) ∗ ((((c : Dev nD) : Thread nD τ).loc cc0_stg1_0) ↦{fullShare} wqS m ρ c) ∗ tok c 15 0 ∗ tok c 16 0 ∗ tok (on c 1) 21 0 ∗ tok (on c 2) 20 0 ∗ (∃ f, vP (on c 2) 2 fullShare f) ∗ (∃ f, vP (on c 1) 3 fullShare f) ∗ vP c 0 (sh 0) (vAll m ρ c) ∗ vP c 0 (sh 1) (vAll m ρ c))
      ⊢ iprop((oX c [] ∗ ((((c : Dev nD) : Thread nD τ).loc cc0_scratch2) ↦{fullShare} f₂) ∗ ((((c : Dev nD) : Thread nD τ).loc cc0_stg1_0) ↦{fullShare} wqS m ρ c) ∗ crd c 15 NV ∗ crd c 16 NV -∗ Q ⟨(wv263 m ρ c), (wv275 m ρ c), (wv287 m ρ c)⟩)
        -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (wv2 m ρ c) (wv70 m ρ c) (wv71 m ρ c) (wv123 m ρ c) (wv127 m ρ c)) Q) := by
  rw [k0_part9_eq_skeleton]
  unfold k0_part9_skel wv263 wv275 wv287
  simp only [semSignalWord, semWaitWord, Prog.lift, Prog.bind_op, Prog.bind_ret, Prog.pure_eq_ret]
  iintro ⟨#HR, HO, Hq, Hwq, Ht15, Ht16, Hr21, Hr20, HDV2, HDV3, HV00, HV01⟩ HQ
  icases HDV3 with ⟨%g, HDV3⟩
  iapply (wp_sndV m ρ K c _ 1 3 (Fin.ext (k0_dev11_eq c)) rfl 15 21 inb_S4x2x128x256_S1x2x128x256_0_0_0_0 inb_S4x2x128x256_S1x2x128x256_3_0_0_0 (by decide) (by decide) rfl rfl (sh 0) rfl (fun _ => rfl) rfl rfl g _) $$ [HV00 HDV3 HO Ht15 Hr21]
  · isplitr; · iexact HR
    isplitl [HV00]; · iexact HV00
    isplitl [HDV3]; · iexact HDV3
    isplitl [HO]; · iexact HO
    isplitl [Ht15]; · iexact Ht15
    iexact Hr21
  iintro ⟨Hc15, HO⟩
  icases HDV2 with ⟨%g, HDV2⟩
  iapply (wp_sndV m ρ K c _ 2 2 (Fin.ext (k0_dev12_eq c)) rfl 16 20 inb_S4x2x128x256_S1x2x128x256_0_0_0_0 inb_S4x2x128x256_S1x2x128x256_2_0_0_0 (by decide) (by decide) rfl rfl (sh 1) rfl (fun _ => rfl) rfl rfl g _) $$ [HV01 HDV2 HO Ht16 Hr20]
  · isplitr; · iexact HR
    isplitl [HV01]; · iexact HV01
    isplitl [HDV2]; · iexact HDV2
    isplitl [HO]; · iexact HO
    isplitl [Ht16]; · iexact Ht16
    iexact Hr20
  iintro ⟨Hc16, HO⟩
  iapply (wp_load 𝒱₀ (c : Thread nD τ) none Set.univ (m := Memref.whole cc0_stg1_0) (Finset.subset_univ _)) $$ Hwq; iintro Hwq
  iapply (wp_load 𝒱₀ (c : Thread nD τ) none Set.univ (m := Memref.whole cc0_scratch2) (Finset.subset_univ _)) $$ Hq; iintro Hq
  rw [wp_ret]; imodintro
  iapply HQ
  isplitl [HO]; · iexact HO
  isplitl [Hq]; · iexact Hq
  isplitl [Hwq]; · iexact Hwq
  isplitl [Hc15]; · iexact Hc15
  iexact Hc16

end Cert.KernelIdeal.Ring

end
-- ==== Proof.Part2.lean ====
/-
# Parts 10 to 18 of the body
-/
module

public import proofs.«01_k».proof.Proof.Vals

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem part10 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v307 : FVec F S128x1 .f32) (v308 : FVec F S128x128 .bf16) (v316 : FVec F S128x1 .f32) (v317 : FVec F S128x128 .bf16), Vec F S1x128x64 .bf16) → sProp 𝕄} :
    iprop(((((c : Dev nD) : Thread nD τ).loc cc0_scratch2) ↦{fullShare} f₂) ∗ kP c 0 0 kept (kAll m ρ c))
      ⊢ iprop((((((c : Dev nD) : Thread nD τ).loc cc0_scratch2) ↦{fullShare} qAll m ρ c) ∗ kP c 0 0 kept (kAll m ρ c) -∗ Q ⟨(wv307 m ρ c), (wv308 m ρ c), (wv316 m ρ c), (wv317 m ρ c), (wv318 m ρ c)⟩)
        -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv70 m ρ c) (wv71 m ρ c) (wv123 m ρ c) (wv129 m ρ c) (wv275 m ρ c) (wv287 m ρ c)) Q) := by
  rw [k0_part10_eq_skeleton]
  unfold k0_part10_skel wv307 wv308 wv316 wv317 wv318
  simp only [semSignalWord, semWaitWord, Prog.lift, Prog.bind_op, Prog.bind_ret, Prog.pure_eq_ret]
  iintro ⟨Hq, HK00k⟩ HQ
  iapply (stQ c _ _ _) $$ Hq; iintro Hq
  iapply (wp_load 𝒱₀ (c : Thread nD τ) none Set.univ (m := Memref.whole cc0_scratch2) (Finset.subset_univ _)) $$ Hq; iintro Hq
  iapply (stQ c _ _ _) $$ Hq; iintro Hq
  ihave Hq := (Entails.of_eq (qP_stored m ρ c _ _ (stQ0 m ρ c) _ (stQ1 m ρ c))) $$ Hq
  iapply (wp_load 𝒱₀ (c : Thread nD τ) none Set.univ (m := Memref.whole cc0_scratch2) (Finset.subset_univ _)) $$ Hq; iintro Hq
  iapply (ldK c 0 0 0 _ _ _) $$ HK00k; iintro HK00k
  iapply (wp_load 𝒱₀ (c : Thread nD τ) none Set.univ (m := Memref.whole cc0_scratch2) (Finset.subset_univ _)) $$ Hq; iintro Hq
  iapply (ldK c 0 0 64 _ _ _) $$ HK00k; iintro HK00k
  iapply (wp_load 𝒱₀ (c : Thread nD τ) none Set.univ (m := Memref.whole cc0_scratch2) (Finset.subset_univ _)) $$ Hq; iintro Hq
  rw [wp_ret]; imodintro
  iapply HQ
  isplitl [Hq]; · iexact Hq
  iexact HK00k

theorem part11 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v325 : FVec F S128x1 .f32) (v334 : FVec F S128x1 .f32) (v335 : FVec F S128x128 .bf16) (v338 : FVec F S128x64 .f32) (v341 : FVec F S128x64 .f32), FVec F S128x64 .f32) → sProp 𝕄} :
    iprop(((((c : Dev nD) : Thread nD τ).loc cc0_scratch2) ↦{fullShare} qAll m ρ c) ∗ kP c 0 0 kept (kAll m ρ c) ∗ vP c 0 kept (vAll m ρ c))
      ⊢ iprop((((((c : Dev nD) : Thread nD τ).loc cc0_scratch2) ↦{fullShare} qAll m ρ c) ∗ kP c 0 0 kept (kAll m ρ c) ∗ vP c 0 kept (vAll m ρ c) -∗ Q ⟨(wv325 m ρ c), (wv334 m ρ c), (wv335 m ρ c), (wv338 m ρ c), (wv341 m ρ c), (wv344 m ρ c)⟩)
        -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv308 m ρ c) (wv317 m ρ c) (wv318 m ρ c)) Q) := by
  rw [k0_part11_eq_skeleton]
  unfold k0_part11_skel wv325 wv334 wv335 wv338 wv341 wv344
  simp only [semSignalWord, semWaitWord, Prog.lift, Prog.bind_op, Prog.bind_ret, Prog.pure_eq_ret]
  iintro ⟨Hq, HK00k, HV0k⟩ HQ
  iapply (ldK c 0 0 128 _ _ _) $$ HK00k; iintro HK00k
  iapply (wp_load 𝒱₀ (c : Thread nD τ) none Set.univ (m := Memref.whole cc0_scratch2) (Finset.subset_univ _)) $$ Hq; iintro Hq
  iapply (ldK c 0 0 192 _ _ _) $$ HK00k; iintro HK00k
  iapply (ldV c 0 0 0 _ _ _) $$ HV0k; iintro HV0k
  iapply (ldV c 0 0 64 _ _ _) $$ HV0k; iintro HV0k
  iapply (ldV c 0 0 128 _ _ _) $$ HV0k; iintro HV0k
  rw [wp_ret]; imodintro
  iapply HQ
  isplitl [Hq]; · iexact Hq
  isplitl [HK00k]; · iexact HK00k
  iexact HV0k

theorem part12 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v347 : FVec F S128x64 .f32) (v355 : FVec F S128x1 .f32) (v356 : FVec F S128x128 .bf16) (v364 : FVec F S128x1 .f32) (v365 : FVec F S128x128 .bf16) (v373 : FVec F S128x1 .f32), FVec F S128x128 .bf16) → sProp 𝕄} :
    iprop(((((c : Dev nD) : Thread nD τ).loc cc0_scratch2) ↦{fullShare} qAll m ρ c) ∗ kP c 0 1 kept (kAll m ρ c) ∗ vP c 0 kept (vAll m ρ c))
      ⊢ iprop((((((c : Dev nD) : Thread nD τ).loc cc0_scratch2) ↦{fullShare} qAll m ρ c) ∗ kP c 0 1 kept (kAll m ρ c) ∗ vP c 0 kept (vAll m ρ c) -∗ Q ⟨(wv347 m ρ c), (wv355 m ρ c), (wv356 m ρ c), (wv364 m ρ c), (wv365 m ρ c), (wv373 m ρ c), (wv374 m ρ c)⟩)
        -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv335 m ρ c)) Q) := by
  rw [k0_part12_eq_skeleton]
  unfold k0_part12_skel wv347 wv355 wv356 wv364 wv365 wv373 wv374
  simp only [semSignalWord, semWaitWord, Prog.lift, Prog.bind_op, Prog.bind_ret, Prog.pure_eq_ret]
  iintro ⟨Hq, HK01k, HV0k⟩ HQ
  iapply (ldV c 0 0 192 _ _ _) $$ HV0k; iintro HV0k
  iapply (wp_load 𝒱₀ (c : Thread nD τ) none Set.univ (m := Memref.whole cc0_scratch2) (Finset.subset_univ _)) $$ Hq; iintro Hq
  iapply (ldK c 0 1 0 _ _ _) $$ HK01k; iintro HK01k
  iapply (wp_load 𝒱₀ (c : Thread nD τ) none Set.univ (m := Memref.whole cc0_scratch2) (Finset.subset_univ _)) $$ Hq; iintro Hq
  iapply (ldK c 0 1 64 _ _ _) $$ HK01k; iintro HK01k
  iapply (wp_load 𝒱₀ (c : Thread nD τ) none Set.univ (m := Memref.whole cc0_scratch2) (Finset.subset_univ _)) $$ Hq; iintro Hq
  iapply (ldK c 0 1 128 _ _ _) $$ HK01k; iintro HK01k
  rw [wp_ret]; imodintro
  iapply HQ
  isplitl [Hq]; · iexact Hq
  isplitl [HK01k]; · iexact HK01k
  iexact HV0k

theorem part13 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v382 : FVec F S128x1 .f32) (v386 : FVec F S128x64 .f32) (v389 : FVec F S128x64 .f32) (v392 : FVec F S128x64 .f32), FVec F S128x64 .f32) → sProp 𝕄} :
    iprop(((((c : Dev nD) : Thread nD τ).loc cc0_scratch2) ↦{fullShare} qAll m ρ c) ∗ kP c 0 1 kept (kAll m ρ c) ∗ vP c 0 kept (vAll m ρ c))
      ⊢ iprop((((((c : Dev nD) : Thread nD τ).loc cc0_scratch2) ↦{fullShare} qAll m ρ c) ∗ kP c 0 1 kept (kAll m ρ c) ∗ vP c 0 kept (vAll m ρ c) -∗ Q ⟨(wv382 m ρ c), (wv386 m ρ c), (wv389 m ρ c), (wv392 m ρ c), (wv395 m ρ c)⟩)
        -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv143 m ρ c) (wv356 m ρ c) (wv365 m ρ c) (wv374 m ρ c)) Q) := by
  rw [k0_part13_eq_skeleton]
  unfold k0_part13_skel wv382 wv386 wv389 wv392 wv395
  simp only [semSignalWord, semWaitWord, Prog.lift, Prog.bind_op, Prog.bind_ret, Prog.pure_eq_ret]
  iintro ⟨Hq, HK01k, HV0k⟩ HQ
  iapply (wp_load 𝒱₀ (c : Thread nD τ) none Set.univ (m := Memref.whole cc0_scratch2) (Finset.subset_univ _)) $$ Hq; iintro Hq
  iapply (ldK c 0 1 192 _ _ _) $$ HK01k; iintro HK01k
  iapply (ldV c 0 1 0 _ _ _) $$ HV0k; iintro HV0k
  iapply (ldV c 0 1 64 _ _ _) $$ HV0k; iintro HV0k
  iapply (ldV c 0 1 128 _ _ _) $$ HV0k; iintro HV0k
  iapply (ldV c 0 1 192 _ _ _) $$ HV0k; iintro HV0k
  rw [wp_ret]; imodintro
  iapply HQ
  isplitl [Hq]; · iexact Hq
  isplitl [HK01k]; · iexact HK01k
  iexact HV0k

theorem part14 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v412 : FVec F S128x1 .f32) (v413 : FVec F S128x128 .bf16) (v422 : FVec F S128x1 .f32) (v423 : FVec F S128x128 .bf16) (v425 : FVec F S128x64 .bf16), FVec F S128x64 .bf16) → sProp 𝕄} :
    iprop(records m ρ K ∗ oX c [] ∗ ((((c : Dev nD) : Thread nD τ).loc cc0_scratch2) ↦{fullShare} qAll m ρ c) ∗ atP c 9 ∗ crd c 9 NK)
      ⊢ iprop((oX c [] ∗ ((((c : Dev nD) : Thread nD τ).loc cc0_scratch2) ↦{fullShare} qAll m ρ c) ∗ zero c 9 ∗ kP c 1 0 fullShare (kAll m ρ c) -∗ Q ⟨(wv412 m ρ c), (wv413 m ρ c), (wv422 m ρ c), (wv423 m ρ c), (wv425 m ρ c), (wv427 m ρ c)⟩)
        -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv307 m ρ c) (wv316 m ρ c)) Q) := by
  rw [k0_part14_eq_skeleton]
  unfold k0_part14_skel wv412 wv413 wv422 wv423 wv425 wv427
  simp only [semSignalWord, semWaitWord, Prog.lift, Prog.bind_op, Prog.bind_ret, Prog.pure_eq_ret]
  iintro ⟨#HR, HO, Hq, Ha9, Hc9⟩ HQ
  iapply (wp_dmaK m ρ K c 9 (kP c 1 0 fullShare (kAll m ρ c)) rfl rfl (by decide) rfl 1 0 0 0 inb_S4x2x128x256_S1x1x128x256_1_0_0_0 inb_S4x2x128x256_S1x1x128x256_0_0_0_0) $$ [HO Hc9 Ha9]
  · isplitr; · iexact HR
    isplitl [HO]; · iexact HO
    isplitl [Hc9]; · iexact Hc9
    iexact Ha9
  iintro ⟨HO, Hz9, HK10⟩
  iapply (wp_load 𝒱₀ (c : Thread nD τ) none Set.univ (m := Memref.whole cc0_scratch2) (Finset.subset_univ _)) $$ Hq; iintro Hq
  iapply (ldK c 1 0 0 _ _ _) $$ HK10; iintro HK10
  iapply (wp_load 𝒱₀ (c : Thread nD τ) none Set.univ (m := Memref.whole cc0_scratch2) (Finset.subset_univ _)) $$ Hq; iintro Hq
  iapply (ldK c 1 0 64 _ _ _) $$ HK10; iintro HK10
  iapply (wp_load 𝒱₀ (c : Thread nD τ) none Set.univ (m := Memref.whole cc0_scratch2) (Finset.subset_univ _)) $$ Hq; iintro Hq
  iapply (ldK c 1 0 128 _ _ _) $$ HK10; iintro HK10
  rw [wp_ret]; imodintro
  iapply HQ
  isplitl [HO]; · iexact HO
  isplitl [Hq]; · iexact Hq
  isplitl [Hz9]; · iexact Hz9
  iexact HK10

theorem part15 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v432 : FVec F S128x1 .f32) (v433 : FVec F S128x128 .bf16) (v442 : FVec F S128x1 .f32) (v443 : FVec F S128x128 .bf16) (v453 : FVec F S128x64 .bf16), Vec F S1x1x128x64 .bf16) → sProp 𝕄} :
    iprop(records m ρ K ∗ oX c [] ∗ ((((c : Dev nD) : Thread nD τ).loc cc0_scratch2) ↦{fullShare} qAll m ρ c) ∗ atP c 10 ∗ crd c 10 NK ∗ kP c 1 0 fullShare (kAll m ρ c))
      ⊢ iprop((oX c [] ∗ ((((c : Dev nD) : Thread nD τ).loc cc0_scratch2) ↦{fullShare} qAll m ρ c) ∗ kP c 1 0 fullShare (kAll m ρ c) ∗ zero c 10 ∗ kP c 1 1 fullShare (kAll m ρ c) -∗ Q ⟨(wv432 m ρ c), (wv433 m ρ c), (wv442 m ρ c), (wv443 m ρ c), (wv453 m ρ c), (wv454 m ρ c)⟩)
        -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv191 m ρ c) (wv325 m ρ c) (wv334 m ρ c) (wv425 m ρ c) (wv427 m ρ c)) Q) := by
  rw [k0_part15_eq_skeleton]
  unfold k0_part15_skel wv432 wv433 wv442 wv443 wv453 wv454
  simp only [semSignalWord, semWaitWord, Prog.lift, Prog.bind_op, Prog.bind_ret, Prog.pure_eq_ret]
  iintro ⟨#HR, HO, Hq, Ha10, Hc10, HK10⟩ HQ
  iapply (wp_load 𝒱₀ (c : Thread nD τ) none Set.univ (m := Memref.whole cc0_scratch2) (Finset.subset_univ _)) $$ Hq; iintro Hq
  iapply (ldK c 1 0 192 _ _ _) $$ HK10; iintro HK10
  iapply (wp_dmaK m ρ K c 10 (kP c 1 1 fullShare (kAll m ρ c)) rfl rfl (by decide) rfl 1 1 0 1 inb_S4x2x128x256_S1x1x128x256_1_1_0_0 inb_S4x2x128x256_S1x1x128x256_0_1_0_0) $$ [HO Hc10 Ha10]
  · isplitr; · iexact HR
    isplitl [HO]; · iexact HO
    isplitl [Hc10]; · iexact Hc10
    iexact Ha10
  iintro ⟨HO, Hz10, HK11⟩
  iapply (wp_load 𝒱₀ (c : Thread nD τ) none Set.univ (m := Memref.whole cc0_scratch2) (Finset.subset_univ _)) $$ Hq; iintro Hq
  iapply (ldK c 1 1 0 _ _ _) $$ HK11; iintro HK11
  rw [wp_ret]; imodintro
  iapply HQ
  isplitl [HO]; · iexact HO
  isplitl [Hq]; · iexact Hq
  isplitl [HK10]; · iexact HK10
  isplitl [Hz10]; · iexact Hz10
  iexact HK11

theorem part16 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v460 : FVec F S128x1 .f32) (v461 : FVec F S128x128 .bf16) (v470 : FVec F S128x1 .f32) (v471 : FVec F S128x128 .bf16) (v480 : FVec F S128x1 .f32) (v481 : FVec F S128x128 .bf16), FVec F S128x128 .f32) → sProp 𝕄} :
    iprop(((((c : Dev nD) : Thread nD τ).loc cc0_scratch2) ↦{fullShare} qAll m ρ c) ∗ kP c 1 1 fullShare (kAll m ρ c))
      ⊢ iprop((((((c : Dev nD) : Thread nD τ).loc cc0_scratch2) ↦{fullShare} qAll m ρ c) ∗ kP c 1 1 fullShare (kAll m ρ c) -∗ Q ⟨(wv460 m ρ c), (wv461 m ρ c), (wv470 m ρ c), (wv471 m ρ c), (wv480 m ρ c), (wv481 m ρ c), (wv486 m ρ c)⟩)
        -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv355 m ρ c) (wv364 m ρ c) (wv373 m ρ c) (wv453 m ρ c) (wv454 m ρ c)) Q) := by
  rw [k0_part16_eq_skeleton]
  unfold k0_part16_skel wv460 wv461 wv470 wv471 wv480 wv481 wv486
  simp only [semSignalWord, semWaitWord, Prog.lift, Prog.bind_op, Prog.bind_ret, Prog.pure_eq_ret]
  iintro ⟨Hq, HK11⟩ HQ
  iapply (wp_load 𝒱₀ (c : Thread nD τ) none Set.univ (m := Memref.whole cc0_scratch2) (Finset.subset_univ _)) $$ Hq; iintro Hq
  iapply (ldK c 1 1 64 _ _ _) $$ HK11; iintro HK11
  iapply (wp_load 𝒱₀ (c : Thread nD τ) none Set.univ (m := Memref.whole cc0_scratch2) (Finset.subset_univ _)) $$ Hq; iintro Hq
  iapply (ldK c 1 1 128 _ _ _) $$ HK11; iintro HK11
  iapply (wp_load 𝒱₀ (c : Thread nD τ) none Set.univ (m := Memref.whole cc0_scratch2) (Finset.subset_univ _)) $$ Hq; iintro Hq
  iapply (ldK c 1 1 192 _ _ _) $$ HK11; iintro HK11
  rw [wp_ret]; imodintro
  iapply HQ
  isplitl [Hq]; · iexact Hq
  iexact HK11

theorem part17 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v490 : FVec F S128x1 .f32) (v491 : FVec F S128x128 .bf16) (v508 : FVec F S128x1 .f32) (v509 : FVec F S128x128 .bf16) (v511 : FVec F S128x64 .bf16) (v513 : FVec F S128x64 .bf16), FVec F S128x128 .f32) → sProp 𝕄} :
    iprop(records m ρ K ∗ oX c [] ∗ ((((c : Dev nD) : Thread nD τ).loc cc0_scratch2) ↦{fullShare} qAll m ρ c) ∗ atP c 13 ∗ crd c 13 NK)
      ⊢ iprop((oX c [] ∗ ((((c : Dev nD) : Thread nD τ).loc cc0_scratch2) ↦{fullShare} qAll m ρ c) ∗ zero c 13 ∗ kP c 3 0 fullShare (kAll m ρ c) -∗ Q ⟨(wv490 m ρ c), (wv491 m ρ c), (wv508 m ρ c), (wv509 m ρ c), (wv511 m ρ c), (wv513 m ρ c), (wcst_467 m ρ c)⟩)
        -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv155 m ρ c) (wv382 m ρ c) (wv412 m ρ c) (wv486 m ρ c)) Q) := by
  rw [k0_part17_eq_skeleton]
  unfold k0_part17_skel wv490 wv491 wv508 wv509 wv511 wv513 wcst_467
  simp only [semSignalWord, semWaitWord, Prog.lift, Prog.bind_op, Prog.bind_ret, Prog.pure_eq_ret]
  iintro ⟨#HR, HO, Hq, Ha13, Hc13⟩ HQ
  iapply (wp_dmaK m ρ K c 13 (kP c 3 0 fullShare (kAll m ρ c)) rfl rfl (by decide) rfl 3 0 0 0 inb_S4x2x128x256_S1x1x128x256_3_0_0_0 inb_S4x2x128x256_S1x1x128x256_0_0_0_0) $$ [HO Hc13 Ha13]
  · isplitr; · iexact HR
    isplitl [HO]; · iexact HO
    isplitl [Hc13]; · iexact Hc13
    iexact Ha13
  iintro ⟨HO, Hz13, HK30⟩
  iapply (wp_load 𝒱₀ (c : Thread nD τ) none Set.univ (m := Memref.whole cc0_scratch2) (Finset.subset_univ _)) $$ Hq; iintro Hq
  iapply (ldK c 3 0 0 _ _ _) $$ HK30; iintro HK30
  iapply (wp_load 𝒱₀ (c : Thread nD τ) none Set.univ (m := Memref.whole cc0_scratch2) (Finset.subset_univ _)) $$ Hq; iintro Hq
  iapply (ldK c 3 0 64 _ _ _) $$ HK30; iintro HK30
  rw [wp_ret]; imodintro
  iapply HQ
  isplitl [HO]; · iexact HO
  isplitl [Hq]; · iexact Hq
  isplitl [Hz13]; · iexact Hz13
  iexact HK30

theorem part18 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v518 : FVec F S128x1 .f32) (v519 : FVec F S128x128 .bf16) (v528 : FVec F S128x1 .f32) (v529 : FVec F S128x128 .bf16) (v538 : FVec F S128x1 .f32), FVec F S128x128 .bf16) → sProp 𝕄} :
    iprop(((((c : Dev nD) : Thread nD τ).loc cc0_scratch2) ↦{fullShare} qAll m ρ c) ∗ kP c 3 0 fullShare (kAll m ρ c))
      ⊢ iprop((((((c : Dev nD) : Thread nD τ).loc cc0_scratch2) ↦{fullShare} qAll m ρ c) ∗ kP c 3 0 fullShare (kAll m ρ c) -∗ Q ⟨(wv518 m ρ c), (wv519 m ρ c), (wv528 m ρ c), (wv529 m ρ c), (wv538 m ρ c), (wv539 m ρ c)⟩)
        -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv203 m ρ c) (wv422 m ρ c) (wv432 m ρ c) (wv442 m ρ c) (wv511 m ρ c) (wv513 m ρ c) (wcst_467 m ρ c)) Q) := by
  rw [k0_part18_eq_skeleton]
  unfold k0_part18_skel wv518 wv519 wv528 wv529 wv538 wv539
  simp only [semSignalWord, semWaitWord, Prog.lift, Prog.bind_op, Prog.bind_ret, Prog.pure_eq_ret]
  iintro ⟨Hq, HK30⟩ HQ
  iapply (wp_load 𝒱₀ (c : Thread nD τ) none Set.univ (m := Memref.whole cc0_scratch2) (Finset.subset_univ _)) $$ Hq; iintro Hq
  iapply (ldK c 3 0 128 _ _ _) $$ HK30; iintro HK30
  iapply (wp_load 𝒱₀ (c : Thread nD τ) none Set.univ (m := Memref.whole cc0_scratch2) (Finset.subset_univ _)) $$ Hq; iintro Hq
  iapply (ldK c 3 0 192 _ _ _) $$ HK30; iintro HK30
  rw [wp_ret]; imodintro
  iapply HQ
  isplitl [Hq]; · iexact Hq
  iexact HK30

end Cert.KernelIdeal.Ring

end
-- ==== Proof.Part3.lean ====
/-
# Parts 19 to 25 of the body
-/
module

public import proofs.«01_k».proof.Proof.Vals

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem part19 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v556 : FVec F S128x1 .f32) (v557 : FVec F S128x128 .bf16) (v566 : FVec F S128x1 .f32) (v567 : FVec F S128x128 .bf16), FVec F S128x128 .f32) → sProp 𝕄} :
    iprop(records m ρ K ∗ oX c [] ∗ ((((c : Dev nD) : Thread nD τ).loc cc0_scratch2) ↦{fullShare} qAll m ρ c) ∗ atP c 14 ∗ crd c 14 NK)
      ⊢ iprop((oX c [] ∗ ((((c : Dev nD) : Thread nD τ).loc cc0_scratch2) ↦{fullShare} qAll m ρ c) ∗ zero c 14 ∗ kP c 3 1 fullShare (kAll m ρ c) -∗ Q ⟨(wv556 m ρ c), (wv557 m ρ c), (wv566 m ρ c), (wv567 m ρ c), (wv573 m ρ c)⟩)
        -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv460 m ρ c) (wv470 m ρ c)) Q) := by
  rw [k0_part19_eq_skeleton]
  unfold k0_part19_skel wv556 wv557 wv566 wv567 wv573
  simp only [semSignalWord, semWaitWord, Prog.lift, Prog.bind_op, Prog.bind_ret, Prog.pure_eq_ret]
  iintro ⟨#HR, HO, Hq, Ha14, Hc14⟩ HQ
  iapply (wp_dmaK m ρ K c 14 (kP c 3 1 fullShare (kAll m ρ c)) rfl rfl (by decide) rfl 3 1 0 1 inb_S4x2x128x256_S1x1x128x256_3_1_0_0 inb_S4x2x128x256_S1x1x128x256_0_1_0_0) $$ [HO Hc14 Ha14]
  · isplitr; · iexact HR
    isplitl [HO]; · iexact HO
    isplitl [Hc14]; · iexact Hc14
    iexact Ha14
  iintro ⟨HO, Hz14, HK31⟩
  iapply (wp_load 𝒱₀ (c : Thread nD τ) none Set.univ (m := Memref.whole cc0_scratch2) (Finset.subset_univ _)) $$ Hq; iintro Hq
  iapply (ldK c 3 1 0 _ _ _) $$ HK31; iintro HK31
  iapply (wp_load 𝒱₀ (c : Thread nD τ) none Set.univ (m := Memref.whole cc0_scratch2) (Finset.subset_univ _)) $$ Hq; iintro Hq
  iapply (ldK c 3 1 64 _ _ _) $$ HK31; iintro HK31
  iapply (wp_load 𝒱₀ (c : Thread nD τ) none Set.univ (m := Memref.whole cc0_scratch2) (Finset.subset_univ _)) $$ Hq; iintro Hq
  iapply (ldK c 3 1 128 _ _ _) $$ HK31; iintro HK31
  rw [wp_ret]; imodintro
  iapply HQ
  isplitl [HO]; · iexact HO
  isplitl [Hq]; · iexact Hq
  isplitl [Hz14]; · iexact Hz14
  iexact HK31

theorem part20 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v576 : FVec F S128x1 .f32) (v577 : FVec F S128x128 .bf16) (v586 : FVec F S128x1 .f32) (v587 : FVec F S128x128 .bf16), FVec F S128x128 .f32) → sProp 𝕄} :
    iprop(records m ρ K ∗ oX c [] ∗ ((((c : Dev nD) : Thread nD τ).loc cc0_scratch2) ↦{fullShare} qAll m ρ c) ∗ atP c 11 ∗ crd c 11 NK ∗ kP c 3 1 fullShare (kAll m ρ c))
      ⊢ iprop((oX c [] ∗ ((((c : Dev nD) : Thread nD τ).loc cc0_scratch2) ↦{fullShare} qAll m ρ c) ∗ kP c 3 1 fullShare (kAll m ρ c) ∗ zero c 11 ∗ kP c 2 0 fullShare (kAll m ρ c) -∗ Q ⟨(wv576 m ρ c), (wv577 m ρ c), (wv586 m ρ c), (wv587 m ρ c), (wv600 m ρ c)⟩)
        -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv167 m ρ c) (wv480 m ρ c) (wv490 m ρ c) (wv573 m ρ c)) Q) := by
  rw [k0_part20_eq_skeleton]
  unfold k0_part20_skel wv576 wv577 wv586 wv587 wv600
  simp only [semSignalWord, semWaitWord, Prog.lift, Prog.bind_op, Prog.bind_ret, Prog.pure_eq_ret]
  iintro ⟨#HR, HO, Hq, Ha11, Hc11, HK31⟩ HQ
  iapply (wp_load 𝒱₀ (c : Thread nD τ) none Set.univ (m := Memref.whole cc0_scratch2) (Finset.subset_univ _)) $$ Hq; iintro Hq
  iapply (ldK c 3 1 192 _ _ _) $$ HK31; iintro HK31
  iapply (wp_dmaK m ρ K c 11 (kP c 2 0 fullShare (kAll m ρ c)) rfl rfl (by decide) rfl 2 0 0 0 inb_S4x2x128x256_S1x1x128x256_2_0_0_0 inb_S4x2x128x256_S1x1x128x256_0_0_0_0) $$ [HO Hc11 Ha11]
  · isplitr; · iexact HR
    isplitl [HO]; · iexact HO
    isplitl [Hc11]; · iexact Hc11
    iexact Ha11
  iintro ⟨HO, Hz11, HK20⟩
  iapply (wp_load 𝒱₀ (c : Thread nD τ) none Set.univ (m := Memref.whole cc0_scratch2) (Finset.subset_univ _)) $$ Hq; iintro Hq
  iapply (ldK c 2 0 0 _ _ _) $$ HK20; iintro HK20
  rw [wp_ret]; imodintro
  iapply HQ
  isplitl [HO]; · iexact HO
  isplitl [Hq]; · iexact Hq
  isplitl [HK31]; · iexact HK31
  isplitl [Hz11]; · iexact Hz11
  iexact HK20

theorem part21 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v604 : FVec F S128x1 .f32) (v605 : FVec F S128x128 .bf16) (v614 : FVec F S128x1 .f32) (v615 : FVec F S128x128 .bf16) (v624 : FVec F S128x1 .f32) (v625 : FVec F S128x128 .bf16) (v631 : FVec F S128x128 .f32), FVec F S128 .f32) → sProp 𝕄} :
    iprop(((((c : Dev nD) : Thread nD τ).loc cc0_scratch2) ↦{fullShare} qAll m ρ c) ∗ kP c 2 0 fullShare (kAll m ρ c))
      ⊢ iprop((((((c : Dev nD) : Thread nD τ).loc cc0_scratch2) ↦{fullShare} qAll m ρ c) ∗ kP c 2 0 fullShare (kAll m ρ c) -∗ Q ⟨(wv604 m ρ c), (wv605 m ρ c), (wv614 m ρ c), (wv615 m ρ c), (wv624 m ρ c), (wv625 m ρ c), (wv631 m ρ c), (wv632 m ρ c)⟩)
        -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv508 m ρ c) (wv518 m ρ c) (wv528 m ρ c) (wv600 m ρ c)) Q) := by
  rw [k0_part21_eq_skeleton]
  unfold k0_part21_skel wv604 wv605 wv614 wv615 wv624 wv625 wv631 wv632
  simp only [semSignalWord, semWaitWord, Prog.lift, Prog.bind_op, Prog.bind_ret, Prog.pure_eq_ret]
  iintro ⟨Hq, HK20⟩ HQ
  iapply (wp_load 𝒱₀ (c : Thread nD τ) none Set.univ (m := Memref.whole cc0_scratch2) (Finset.subset_univ _)) $$ Hq; iintro Hq
  iapply (ldK c 2 0 64 _ _ _) $$ HK20; iintro HK20
  iapply (wp_load 𝒱₀ (c : Thread nD τ) none Set.univ (m := Memref.whole cc0_scratch2) (Finset.subset_univ _)) $$ Hq; iintro Hq
  iapply (ldK c 2 0 128 _ _ _) $$ HK20; iintro HK20
  iapply (wp_load 𝒱₀ (c : Thread nD τ) none Set.univ (m := Memref.whole cc0_scratch2) (Finset.subset_univ _)) $$ Hq; iintro Hq
  iapply (ldK c 2 0 192 _ _ _) $$ HK20; iintro HK20
  rw [wp_ret]; imodintro
  iapply HQ
  isplitl [Hq]; · iexact Hq
  iexact HK20

theorem part22 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v634 : FVec F S128x1 .f32) (v635 : FVec F S128x128 .bf16) (v652 : FVec F S128x1 .f32) (v653 : FVec F S128x128 .bf16), FVec F S128x128 .f32) → sProp 𝕄} :
    iprop(records m ρ K ∗ oX c [] ∗ ((((c : Dev nD) : Thread nD τ).loc cc0_scratch2) ↦{fullShare} qAll m ρ c) ∗ atP c 12 ∗ crd c 12 NK)
      ⊢ iprop((oX c [] ∗ ((((c : Dev nD) : Thread nD τ).loc cc0_scratch2) ↦{fullShare} qAll m ρ c) ∗ zero c 12 ∗ kP c 2 1 fullShare (kAll m ρ c) -∗ Q ⟨(wv634 m ρ c), (wv635 m ρ c), (wv652 m ρ c), (wv653 m ρ c), (wv659 m ρ c)⟩)
        -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv215 m ρ c) (wv538 m ρ c) (wv556 m ρ c) (wv631 m ρ c) (wv632 m ρ c)) Q) := by
  rw [k0_part22_eq_skeleton]
  unfold k0_part22_skel wv634 wv635 wv652 wv653 wv659
  simp only [semSignalWord, semWaitWord, Prog.lift, Prog.bind_op, Prog.bind_ret, Prog.pure_eq_ret]
  iintro ⟨#HR, HO, Hq, Ha12, Hc12⟩ HQ
  iapply (wp_dmaK m ρ K c 12 (kP c 2 1 fullShare (kAll m ρ c)) rfl rfl (by decide) rfl 2 1 0 1 inb_S4x2x128x256_S1x1x128x256_2_1_0_0 inb_S4x2x128x256_S1x1x128x256_0_1_0_0) $$ [HO Hc12 Ha12]
  · isplitr; · iexact HR
    isplitl [HO]; · iexact HO
    isplitl [Hc12]; · iexact Hc12
    iexact Ha12
  iintro ⟨HO, Hz12, HK21⟩
  iapply (wp_load 𝒱₀ (c : Thread nD τ) none Set.univ (m := Memref.whole cc0_scratch2) (Finset.subset_univ _)) $$ Hq; iintro Hq
  iapply (ldK c 2 1 0 _ _ _) $$ HK21; iintro HK21
  iapply (wp_load 𝒱₀ (c : Thread nD τ) none Set.univ (m := Memref.whole cc0_scratch2) (Finset.subset_univ _)) $$ Hq; iintro Hq
  iapply (ldK c 2 1 64 _ _ _) $$ HK21; iintro HK21
  rw [wp_ret]; imodintro
  iapply HQ
  isplitl [HO]; · iexact HO
  isplitl [Hq]; · iexact Hq
  isplitl [Hz12]; · iexact Hz12
  iexact HK21

theorem part23 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v662 : FVec F S128x1 .f32) (v663 : FVec F S128x128 .bf16) (v672 : FVec F S128x1 .f32) (v673 : FVec F S128x128 .bf16) (v682 : FVec F S128x1 .f32), FVec F S128x128 .bf16) → sProp 𝕄} :
    iprop(((((c : Dev nD) : Thread nD τ).loc cc0_scratch2) ↦{fullShare} qAll m ρ c) ∗ kP c 2 1 fullShare (kAll m ρ c))
      ⊢ iprop((((((c : Dev nD) : Thread nD τ).loc cc0_scratch2) ↦{fullShare} qAll m ρ c) ∗ kP c 2 1 fullShare (kAll m ρ c) -∗ Q ⟨(wv662 m ρ c), (wv663 m ρ c), (wv672 m ρ c), (wv673 m ρ c), (wv682 m ρ c), (wv683 m ρ c)⟩)
        -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv239 m ρ c) (wv566 m ρ c) (wv576 m ρ c) (wv586 m ρ c) (wv659 m ρ c)) Q) := by
  rw [k0_part23_eq_skeleton]
  unfold k0_part23_skel wv662 wv663 wv672 wv673 wv682 wv683
  simp only [semSignalWord, semWaitWord, Prog.lift, Prog.bind_op, Prog.bind_ret, Prog.pure_eq_ret]
  iintro ⟨Hq, HK21⟩ HQ
  iapply (wp_load 𝒱₀ (c : Thread nD τ) none Set.univ (m := Memref.whole cc0_scratch2) (Finset.subset_univ _)) $$ Hq; iintro Hq
  iapply (ldK c 2 1 128 _ _ _) $$ HK21; iintro HK21
  iapply (wp_load 𝒱₀ (c : Thread nD τ) none Set.univ (m := Memref.whole cc0_scratch2) (Finset.subset_univ _)) $$ Hq; iintro Hq
  iapply (ldK c 2 1 192 _ _ _) $$ HK21; iintro HK21
  rw [wp_ret]; imodintro
  iapply HQ
  isplitl [Hq]; · iexact Hq
  iexact HK21

theorem part24 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v695 : FVec F S128x64 .f32) (v699 : FVec F S128x64 .f32) (v703 : FVec F S128x64 .f32) (v707 : FVec F S128x64 .f32) (v711 : FVec F S128x64 .f32), FVec F S128x64 .f32) → sProp 𝕄} :
    iprop(records m ρ K ∗ oX c [] ∗ atP c 19 ∗ crd c 19 NV)
      ⊢ iprop((oX c [] ∗ zero c 19 ∗ vP c 1 fullShare (vAll m ρ c) -∗ Q ⟨(wv695 m ρ c), (wv699 m ρ c), (wv703 m ρ c), (wv707 m ρ c), (wv711 m ρ c), (wv715 m ρ c)⟩)
        -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv338 m ρ c) (wv341 m ρ c) (wv344 m ρ c) (wv347 m ρ c) (wv386 m ρ c) (wv389 m ρ c) (wv413 m ρ c) (wv423 m ρ c) (wv433 m ρ c) (wv443 m ρ c) (wv461 m ρ c) (wv471 m ρ c)) Q) := by
  rw [k0_part24_eq_skeleton]
  unfold k0_part24_skel wv695 wv699 wv703 wv707 wv711 wv715
  simp only [semSignalWord, semWaitWord, Prog.lift, Prog.bind_op, Prog.bind_ret, Prog.pure_eq_ret]
  iintro ⟨#HR, HO, Ha19, Hc19⟩ HQ
  iapply (wp_dmaV m ρ K c 19 (vP c 1 fullShare (vAll m ρ c)) rfl rfl (by decide) rfl 1 0 inb_S4x2x128x256_S1x2x128x256_1_0_0_0 inb_S4x2x128x256_S1x2x128x256_0_0_0_0) $$ [HO Hc19 Ha19]
  · isplitr; · iexact HR
    isplitl [HO]; · iexact HO
    isplitl [Hc19]; · iexact Hc19
    iexact Ha19
  iintro ⟨HO, Hz19, HV1⟩
  iapply (ldV c 1 0 0 _ _ _) $$ HV1; iintro HV1
  iapply (ldV c 1 0 64 _ _ _) $$ HV1; iintro HV1
  iapply (ldV c 1 0 128 _ _ _) $$ HV1; iintro HV1
  iapply (ldV c 1 0 192 _ _ _) $$ HV1; iintro HV1
  iapply (ldV c 1 1 0 _ _ _) $$ HV1; iintro HV1
  iapply (ldV c 1 1 64 _ _ _) $$ HV1; iintro HV1
  rw [wp_ret]; imodintro
  iapply HQ
  isplitl [HO]; · iexact HO
  isplitl [Hz19]; · iexact Hz19
  iexact HV1

theorem part25 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v719 : FVec F S128x64 .f32) (v723 : FVec F S128x64 .f32) (v735 : FVec F S128x64 .f32) (v739 : FVec F S128x64 .f32), FVec F S128x64 .bf16) → sProp 𝕄} :
    iprop(records m ρ K ∗ oX c [] ∗ atP c 21 ∗ crd c 21 NV ∗ vP c 1 fullShare (vAll m ρ c))
      ⊢ iprop((oX c [] ∗ vP c 1 fullShare (vAll m ρ c) ∗ zero c 21 ∗ vP c 3 fullShare (vAll m ρ c) -∗ Q ⟨(wv719 m ρ c), (wv723 m ρ c), (wv735 m ρ c), (wv739 m ρ c), (wv741 m ρ c)⟩)
        -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv251 m ρ c) (wv392 m ρ c) (wv395 m ρ c) (wv481 m ρ c) (wv491 m ρ c) (wv509 m ρ c) (wv519 m ρ c) (wv695 m ρ c) (wv699 m ρ c)) Q) := by
  rw [k0_part25_eq_skeleton]
  unfold k0_part25_skel wv719 wv723 wv735 wv739 wv741
  simp only [semSignalWord, semWaitWord, Prog.lift, Prog.bind_op, Prog.bind_ret, Prog.pure_eq_ret]
  iintro ⟨#HR, HO, Ha21, Hc21, HV1⟩ HQ
  iapply (ldV c 1 1 128 _ _ _) $$ HV1; iintro HV1
  iapply (ldV c 1 1 192 _ _ _) $$ HV1; iintro HV1
  iapply (wp_dmaV m ρ K c 21 (vP c 3 fullShare (vAll m ρ c)) rfl rfl (by decide) rfl 3 0 inb_S4x2x128x256_S1x2x128x256_3_0_0_0 inb_S4x2x128x256_S1x2x128x256_0_0_0_0) $$ [HO Hc21 Ha21]
  · isplitr; · iexact HR
    isplitl [HO]; · iexact HO
    isplitl [Hc21]; · iexact Hc21
    iexact Ha21
  iintro ⟨HO, Hz21, HV3⟩
  iapply (ldV c 3 0 0 _ _ _) $$ HV3; iintro HV3
  iapply (ldV c 3 0 64 _ _ _) $$ HV3; iintro HV3
  iapply (ldV c 3 0 128 _ _ _) $$ HV3; iintro HV3
  rw [wp_ret]; imodintro
  iapply HQ
  isplitl [HO]; · iexact HO
  isplitl [HV1]; · iexact HV1
  isplitl [Hz21]; · iexact Hz21
  iexact HV3

end Cert.KernelIdeal.Ring

end
-- ==== Proof.Part4.lean ====
/-
# Parts 26 to 31 of the body
-/
module

public import proofs.«01_k».proof.Proof.Vals

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem part26 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v743 : FVec F S128x64 .f32) (v747 : FVec F S128x64 .f32) (v751 : FVec F S128x64 .f32) (v755 : FVec F S128x64 .f32) (v759 : FVec F S128x64 .f32), FVec F S128x64 .f32) → sProp 𝕄} :
    iprop(vP c 3 fullShare (vAll m ρ c))
      ⊢ iprop((vP c 3 fullShare (vAll m ρ c) -∗ Q ⟨(wv743 m ρ c), (wv747 m ρ c), (wv751 m ρ c), (wv755 m ρ c), (wv759 m ρ c), (wv763 m ρ c)⟩)
        -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv263 m ρ c) (wv529 m ρ c) (wv539 m ρ c) (wv557 m ρ c) (wv567 m ρ c) (wv577 m ρ c) (wv587 m ρ c) (wv703 m ρ c) (wv707 m ρ c) (wv711 m ρ c) (wv715 m ρ c) (wv719 m ρ c) (wv723 m ρ c) (wv741 m ρ c)) Q) := by
  rw [k0_part26_eq_skeleton]
  unfold k0_part26_skel wv743 wv747 wv751 wv755 wv759 wv763
  simp only [semSignalWord, semWaitWord, Prog.lift, Prog.bind_op, Prog.bind_ret, Prog.pure_eq_ret]
  iintro HV3 HQ
  iapply (ldV c 3 0 192 _ _ _) $$ HV3; iintro HV3
  iapply (ldV c 3 1 0 _ _ _) $$ HV3; iintro HV3
  iapply (ldV c 3 1 64 _ _ _) $$ HV3; iintro HV3
  iapply (ldV c 3 1 128 _ _ _) $$ HV3; iintro HV3
  iapply (ldV c 3 1 192 _ _ _) $$ HV3; iintro HV3
  rw [wp_ret]; imodintro
  iapply HQ
  iexact HV3

theorem part27 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v775 : FVec F S128x64 .f32) (v779 : FVec F S128x64 .f32) (v783 : FVec F S128x64 .f32) (v787 : FVec F S128x64 .f32) (v791 : FVec F S128x64 .f32), FVec F S128x64 .bf16) → sProp 𝕄} :
    iprop(records m ρ K ∗ oX c [] ∗ atP c 20 ∗ crd c 20 NV)
      ⊢ iprop((oX c [] ∗ zero c 20 ∗ vP c 2 fullShare (vAll m ρ c) -∗ Q ⟨(wv775 m ρ c), (wv779 m ρ c), (wv783 m ρ c), (wv787 m ρ c), (wv791 m ρ c), (wv793 m ρ c)⟩)
        -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv605 m ρ c) (wv615 m ρ c) (wv625 m ρ c) (wv635 m ρ c) (wv653 m ρ c) (wv735 m ρ c) (wv739 m ρ c) (wv743 m ρ c) (wv747 m ρ c) (wv751 m ρ c)) Q) := by
  rw [k0_part27_eq_skeleton]
  unfold k0_part27_skel wv775 wv779 wv783 wv787 wv791 wv793
  simp only [semSignalWord, semWaitWord, Prog.lift, Prog.bind_op, Prog.bind_ret, Prog.pure_eq_ret]
  iintro ⟨#HR, HO, Ha20, Hc20⟩ HQ
  iapply (wp_dmaV m ρ K c 20 (vP c 2 fullShare (vAll m ρ c)) rfl rfl (by decide) rfl 2 0 inb_S4x2x128x256_S1x2x128x256_2_0_0_0 inb_S4x2x128x256_S1x2x128x256_0_0_0_0) $$ [HO Hc20 Ha20]
  · isplitr; · iexact HR
    isplitl [HO]; · iexact HO
    isplitl [Hc20]; · iexact Hc20
    iexact Ha20
  iintro ⟨HO, Hz20, HV2⟩
  iapply (ldV c 2 0 0 _ _ _) $$ HV2; iintro HV2
  iapply (ldV c 2 0 64 _ _ _) $$ HV2; iintro HV2
  iapply (ldV c 2 0 128 _ _ _) $$ HV2; iintro HV2
  iapply (ldV c 2 0 192 _ _ _) $$ HV2; iintro HV2
  iapply (ldV c 2 1 0 _ _ _) $$ HV2; iintro HV2
  iapply (ldV c 2 1 64 _ _ _) $$ HV2; iintro HV2
  rw [wp_ret]; imodintro
  iapply HQ
  isplitl [HO]; · iexact HO
  isplitl [Hz20]; · iexact Hz20
  iexact HV2

theorem part28 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (Σ' (v795 : FVec F S128x64 .f32) (v799 : FVec F S128x64 .f32) (v803 : FVec F S128x64 .f32), FVec F S256x512 .bf16) → sProp 𝕄} :
    iprop(((((c : Dev nD) : Thread nD τ).loc cc0_stg4_0) ↦{fullShare} woS m ρ c) ∗ ((((c : Dev nD) : Thread nD τ).loc cc0_stg5_0) ↦{fullShare} f₅) ∗ vP c 2 fullShare (vAll m ρ c))
      ⊢ iprop((((((c : Dev nD) : Thread nD τ).loc cc0_stg4_0) ↦{fullShare} woS m ρ c) ∗ ((((c : Dev nD) : Thread nD τ).loc cc0_stg5_0) ↦{fullShare} ((Memref.whole cc0_stg5_0 : Memref sig .tc .vmem S2x128x512 .bf16).access (Rect.unit (s := S2x128x512) ![0, 0, 0] S1x128x512.size inb_S2x128x512_S1x128x512_0_0_0)).write (Elt F) f₅ ((k0_pay159 (wv604 m ρ c) (wv614 m ρ c) (wv624 m ρ c) (wv634 m ρ c) (wv775 m ρ c) (wv779 m ρ c) (wv783 m ρ c) (wv787 m ρ c) (woLd m ρ c))) Finset.univ) ∗ vP c 2 fullShare (vAll m ρ c) -∗ Q ⟨(wv795 m ρ c), (wv799 m ρ c), (wv803 m ρ c), (wv805 m ρ c)⟩)
        -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv604 m ρ c) (wv614 m ρ c) (wv624 m ρ c) (wv634 m ρ c) (wv663 m ρ c) (wv673 m ρ c) (wv683 m ρ c) (wv755 m ρ c) (wv759 m ρ c) (wv763 m ρ c) (wv775 m ρ c) (wv779 m ρ c) (wv783 m ρ c) (wv787 m ρ c) (wv793 m ρ c)) Q) := by
  rw [k0_part28_eq_skeleton]
  unfold k0_part28_skel wv795 wv799 wv803 wv805
  simp only [semSignalWord, semWaitWord, Prog.lift, Prog.bind_op, Prog.bind_ret, Prog.pure_eq_ret]
  iintro ⟨Hwo, Hout, HV2⟩ HQ
  iapply (ldV c 2 1 128 _ _ _) $$ HV2; iintro HV2
  iapply (ldV c 2 1 192 _ _ _) $$ HV2; iintro HV2
  iapply (wp_load 𝒱₀ (c : Thread nD τ) none Set.univ (m := Memref.whole cc0_stg4_0) (Finset.subset_univ _)) $$ Hwo; iintro Hwo
  iapply (wp_load 𝒱₀ (c : Thread nD τ) none Set.univ (m := Memref.whole cc0_stg5_0) (Finset.subset_univ _)) $$ Hout; iintro Hout
  iapply (stO c _ _ _) $$ Hout; iintro Hout
  rw [wp_ret]; imodintro
  iapply HQ
  isplitl [Hwo]; · iexact Hwo
  isplitl [Hout]; · iexact Hout
  iexact HV2

theorem part29 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (PUnit) → sProp 𝕄} :
    iprop(records m ρ K ∗ oX c [] ∗ ((((c : Dev nD) : Thread nD τ).loc cc0_stg5_0) ↦{fullShare} ((Memref.whole cc0_stg5_0 : Memref sig .tc .vmem S2x128x512 .bf16).access (Rect.unit (s := S2x128x512) ![0, 0, 0] S1x128x512.size inb_S2x128x512_S1x128x512_0_0_0)).write (Elt F) f₅ ((k0_pay159 (wv604 m ρ c) (wv614 m ρ c) (wv624 m ρ c) (wv634 m ρ c) (wv775 m ρ c) (wv779 m ρ c) (wv783 m ρ c) (wv787 m ρ c) (woLd m ρ c))) Finset.univ) ∗ atP c 5 ∗ crd c 5 NK)
      ⊢ iprop((oX c [] ∗ ((((c : Dev nD) : Thread nD τ).loc cc0_stg5_0) ↦{fullShare} outAll m ρ c) ∗ zero c 5 ∗ kP c 0 0 (sh 2) (kAll m ρ c) -∗ Q ⟨⟩)
        -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wv652 m ρ c) (wv662 m ρ c) (wv672 m ρ c) (wv682 m ρ c) (wv791 m ρ c) (wv795 m ρ c) (wv799 m ρ c) (wv803 m ρ c) (wv805 m ρ c)) Q) := by
  rw [k0_part29_eq_skeleton]
  unfold k0_part29_skel
  simp only [semSignalWord, semWaitWord, Prog.lift, Prog.bind_op, Prog.bind_ret, Prog.pure_eq_ret]
  iintro ⟨#HR, HO, Hout, Ha5, Hc5⟩ HQ
  iapply (wp_load 𝒱₀ (c : Thread nD τ) none Set.univ (m := Memref.whole cc0_stg5_0) (Finset.subset_univ _)) $$ Hout; iintro Hout
  iapply (stO c _ _ _) $$ Hout; iintro Hout
  ihave Hout := (Entails.of_eq (oP_stored m ρ c _ _ (stO0 m ρ c) _ (stO1 m ρ c))) $$ Hout
  iapply (wp_dmaK m ρ K c 5 (kP c 0 0 (sh 2) (kAll m ρ c)) rfl rfl (by decide) rfl 0 0 1 0 inb_S4x2x128x256_S1x1x128x256_0_0_0_0 inb_S4x2x128x256_S1x1x128x256_1_0_0_0) $$ [HO Hc5 Ha5]
  · isplitr; · iexact HR
    isplitl [HO]; · iexact HO
    isplitl [Hc5]; · iexact Hc5
    iexact Ha5
  iintro ⟨HO, Hz5, HK002⟩
  rw [wp_ret]; imodintro
  iapply HQ
  isplitl [HO]; · iexact HO
  isplitl [Hout]; · iexact Hout
  isplitl [Hz5]; · iexact Hz5
  iexact HK002

theorem part30 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (PUnit) → sProp 𝕄} :
    iprop(records m ρ K ∗ oX c [] ∗ atP c 1 ∗ atP c 3 ∗ atP c 6 ∗ crd c 1 NK ∗ crd c 3 NK ∗ crd c 6 NK)
      ⊢ iprop((oX c [] ∗ zero c 1 ∗ kP c 0 0 (sh 0) (kAll m ρ c) ∗ zero c 3 ∗ kP c 0 0 (sh 1) (kAll m ρ c) ∗ zero c 6 ∗ kP c 0 1 (sh 2) (kAll m ρ c) -∗ Q ⟨⟩)
        -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Q) := by
  rw [k0_part30_eq_skeleton]
  unfold k0_part30_skel
  simp only [semSignalWord, semWaitWord, Prog.lift, Prog.bind_op, Prog.bind_ret, Prog.pure_eq_ret]
  iintro ⟨#HR, HO, Ha1, Ha3, Ha6, Hc1, Hc3, Hc6⟩ HQ
  iapply (wp_dmaK m ρ K c 1 (kP c 0 0 (sh 0) (kAll m ρ c)) rfl rfl (by decide) rfl 0 0 3 0 inb_S4x2x128x256_S1x1x128x256_0_0_0_0 inb_S4x2x128x256_S1x1x128x256_3_0_0_0) $$ [HO Hc1 Ha1]
  · isplitr; · iexact HR
    isplitl [HO]; · iexact HO
    isplitl [Hc1]; · iexact Hc1
    iexact Ha1
  iintro ⟨HO, Hz1, HK000⟩
  iapply (wp_dmaK m ρ K c 3 (kP c 0 0 (sh 1) (kAll m ρ c)) rfl rfl (by decide) rfl 0 0 2 0 inb_S4x2x128x256_S1x1x128x256_0_0_0_0 inb_S4x2x128x256_S1x1x128x256_2_0_0_0) $$ [HO Hc3 Ha3]
  · isplitr; · iexact HR
    isplitl [HO]; · iexact HO
    isplitl [Hc3]; · iexact Hc3
    iexact Ha3
  iintro ⟨HO, Hz3, HK001⟩
  iapply (wp_dmaK m ρ K c 6 (kP c 0 1 (sh 2) (kAll m ρ c)) rfl rfl (by decide) rfl 0 1 1 1 inb_S4x2x128x256_S1x1x128x256_0_1_0_0 inb_S4x2x128x256_S1x1x128x256_1_1_0_0) $$ [HO Hc6 Ha6]
  · isplitr; · iexact HR
    isplitl [HO]; · iexact HO
    isplitl [Hc6]; · iexact Hc6
    iexact Ha6
  iintro ⟨HO, Hz6, HK012⟩
  rw [wp_ret]; imodintro
  iapply HQ
  isplitl [HO]; · iexact HO
  isplitl [Hz1]; · iexact Hz1
  isplitl [HK000]; · iexact HK000
  isplitl [Hz3]; · iexact Hz3
  isplitl [HK001]; · iexact HK001
  isplitl [Hz6]; · iexact Hz6
  iexact HK012

theorem part31 (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : (PUnit) → sProp 𝕄} :
    iprop(records m ρ K ∗ oX c [] ∗ atP c 2 ∗ atP c 4 ∗ atP c 17 ∗ crd c 2 NK ∗ crd c 4 NK ∗ crd c 17 NV)
      ⊢ iprop((oX c [] ∗ zero c 2 ∗ kP c 0 1 (sh 0) (kAll m ρ c) ∗ zero c 4 ∗ kP c 0 1 (sh 1) (kAll m ρ c) ∗ zero c 17 ∗ vP c 0 (sh 2) (vAll m ρ c) -∗ Q ⟨⟩)
        -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Q) := by
  rw [k0_part31_eq_skeleton]
  unfold k0_part31_skel
  simp only [semSignalWord, semWaitWord, Prog.lift, Prog.bind_op, Prog.bind_ret, Prog.pure_eq_ret]
  iintro ⟨#HR, HO, Ha2, Ha4, Ha17, Hc2, Hc4, Hc17⟩ HQ
  iapply (wp_dmaK m ρ K c 2 (kP c 0 1 (sh 0) (kAll m ρ c)) rfl rfl (by decide) rfl 0 1 3 1 inb_S4x2x128x256_S1x1x128x256_0_1_0_0 inb_S4x2x128x256_S1x1x128x256_3_1_0_0) $$ [HO Hc2 Ha2]
  · isplitr; · iexact HR
    isplitl [HO]; · iexact HO
    isplitl [Hc2]; · iexact Hc2
    iexact Ha2
  iintro ⟨HO, Hz2, HK010⟩
  iapply (wp_dmaK m ρ K c 4 (kP c 0 1 (sh 1) (kAll m ρ c)) rfl rfl (by decide) rfl 0 1 2 1 inb_S4x2x128x256_S1x1x128x256_0_1_0_0 inb_S4x2x128x256_S1x1x128x256_2_1_0_0) $$ [HO Hc4 Ha4]
  · isplitr; · iexact HR
    isplitl [HO]; · iexact HO
    isplitl [Hc4]; · iexact Hc4
    iexact Ha4
  iintro ⟨HO, Hz4, HK011⟩
  iapply (wp_dmaV m ρ K c 17 (vP c 0 (sh 2) (vAll m ρ c)) rfl rfl (by decide) rfl 0 1 inb_S4x2x128x256_S1x2x128x256_0_0_0_0 inb_S4x2x128x256_S1x2x128x256_1_0_0_0) $$ [HO Hc17 Ha17]
  · isplitr; · iexact HR
    isplitl [HO]; · iexact HO
    isplitl [Hc17]; · iexact Hc17
    iexact Ha17
  iintro ⟨HO, Hz17, HV02⟩
  rw [wp_ret]; imodintro
  iapply HQ
  isplitl [HO]; · iexact HO
  isplitl [Hz2]; · iexact Hz2
  isplitl [HK010]; · iexact HK010
  isplitl [Hz4]; · iexact Hz4
  isplitl [HK011]; · iexact HK011
  isplitl [Hz17]; · iexact Hz17
  iexact HV02

end Cert.KernelIdeal.Ring

end
-- ==== Proof.Body.lean ====
/-
# The body, from its start to its end
-/
module

public import proofs.«01_k».proof.Proof.Part1
public import proofs.«01_k».proof.Proof.Part2
public import proofs.«01_k».proof.Proof.Part3
public import proofs.«01_k».proof.Proof.Part4

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

set_option maxHeartbeats 4000000 in
theorem run_parts (K : Dev nD × Fin 22 → ℕ) (c : Dev nD) (f₀ : (cc0_scratch0 : Ref sig .tc).ty.Contents (Elt F)) (f₁ : (cc0_scratch1 : Ref sig .tc).ty.Contents (Elt F)) (f₂ : (cc0_scratch2 : Ref sig .tc).ty.Contents (Elt F)) (f₅ : (cc0_stg5_0 : Ref sig .tc).ty.Contents (Elt F)) {Q : PUnit → sProp 𝕄} :
    iprop(records m ρ K ∗ levAts L lv ∗ oX c (due c) ∗ tok (on c 1) 0 0 ∗ tok (on c 2) 0 1 ∗ tok (on c 3) 0 2 ∗ kP c 1 0 fullShare f₀ ∗ kP c 1 1 fullShare f₀ ∗ vP c 1 fullShare f₁ ∗ kP c 2 0 fullShare f₀ ∗ kP c 2 1 fullShare f₀ ∗ vP c 2 fullShare f₁ ∗ kP c 3 0 fullShare f₀ ∗ kP c 3 1 fullShare f₀ ∗ vP c 3 fullShare f₁ ∗ kP c 0 0 fullShare f₀ ∗ kP c 0 1 fullShare f₀ ∗ vP c 0 fullShare f₁ ∗ ((((c : Dev nD) : Thread nD τ).loc cc0_scratch2) ↦{fullShare} f₂) ∗ ((((c : Dev nD) : Thread nD τ).loc cc0_stg0_0) ↦{fullShare} xS m ρ c) ∗ ((((c : Dev nD) : Thread nD τ).loc cc0_stg1_0) ↦{fullShare} wqS m ρ c) ∗ ((((c : Dev nD) : Thread nD τ).loc cc0_stg2_0) ↦{fullShare} wkS m ρ c) ∗ ((((c : Dev nD) : Thread nD τ).loc cc0_stg3_0) ↦{fullShare} wvS m ρ c) ∗ ((((c : Dev nD) : Thread nD τ).loc cc0_stg4_0) ↦{fullShare} woS m ρ c) ∗ ((((c : Dev nD) : Thread nD τ).loc cc0_stg5_0) ↦{fullShare} f₅) ∗ crd c 0 3 ∗ atP c 0 ∗ atP c 1 ∗ atP c 2 ∗ atP c 3 ∗ atP c 4 ∗ atP c 5 ∗ atP c 6 ∗ atP c 7 ∗ atP c 8 ∗ atP c 9 ∗ atP c 10 ∗ atP c 11 ∗ atP c 12 ∗ atP c 13 ∗ atP c 14 ∗ atP c 15 ∗ atP c 16 ∗ atP c 17 ∗ atP c 18 ∗ atP c 19 ∗ atP c 20 ∗ atP c 21 ∗ crd c 9 NK ∗ crd c 10 NK ∗ crd c 11 NK ∗ crd c 12 NK ∗ crd c 13 NK ∗ crd c 14 NK ∗ crd c 19 NV ∗ crd c 20 NV ∗ crd c 21 NV ∗ tok c 1 0 ∗ tok c 2 0 ∗ tok c 3 0 ∗ tok c 4 0 ∗ tok c 5 0 ∗ tok c 6 0 ∗ tok c 15 0 ∗ tok c 16 0 ∗ tok c 17 0 ∗ tok (on c 3) 9 0 ∗ tok (on c 1) 13 0 ∗ tok (on c 2) 11 0 ∗ tok (on c 3) 10 0 ∗ tok (on c 1) 14 0 ∗ tok (on c 2) 12 0 ∗ tok (on c 3) 19 0 ∗ tok (on c 1) 21 0 ∗ tok (on c 2) 20 0)
      ⊢ iprop((oX c [] ∗ ((((c : Dev nD) : Thread nD τ).loc cc0_scratch2) ↦{fullShare} qAll m ρ c) ∗ ((((c : Dev nD) : Thread nD τ).loc cc0_stg0_0) ↦{fullShare} xS m ρ c) ∗ ((((c : Dev nD) : Thread nD τ).loc cc0_stg1_0) ↦{fullShare} wqS m ρ c) ∗ ((((c : Dev nD) : Thread nD τ).loc cc0_stg2_0) ↦{fullShare} wkS m ρ c) ∗ ((((c : Dev nD) : Thread nD τ).loc cc0_stg3_0) ↦{fullShare} wvS m ρ c) ∗ ((((c : Dev nD) : Thread nD τ).loc cc0_stg4_0) ↦{fullShare} woS m ρ c) ∗ ((((c : Dev nD) : Thread nD τ).loc cc0_stg5_0) ↦{fullShare} outAll m ρ c) ∗ atP c 7 ∗ atP c 8 ∗ atP c 18 ∗ kP c 0 0 kept (kAll m ρ c) ∗ zero c 0 ∗ kP c 0 1 kept (kAll m ρ c) ∗ vP c 0 kept (vAll m ρ c) ∗ zero c 9 ∗ kP c 1 0 fullShare (kAll m ρ c) ∗ zero c 10 ∗ kP c 1 1 fullShare (kAll m ρ c) ∗ zero c 13 ∗ kP c 3 0 fullShare (kAll m ρ c) ∗ zero c 14 ∗ kP c 3 1 fullShare (kAll m ρ c) ∗ zero c 11 ∗ kP c 2 0 fullShare (kAll m ρ c) ∗ zero c 12 ∗ kP c 2 1 fullShare (kAll m ρ c) ∗ zero c 19 ∗ vP c 1 fullShare (vAll m ρ c) ∗ zero c 21 ∗ vP c 3 fullShare (vAll m ρ c) ∗ zero c 20 ∗ vP c 2 fullShare (vAll m ρ c) ∗ zero c 5 ∗ kP c 0 0 (sh 2) (kAll m ρ c) ∗ zero c 1 ∗ kP c 0 0 (sh 0) (kAll m ρ c) ∗ zero c 3 ∗ kP c 0 0 (sh 1) (kAll m ρ c) ∗ zero c 6 ∗ kP c 0 1 (sh 2) (kAll m ρ c) ∗ zero c 2 ∗ kP c 0 1 (sh 0) (kAll m ρ c) ∗ zero c 4 ∗ kP c 0 1 (sh 1) (kAll m ρ c) ∗ zero c 17 ∗ vP c 0 (sh 2) (vAll m ρ c) ∗ zero c 15 ∗ vP c 0 (sh 0) (vAll m ρ c) ∗ zero c 16 ∗ vP c 0 (sh 1) (vAll m ρ c) -∗ Q ⟨⟩)
        -∗ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part32_eq_skeleton]
  unfold k0_part32_skel
  iintro ⟨#HR, #Hlev, HO, Htb0, Htb1, Htb2, HK10, HK11, HV1, HK20, HK21, HV2, HK30, HK31, HV3, HK00, HK01, HV0, Hq, Hx, Hwq, Hwk, Hwv, Hwo, Hout, Hc0, Ha0, Ha1, Ha2, Ha3, Ha4, Ha5, Ha6, Ha7, Ha8, Ha9, Ha10, Ha11, Ha12, Ha13, Ha14, Ha15, Ha16, Ha17, Ha18, Ha19, Ha20, Ha21, Hc9, Hc10, Hc11, Hc12, Hc13, Hc14, Hc19, Hc20, Hc21, Ht1, Ht2, Ht3, Ht4, Ht5, Ht6, Ht15, Ht16, Ht17, Hr9, Hr13, Hr11, Hr10, Hr14, Hr12, Hr19, Hr21, Hr20⟩ HQ
  rw [wp_bind]
  iapply (part1 m ρ K c f₀ f₁ f₂ f₅) $$ [HO Htb0 Htb1 Htb2 HK10 HK11 HV1 HK20 HK21 HV2 HK30 HK31 HV3]
  · isplitr; · iexact HR
    isplitl [HO]; · iexact HO
    isplitl [Htb0]; · iexact Htb0
    isplitl [Htb1]; · iexact Htb1
    isplitl [Htb2]; · iexact Htb2
    isplitl [HK10]; · iexact HK10
    isplitl [HK11]; · iexact HK11
    isplitl [HV1]; · iexact HV1
    isplitl [HK20]; · iexact HK20
    isplitl [HK21]; · iexact HK21
    isplitl [HV2]; · iexact HV2
    isplitl [HK30]; · iexact HK30
    isplitl [HK31]; · iexact HK31
    iexact HV3
  iintro HO
  try dsimp only
  rw [wp_bind]
  iapply (part2 m ρ K c f₀ f₁ f₂ f₅)
  try dsimp only
  rw [wp_bind]
  iapply (part3 m ρ K c f₀ f₁ f₂ f₅)
  try dsimp only
  rw [wp_bind]
  iapply (part4 m ρ K c f₀ f₁ f₂ f₅) $$ [HO HK00 Hx Hwk Hc0 Ha0]
  · isplitr; · iexact HR
    isplitl [HO]; · iexact HO
    isplitl [HK00]; · iexact HK00
    isplitl [Hx]; · iexact Hx
    isplitl [Hwk]; · iexact Hwk
    isplitr; · iexact Hlev
    isplitl [Hc0]; · iexact Hc0
    iexact Ha0
  iintro ⟨HO, Hx, Hwk, HK000, HK001, HK002, HK00k, Hz0, HD10, HD11, HDV1, HD20, HD21, HDV2, HD30, HD31, HDV3⟩
  try dsimp only
  rw [wp_bind]
  iapply (part5 m ρ K c f₀ f₁ f₂ f₅) $$ [HO Ht1 Ht5 Hr9 Hr13 HK000 HK002 HD10 HD30]
  · isplitr; · iexact HR
    isplitl [HO]; · iexact HO
    isplitl [Ht1]; · iexact Ht1
    isplitl [Ht5]; · iexact Ht5
    isplitl [Hr9]; · iexact Hr9
    isplitl [Hr13]; · iexact Hr13
    isplitl [HK000]; · iexact HK000
    isplitl [HK002]; · iexact HK002
    isplitl [HD10]; · iexact HD10
    iexact HD30
  iintro ⟨HO, Hc5, Hc1⟩
  try dsimp only
  rw [wp_bind]
  iapply (part6 m ρ K c f₀ f₁ f₂ f₅) $$ [HO HK01 Ht3 Ht6 Hr11 Hr10 HK001 HD11 HD20]
  · isplitr; · iexact HR
    isplitl [HO]; · iexact HO
    isplitl [HK01]; · iexact HK01
    isplitl [Ht3]; · iexact Ht3
    isplitl [Ht6]; · iexact Ht6
    isplitl [Hr11]; · iexact Hr11
    isplitl [Hr10]; · iexact Hr10
    isplitl [HK001]; · iexact HK001
    isplitl [HD11]; · iexact HD11
    iexact HD20
  iintro ⟨HO, Hc3, HK010, HK011, HK01k, Hc6⟩
  try dsimp only
  rw [wp_bind]
  iapply (part7 m ρ K c f₀ f₁ f₂ f₅) $$ [HO Hwv Ht2 Ht4 Hr14 Hr12 HD21 HD31 HK010 HK011]
  · isplitr; · iexact HR
    isplitl [HO]; · iexact HO
    isplitl [Hwv]; · iexact Hwv
    isplitl [Ht2]; · iexact Ht2
    isplitl [Ht4]; · iexact Ht4
    isplitl [Hr14]; · iexact Hr14
    isplitl [Hr12]; · iexact Hr12
    isplitl [HD21]; · iexact HD21
    isplitl [HD31]; · iexact HD31
    isplitl [HK010]; · iexact HK010
    iexact HK011
  iintro ⟨HO, Hwv, Hc2, Hc4⟩
  try dsimp only
  rw [wp_bind]
  iapply (part8 m ρ K c f₀ f₁ f₂ f₅) $$ [HO HV0 Ht17 Hr19 HDV1]
  · isplitr; · iexact HR
    isplitl [HO]; · iexact HO
    isplitl [HV0]; · iexact HV0
    isplitl [Ht17]; · iexact Ht17
    isplitl [Hr19]; · iexact Hr19
    iexact HDV1
  iintro ⟨HO, HV00, HV01, HV0k, Hc17⟩
  try dsimp only
  rw [wp_bind]
  iapply (part9 m ρ K c f₀ f₁ f₂ f₅) $$ [HO Hq Hwq Ht15 Ht16 Hr21 Hr20 HDV2 HDV3 HV00 HV01]
  · isplitr; · iexact HR
    isplitl [HO]; · iexact HO
    isplitl [Hq]; · iexact Hq
    isplitl [Hwq]; · iexact Hwq
    isplitl [Ht15]; · iexact Ht15
    isplitl [Ht16]; · iexact Ht16
    isplitl [Hr21]; · iexact Hr21
    isplitl [Hr20]; · iexact Hr20
    isplitl [HDV2]; · iexact HDV2
    isplitl [HDV3]; · iexact HDV3
    isplitl [HV00]; · iexact HV00
    iexact HV01
  iintro ⟨HO, Hq, Hwq, Hc15, Hc16⟩
  try dsimp only
  rw [wp_bind]
  iapply (part10 m ρ K c f₀ f₁ f₂ f₅) $$ [Hq HK00k]
  · isplitl [Hq]; · iexact Hq
    iexact HK00k
  iintro ⟨Hq, HK00k⟩
  try dsimp only
  rw [wp_bind]
  iapply (part11 m ρ K c f₀ f₁ f₂ f₅) $$ [Hq HK00k HV0k]
  · isplitl [Hq]; · iexact Hq
    isplitl [HK00k]; · iexact HK00k
    iexact HV0k
  iintro ⟨Hq, HK00k, HV0k⟩
  try dsimp only
  rw [wp_bind]
  iapply (part12 m ρ K c f₀ f₁ f₂ f₅) $$ [Hq HK01k HV0k]
  · isplitl [Hq]; · iexact Hq
    isplitl [HK01k]; · iexact HK01k
    iexact HV0k
  iintro ⟨Hq, HK01k, HV0k⟩
  try dsimp only
  rw [wp_bind]
  iapply (part13 m ρ K c f₀ f₁ f₂ f₅) $$ [Hq HK01k HV0k]
  · isplitl [Hq]; · iexact Hq
    isplitl [HK01k]; · iexact HK01k
    iexact HV0k
  iintro ⟨Hq, HK01k, HV0k⟩
  try dsimp only
  rw [wp_bind]
  iapply (part14 m ρ K c f₀ f₁ f₂ f₅) $$ [HO Hq Ha9 Hc9]
  · isplitr; · iexact HR
    isplitl [HO]; · iexact HO
    isplitl [Hq]; · iexact Hq
    isplitl [Ha9]; · iexact Ha9
    iexact Hc9
  iintro ⟨HO, Hq, Hz9, HK10⟩
  try dsimp only
  rw [wp_bind]
  iapply (part15 m ρ K c f₀ f₁ f₂ f₅) $$ [HO Hq Ha10 Hc10 HK10]
  · isplitr; · iexact HR
    isplitl [HO]; · iexact HO
    isplitl [Hq]; · iexact Hq
    isplitl [Ha10]; · iexact Ha10
    isplitl [Hc10]; · iexact Hc10
    iexact HK10
  iintro ⟨HO, Hq, HK10, Hz10, HK11⟩
  try dsimp only
  rw [wp_bind]
  iapply (part16 m ρ K c f₀ f₁ f₂ f₅) $$ [Hq HK11]
  · isplitl [Hq]; · iexact Hq
    iexact HK11
  iintro ⟨Hq, HK11⟩
  try dsimp only
  rw [wp_bind]
  iapply (part17 m ρ K c f₀ f₁ f₂ f₅) $$ [HO Hq Ha13 Hc13]
  · isplitr; · iexact HR
    isplitl [HO]; · iexact HO
    isplitl [Hq]; · iexact Hq
    isplitl [Ha13]; · iexact Ha13
    iexact Hc13
  iintro ⟨HO, Hq, Hz13, HK30⟩
  try dsimp only
  rw [wp_bind]
  iapply (part18 m ρ K c f₀ f₁ f₂ f₅) $$ [Hq HK30]
  · isplitl [Hq]; · iexact Hq
    iexact HK30
  iintro ⟨Hq, HK30⟩
  try dsimp only
  rw [wp_bind]
  iapply (part19 m ρ K c f₀ f₁ f₂ f₅) $$ [HO Hq Ha14 Hc14]
  · isplitr; · iexact HR
    isplitl [HO]; · iexact HO
    isplitl [Hq]; · iexact Hq
    isplitl [Ha14]; · iexact Ha14
    iexact Hc14
  iintro ⟨HO, Hq, Hz14, HK31⟩
  try dsimp only
  rw [wp_bind]
  iapply (part20 m ρ K c f₀ f₁ f₂ f₅) $$ [HO Hq Ha11 Hc11 HK31]
  · isplitr; · iexact HR
    isplitl [HO]; · iexact HO
    isplitl [Hq]; · iexact Hq
    isplitl [Ha11]; · iexact Ha11
    isplitl [Hc11]; · iexact Hc11
    iexact HK31
  iintro ⟨HO, Hq, HK31, Hz11, HK20⟩
  try dsimp only
  rw [wp_bind]
  iapply (part21 m ρ K c f₀ f₁ f₂ f₅) $$ [Hq HK20]
  · isplitl [Hq]; · iexact Hq
    iexact HK20
  iintro ⟨Hq, HK20⟩
  try dsimp only
  rw [wp_bind]
  iapply (part22 m ρ K c f₀ f₁ f₂ f₅) $$ [HO Hq Ha12 Hc12]
  · isplitr; · iexact HR
    isplitl [HO]; · iexact HO
    isplitl [Hq]; · iexact Hq
    isplitl [Ha12]; · iexact Ha12
    iexact Hc12
  iintro ⟨HO, Hq, Hz12, HK21⟩
  try dsimp only
  rw [wp_bind]
  iapply (part23 m ρ K c f₀ f₁ f₂ f₅) $$ [Hq HK21]
  · isplitl [Hq]; · iexact Hq
    iexact HK21
  iintro ⟨Hq, HK21⟩
  try dsimp only
  rw [wp_bind]
  iapply (part24 m ρ K c f₀ f₁ f₂ f₅) $$ [HO Ha19 Hc19]
  · isplitr; · iexact HR
    isplitl [HO]; · iexact HO
    isplitl [Ha19]; · iexact Ha19
    iexact Hc19
  iintro ⟨HO, Hz19, HV1⟩
  try dsimp only
  rw [wp_bind]
  iapply (part25 m ρ K c f₀ f₁ f₂ f₅) $$ [HO Ha21 Hc21 HV1]
  · isplitr; · iexact HR
    isplitl [HO]; · iexact HO
    isplitl [Ha21]; · iexact Ha21
    isplitl [Hc21]; · iexact Hc21
    iexact HV1
  iintro ⟨HO, HV1, Hz21, HV3⟩
  try dsimp only
  rw [wp_bind]
  iapply (part26 m ρ K c f₀ f₁ f₂ f₅) $$ [HV3]
  · iexact HV3
  iintro HV3
  try dsimp only
  rw [wp_bind]
  iapply (part27 m ρ K c f₀ f₁ f₂ f₅) $$ [HO Ha20 Hc20]
  · isplitr; · iexact HR
    isplitl [HO]; · iexact HO
    isplitl [Ha20]; · iexact Ha20
    iexact Hc20
  iintro ⟨HO, Hz20, HV2⟩
  try dsimp only
  rw [wp_bind]
  iapply (part28 m ρ K c f₀ f₁ f₂ f₅) $$ [Hwo Hout HV2]
  · isplitl [Hwo]; · iexact Hwo
    isplitl [Hout]; · iexact Hout
    iexact HV2
  iintro ⟨Hwo, Hout, HV2⟩
  try dsimp only
  rw [wp_bind]
  iapply (part29 m ρ K c f₀ f₁ f₂ f₅) $$ [HO Hout Ha5 Hc5]
  · isplitr; · iexact HR
    isplitl [HO]; · iexact HO
    isplitl [Hout]; · iexact Hout
    isplitl [Ha5]; · iexact Ha5
    iexact Hc5
  iintro ⟨HO, Hout, Hz5, HK002⟩
  try dsimp only
  rw [wp_bind]
  iapply (part30 m ρ K c f₀ f₁ f₂ f₅) $$ [HO Ha1 Ha3 Ha6 Hc1 Hc3 Hc6]
  · isplitr; · iexact HR
    isplitl [HO]; · iexact HO
    isplitl [Ha1]; · iexact Ha1
    isplitl [Ha3]; · iexact Ha3
    isplitl [Ha6]; · iexact Ha6
    isplitl [Hc1]; · iexact Hc1
    isplitl [Hc3]; · iexact Hc3
    iexact Hc6
  iintro ⟨HO, Hz1, HK000, Hz3, HK001, Hz6, HK012⟩
  try dsimp only
  rw [wp_bind]
  iapply (part31 m ρ K c f₀ f₁ f₂ f₅) $$ [HO Ha2 Ha4 Ha17 Hc2 Hc4 Hc17]
  · isplitr; · iexact HR
    isplitl [HO]; · iexact HO
    isplitl [Ha2]; · iexact Ha2
    isplitl [Ha4]; · iexact Ha4
    isplitl [Ha17]; · iexact Ha17
    isplitl [Hc2]; · iexact Hc2
    isplitl [Hc4]; · iexact Hc4
    iexact Hc17
  iintro ⟨HO, Hz2, HK010, Hz4, HK011, Hz17, HV02⟩
  try dsimp only
  simp only [Prog.lift, Prog.bind_op, Prog.bind_ret, Prog.pure_eq_ret]
  iapply (wp_dmaV m ρ K c 15 (vP c 0 (sh 0) (vAll m ρ c)) rfl rfl (by decide) rfl 0 3 inb_S4x2x128x256_S1x2x128x256_0_0_0_0 inb_S4x2x128x256_S1x2x128x256_3_0_0_0) $$ [HO Hc15 Ha15]
  · isplitr; · iexact HR
    isplitl [HO]; · iexact HO
    isplitl [Hc15]; · iexact Hc15
    iexact Ha15
  iintro ⟨HO, Hz15, HV00⟩
  iapply (wp_dmaV m ρ K c 16 (vP c 0 (sh 1) (vAll m ρ c)) rfl rfl (by decide) rfl 0 2 inb_S4x2x128x256_S1x2x128x256_0_0_0_0 inb_S4x2x128x256_S1x2x128x256_2_0_0_0) $$ [HO Hc16 Ha16]
  · isplitr; · iexact HR
    isplitl [HO]; · iexact HO
    isplitl [Hc16]; · iexact Hc16
    iexact Ha16
  iintro ⟨HO, Hz16, HV01⟩
  rw [wp_ret]; imodintro
  iapply HQ
  isplitl [HO]; · iexact HO
  isplitl [Hq]; · iexact Hq
  isplitl [Hx]; · iexact Hx
  isplitl [Hwq]; · iexact Hwq
  isplitl [Hwk]; · iexact Hwk
  isplitl [Hwv]; · iexact Hwv
  isplitl [Hwo]; · iexact Hwo
  isplitl [Hout]; · iexact Hout
  isplitl [Ha7]; · iexact Ha7
  isplitl [Ha8]; · iexact Ha8
  isplitl [Ha18]; · iexact Ha18
  isplitl [HK00k]; · iexact HK00k
  isplitl [Hz0]; · iexact Hz0
  isplitl [HK01k]; · iexact HK01k
  isplitl [HV0k]; · iexact HV0k
  isplitl [Hz9]; · iexact Hz9
  isplitl [HK10]; · iexact HK10
  isplitl [Hz10]; · iexact Hz10
  isplitl [HK11]; · iexact HK11
  isplitl [Hz13]; · iexact Hz13
  isplitl [HK30]; · iexact HK30
  isplitl [Hz14]; · iexact Hz14
  isplitl [HK31]; · iexact HK31
  isplitl [Hz11]; · iexact Hz11
  isplitl [HK20]; · iexact HK20
  isplitl [Hz12]; · iexact Hz12
  isplitl [HK21]; · iexact HK21
  isplitl [Hz19]; · iexact Hz19
  isplitl [HV1]; · iexact HV1
  isplitl [Hz21]; · iexact Hz21
  isplitl [HV3]; · iexact HV3
  isplitl [Hz20]; · iexact Hz20
  isplitl [HV2]; · iexact HV2
  isplitl [Hz5]; · iexact Hz5
  isplitl [HK002]; · iexact HK002
  isplitl [Hz1]; · iexact Hz1
  isplitl [HK000]; · iexact HK000
  isplitl [Hz3]; · iexact Hz3
  isplitl [HK001]; · iexact HK001
  isplitl [Hz6]; · iexact Hz6
  isplitl [HK012]; · iexact HK012
  isplitl [Hz2]; · iexact Hz2
  isplitl [HK010]; · iexact HK010
  isplitl [Hz4]; · iexact Hz4
  isplitl [HK011]; · iexact HK011
  isplitl [Hz17]; · iexact Hz17
  isplitl [HV02]; · iexact HV02
  isplitl [Hz15]; · iexact Hz15
  isplitl [HV00]; · iexact HV00
  isplitl [Hz16]; · iexact Hz16
  iexact HV01

end Cert.KernelIdeal.Ring

end
-- ==== Proof.Launch.lean ====
/-
# The launch

What each device starts from and ends with, how the launch deals it out, and the run of the whole program.
-/
module

public import proofs.«01_k».proof.Proof.Body
public import Idealize.ShloMosaic.Lib.Pipeline.CollectiveSegs

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The tokens and credits of a device, one list each -/

/-- The cells and duties a device's tokens are for, and how many devices on the payer's cell lies. -/
def tokCell : Fin 21 → Fin 22 := ![0, 0, 0, 1, 2, 3, 4, 5, 6, 15, 16, 17, 9, 13, 11, 10, 14, 12, 19, 21, 20]
def tokDuty : Fin 21 → Fin 3 := ![0, 1, 2, 0, 0, 0, 0, 0, 0, 0, 0, 0, 0, 0, 0, 0, 0, 0, 0, 0, 0]
def tokOff : Fin 21 → ℕ := ![1, 2, 3, 0, 0, 0, 0, 0, 0, 0, 0, 0, 3, 1, 2, 3, 1, 2, 3, 1, 2]
/-- The cells a device waits at for others, and the units it is owed there. -/
def crdCell : Fin 10 → Fin 22 := ![0, 9, 10, 11, 12, 13, 14, 19, 20, 21]
def crdAmt : Fin 10 → ℕ := ![3, NK, NK, NK, NK, NK, NK, NV, NV, NV]

/-- The tokens of a device's own cells; those it pays with; its credits; its positions; its counters at zero. -/
def ownToks (c : Dev nD) : sProp 𝕄 := bigSep Finset.univ fun j : Fin 21 => tok c (tokCell j) (tokDuty j)
def payToks (c : Dev nD) : sProp 𝕄 := bigSep Finset.univ fun j : Fin 21 => tok (on c (tokOff j)) (tokCell j) (tokDuty j)
def crds (c : Dev nD) : sProp 𝕄 := bigSep Finset.univ fun j : Fin 10 => crd c (crdCell j) (crdAmt j)
def ats (c : Dev nD) : sProp 𝕄 := bigSep Finset.univ fun k : Fin 22 => atP c k
def zeros (c : Dev nD) : sProp 𝕄 := bigSep Finset.univ fun k : Fin 22 => zero c k

omit [FloatOps F] [Named F] in
theorem ats_eq (c : Dev nD) : (ats c : sProp 𝕄) = iprop(atP c 0 ∗ atP c 1 ∗ atP c 2 ∗ atP c 3 ∗ atP c 4 ∗ atP c 5 ∗ atP c 6 ∗ atP c 7 ∗ atP c 8 ∗ atP c 9 ∗ atP c 10 ∗ atP c 11 ∗ atP c 12 ∗ atP c 13 ∗ atP c 14 ∗ atP c 15 ∗ atP c 16 ∗ atP c 17 ∗ atP c 18 ∗ atP c 19 ∗ atP c 20 ∗ atP c 21) := by
  unfold ats; exact bigSep_univ_eq_bigSepL [0, 1, 2, 3, 4, 5, 6, 7, 8, 9, 10, 11, 12, 13, 14, 15, 16, 17, 18, 19, 20, 21] (by decide) (by decide) _
omit [FloatOps F] [Named F] in
theorem zeros_eq (c : Dev nD) : (zeros c : sProp 𝕄) = iprop(zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14 ∗ zero c 15 ∗ zero c 16 ∗ zero c 17 ∗ zero c 18 ∗ zero c 19 ∗ zero c 20 ∗ zero c 21) := by
  unfold zeros; exact bigSep_univ_eq_bigSepL [0, 1, 2, 3, 4, 5, 6, 7, 8, 9, 10, 11, 12, 13, 14, 15, 16, 17, 18, 19, 20, 21] (by decide) (by decide) _
omit [FloatOps F] [Named F] in
theorem crds_eq (c : Dev nD) : (crds c : sProp 𝕄) = iprop(crd c 0 3 ∗ crd c 9 NK ∗ crd c 10 NK ∗ crd c 11 NK ∗ crd c 12 NK ∗ crd c 13 NK ∗ crd c 14 NK ∗ crd c 19 NV ∗ crd c 20 NV ∗ crd c 21 NV) := by
  unfold crds; exact bigSep_univ_eq_bigSepL [0, 1, 2, 3, 4, 5, 6, 7, 8, 9] (by decide) (by decide) _
omit [FloatOps F] [Named F] in
theorem payToks_eq (c : Dev nD) : (payToks c : sProp 𝕄) = iprop(tok (on c 1) 0 0 ∗ tok (on c 2) 0 1 ∗ tok (on c 3) 0 2 ∗ tok (on c 0) 1 0 ∗ tok (on c 0) 2 0 ∗ tok (on c 0) 3 0 ∗ tok (on c 0) 4 0 ∗ tok (on c 0) 5 0 ∗ tok (on c 0) 6 0 ∗ tok (on c 0) 15 0 ∗ tok (on c 0) 16 0 ∗ tok (on c 0) 17 0 ∗ tok (on c 3) 9 0 ∗ tok (on c 1) 13 0 ∗ tok (on c 2) 11 0 ∗ tok (on c 3) 10 0 ∗ tok (on c 1) 14 0 ∗ tok (on c 2) 12 0 ∗ tok (on c 3) 19 0 ∗ tok (on c 1) 21 0 ∗ tok (on c 2) 20 0) := by
  unfold payToks; exact bigSep_univ_eq_bigSepL [0, 1, 2, 3, 4, 5, 6, 7, 8, 9, 10, 11, 12, 13, 14, 15, 16, 17, 18, 19, 20] (by decide) (by decide) _

/-! ## What a device's body starts from and ends with -/

def linear (c : Dev nD) : sProp 𝕄 := iprop(ats c ∗ payToks c)
def G' (c : Dev nD) : sProp 𝕄 := iprop(∃ K, records m ρ K ∗ linear c)
def start (c : Dev nD) : sProp 𝕄 := iprop(G' m ρ c ∗ crds c ∗ levAts L lv)
def scr (c : Dev nD) : sProp 𝕄 :=
  iprop((∃ f : Buf (Elt F) (((c : Dev nD) : Thread nD τ).loc cc0_scratch0), ((((c : Dev nD) : Thread nD τ).loc cc0_scratch0) ↦{fullShare} f)) ∗ (∃ f : Buf (Elt F) (((c : Dev nD) : Thread nD τ).loc cc0_scratch1), ((((c : Dev nD) : Thread nD τ).loc cc0_scratch1) ↦{fullShare} f))
    ∗ (∃ f : Buf (Elt F) (((c : Dev nD) : Thread nD τ).loc cc0_scratch2), ((((c : Dev nD) : Thread nD τ).loc cc0_scratch2) ↦{fullShare} f)))
def Φ₀ (c : Dev nD) : sProp 𝕄 := iprop(start m ρ c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => wqS m ρ c
    | ⟨2, _⟩ => wkS m ρ c
    | ⟨3, _⟩ => wvS m ρ c
    | ⟨4, _⟩ => woS m ρ c
    | ⟨5, _⟩ => outAll m ρ c
  Φ t := match t with
    | ⟨0, _⟩ => Φ₀ m ρ c
    | ⟨_ + 1, _⟩ => Φ₁ c
  q _ := fullShare
  owed t := match t with
    | ⟨0, _⟩ => tl (due c)
    | ⟨_ + 1, _⟩ => 0

omit [FloatOps F] [Named F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPost (c : Dev nD) : sProp 𝕄 :=
  iprop(Φ₁ c ∗ (dats m ρ 0 c).owesAt () t0_0.succ
    ∗ stg c cc0_stg0_0 (xS m ρ c)
    ∗ stg c cc0_stg1_0 (wqS m ρ c)
    ∗ stg c cc0_stg2_0 (wkS m ρ c)
    ∗ stg c cc0_stg3_0 (wvS m ρ c)
    ∗ stg c cc0_stg4_0 (woS m ρ c)
    ∗ stg c cc0_stg5_0 (outAll m ρ c))
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

theorem before_0 (c : Dev nD) (d) : (dats m ρ 0 c).before (0 : Fin 6) t0_0 d = xS m ρ c := by
  unfold Dat.before; rw [if_pos (by rfl)]; rfl
theorem before_1 (c : Dev nD) (d) : (dats m ρ 0 c).before (1 : Fin 6) t0_0 d = wqS m ρ c := by
  unfold Dat.before; rw [if_pos (by rfl)]; rfl
theorem before_2 (c : Dev nD) (d) : (dats m ρ 0 c).before (2 : Fin 6) t0_0 d = wkS m ρ c := by
  unfold Dat.before; rw [if_pos (by rfl)]; rfl
theorem before_3 (c : Dev nD) (d) : (dats m ρ 0 c).before (3 : Fin 6) t0_0 d = wvS m ρ c := by
  unfold Dat.before; rw [if_pos (by rfl)]; rfl
theorem before_4 (c : Dev nD) (d) : (dats m ρ 0 c).before (4 : Fin 6) t0_0 d = woS m ρ c := by
  unfold Dat.before; rw [if_pos (by rfl)]; rfl

theorem none_due (c : Dev nD) (k : Fin 22) (h : dut k = ∅) : ∀ r, 0 ≤ r → (ringRd (F := F) m ρ).duties (kcell c k) r = ∅ := fun r _ => by
  rcases Nat.eq_zero_or_pos r with rfl | hr
  · rw [duties_cell, h]
  · exact duties_later m ρ _ r hr

theorem close_idle (K : Dev nD × Fin 22 → ℕ) (c : Dev nD) (k : Fin 22) (h : dut k = ∅) :
    iprop(records m ρ K ∗ atP c k) ⊢ (|={Set.univ}=> zero c k : sProp 𝕄) := by
  unfold atP zero
  iintro ⟨#HR, Ha⟩
  ihave #HI := (inv_at m ρ K c k) $$ HR
  iapply (Rounds.cell_close ER (ringRd m ρ) (Set.mem_univ (K (c, k))) (fun h => h) (R := 0) (none_due m ρ c k h))
  isplitr; · iexact HI
  iexact Ha

set_option maxHeartbeats 4000000 in
theorem body_run (c : Dev nD) : bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  unfold bodyPre Φ₀ start G' linear scr
  rw [cc0_body_eq_skeleton]
  unfold cc0_body_skel
  iintro ⟨⟨⟨⟨%K, #HR, Hats, Hpay⟩, Hcr, #Hlev⟩, ⟨%f₀, HS0⟩, ⟨%f₁, HS1⟩, ⟨%f₂, HS2⟩⟩, Ho, ⟨%d0, %x0, %e0, Hx0⟩, ⟨%d1, %x1, %e1, Hx1⟩, ⟨%d2, %x2, %e2, Hx2⟩, ⟨%d3, %x3, %e3, Hx3⟩, ⟨%d4, %x4, %e4, Hx4⟩, ⟨%d5, %f₅, %e5, Hx5⟩⟩
  rw [before_0] at e0
  subst e0
  rw [before_1] at e1
  subst e1
  rw [before_2] at e2
  subst e2
  rw [before_3] at e3
  subst e3
  rw [before_4] at e4
  subst e4
  ihave H := (Entails.of_eq (ats_eq (F := F) c)) $$ Hats
  icases H with ⟨Ha0, Ha1, Ha2, Ha3, Ha4, Ha5, Ha6, Ha7, Ha8, Ha9, Ha10, Ha11, Ha12, Ha13, Ha14, Ha15, Ha16, Ha17, Ha18, Ha19, Ha20, Ha21⟩
  ihave H := (Entails.of_eq (payToks_eq (F := F) c)) $$ Hpay
  icases H with ⟨Hp0, Hp1, Hp2, Hp3, Hp4, Hp5, Hp6, Hp7, Hp8, Hp9, Hp10, Hp11, Hp12, Hp13, Hp14, Hp15, Hp16, Hp17, Hp18, Hp19, Hp20⟩
  ihave H := (Entails.of_eq (crds_eq (F := F) c)) $$ Hcr
  icases H with ⟨Hc0, Hc9, Hc10, Hc11, Hc12, Hc13, Hc14, Hc19, Hc20, Hc21⟩
  ihave H := (Entails.of_eq (kP_slots (F := F) c f₀)) $$ HS0
  icases H with ⟨HK00, HK01, HK10, HK11, HK20, HK21, HK30, HK31⟩
  ihave H := (Entails.of_eq (vP_slots (F := F) c f₁)) $$ HS1
  icases H with ⟨HV0, HV1, HV2, HV3⟩
  unfold Dat.owesAt Pipeline.owesWithin
  icases Ho with ⟨%W, %hW, HO⟩
  ihave Hp3 := (Entails.of_eq (congrArg (fun x => (tok x 1 0 : sProp 𝕄)) (on_zero c))) $$ Hp3
  ihave Hp4 := (Entails.of_eq (congrArg (fun x => (tok x 2 0 : sProp 𝕄)) (on_zero c))) $$ Hp4
  ihave Hp5 := (Entails.of_eq (congrArg (fun x => (tok x 3 0 : sProp 𝕄)) (on_zero c))) $$ Hp5
  ihave Hp6 := (Entails.of_eq (congrArg (fun x => (tok x 4 0 : sProp 𝕄)) (on_zero c))) $$ Hp6
  ihave Hp7 := (Entails.of_eq (congrArg (fun x => (tok x 5 0 : sProp 𝕄)) (on_zero c))) $$ Hp7
  ihave Hp8 := (Entails.of_eq (congrArg (fun x => (tok x 6 0 : sProp 𝕄)) (on_zero c))) $$ Hp8
  ihave Hp9 := (Entails.of_eq (congrArg (fun x => (tok x 15 0 : sProp 𝕄)) (on_zero c))) $$ Hp9
  ihave Hp10 := (Entails.of_eq (congrArg (fun x => (tok x 16 0 : sProp 𝕄)) (on_zero c))) $$ Hp10
  ihave Hp11 := (Entails.of_eq (congrArg (fun x => (tok x 17 0 : sProp 𝕄)) (on_zero c))) $$ Hp11
  rw [wp_bind]
  iapply (run_parts m ρ K c f₀ f₁ f₂ f₅) $$ [HO Hp0 Hp1 Hp2 HK10 HK11 HV1 HK20 HK21 HV2 HK30 HK31 HV3 HK00 HK01 HV0 HS2 Hx0 Hx1 Hx2 Hx3 Hx4 Hx5 Hc0 Ha0 Ha1 Ha2 Ha3 Ha4 Ha5 Ha6 Ha7 Ha8 Ha9 Ha10 Ha11 Ha12 Ha13 Ha14 Ha15 Ha16 Ha17 Ha18 Ha19 Ha20 Ha21 Hc9 Hc10 Hc11 Hc12 Hc13 Hc14 Hc19 Hc20 Hc21 Hp3 Hp4 Hp5 Hp6 Hp7 Hp8 Hp9 Hp10 Hp11 Hp12 Hp13 Hp14 Hp15 Hp16 Hp17 Hp18 Hp19 Hp20]
  · isplitr; · iexact HR
    isplitr; · iexact Hlev
    isplitl [HO]; · unfold oX; iexists W; iexact HO
    isplitl [Hp0]; · iexact Hp0
    isplitl [Hp1]; · iexact Hp1
    isplitl [Hp2]; · iexact Hp2
    isplitl [HK10]; · iexact HK10
    isplitl [HK11]; · iexact HK11
    isplitl [HV1]; · iexact HV1
    isplitl [HK20]; · iexact HK20
    isplitl [HK21]; · iexact HK21
    isplitl [HV2]; · iexact HV2
    isplitl [HK30]; · iexact HK30
    isplitl [HK31]; · iexact HK31
    isplitl [HV3]; · iexact HV3
    isplitl [HK00]; · iexact HK00
    isplitl [HK01]; · iexact HK01
    isplitl [HV0]; · iexact HV0
    isplitl [HS2]; · iexact HS2
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hc0]; · iexact Hc0
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Ha16]; · iexact Ha16
    isplitl [Ha17]; · iexact Ha17
    isplitl [Ha18]; · iexact Ha18
    isplitl [Ha19]; · iexact Ha19
    isplitl [Ha20]; · iexact Ha20
    isplitl [Ha21]; · iexact Ha21
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc19]; · iexact Hc19
    isplitl [Hc20]; · iexact Hc20
    isplitl [Hc21]; · iexact Hc21
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    isplitl [Hp18]; · iexact Hp18
    isplitl [Hp19]; · iexact Hp19
    iexact Hp20
  iintro ⟨EoXc, Escratch2, Estg00, Estg10, Estg20, Estg30, Estg40, Estg50, EatPc7, EatPc8, EatPc18, EkPc00kept, Ezeroc0, EkPc01kept, EvPc0kept, Ezeroc9, EkPc10, Ezeroc10, EkPc11, Ezeroc13, EkPc30, Ezeroc14, EkPc31, Ezeroc11, EkPc20, Ezeroc12, EkPc21, Ezeroc19, EvPc1, Ezeroc21, EvPc3, Ezeroc20, EvPc2, Ezeroc5, EkPc00sh2, Ezeroc1, EkPc00sh0, Ezeroc3, EkPc00sh1, Ezeroc6, EkPc01sh2, Ezeroc2, EkPc01sh0, Ezeroc4, EkPc01sh1, Ezeroc17, EvPc0sh2, Ezeroc15, EvPc0sh0, Ezeroc16, EvPc0sh1⟩
  try dsimp only
  rw [show (pure ⟨⟩ : Prog (TpuEff nD τ sig (Elt F) Λ₀ .tc) PUnit) = .ret ⟨⟩ from rfl, wp_ret]
  imod (close_idle m ρ K c 7 (by decide)) $$ [EatPc7] with Ezeroc7
  · isplitr; · iexact HR
    iexact EatPc7
  imod (close_idle m ρ K c 8 (by decide)) $$ [EatPc8] with Ezeroc8
  · isplitr; · iexact HR
    iexact EatPc8
  imod (close_idle m ρ K c 18 (by decide)) $$ [EatPc18] with Ezeroc18
  · isplitr; · iexact HR
    iexact EatPc18
  imodintro
  ihave EK00 := (Entails.of_eq (kP_share (F := F) c 0 0 (kAll m ρ c)).symm) $$ [EkPc00sh0 EkPc00sh1 EkPc00sh2 EkPc00kept]
  · isplitl [EkPc00sh0]; · iexact EkPc00sh0
    isplitl [EkPc00sh1]; · iexact EkPc00sh1
    isplitl [EkPc00sh2]; · iexact EkPc00sh2
    iexact EkPc00kept
  ihave EK01 := (Entails.of_eq (kP_share (F := F) c 0 1 (kAll m ρ c)).symm) $$ [EkPc01sh0 EkPc01sh1 EkPc01sh2 EkPc01kept]
  · isplitl [EkPc01sh0]; · iexact EkPc01sh0
    isplitl [EkPc01sh1]; · iexact EkPc01sh1
    isplitl [EkPc01sh2]; · iexact EkPc01sh2
    iexact EkPc01kept
  ihave EV0 := (Entails.of_eq (vP_share (F := F) c 0 (vAll m ρ c)).symm) $$ [EvPc0sh0 EvPc0sh1 EvPc0sh2 EvPc0kept]
  · isplitl [EvPc0sh0]; · iexact EvPc0sh0
    isplitl [EvPc0sh1]; · iexact EvPc0sh1
    isplitl [EvPc0sh2]; · iexact EvPc0sh2
    iexact EvPc0kept
  unfold bodyPost Φ₁ scr
  isplitl [EK00 EK01 EkPc10 EkPc11 EkPc20 EkPc21 EkPc30 EkPc31 EV0 EvPc1 EvPc2 EvPc3 Ezeroc0 Ezeroc1 Ezeroc2 Ezeroc3 Ezeroc4 Ezeroc5 Ezeroc6 Ezeroc7 Ezeroc8 Ezeroc9 Ezeroc10 Ezeroc11 Ezeroc12 Ezeroc13 Ezeroc14 Ezeroc15 Ezeroc16 Ezeroc17 Ezeroc18 Ezeroc19 Ezeroc20 Ezeroc21 Escratch2]
  · isplitl [EK00 EK01 EkPc10 EkPc11 EkPc20 EkPc21 EkPc30 EkPc31 EV0 EvPc1 EvPc2 EvPc3 Escratch2]
    · isplitl [EK00 EK01 EkPc10 EkPc11 EkPc20 EkPc21 EkPc30 EkPc31]
      · iexists (kAll m ρ c)
        rw [kP_slots]
        isplitl [EK00]; · iexact EK00
        isplitl [EK01]; · iexact EK01
        isplitl [EkPc10]; · iexact EkPc10
        isplitl [EkPc11]; · iexact EkPc11
        isplitl [EkPc20]; · iexact EkPc20
        isplitl [EkPc21]; · iexact EkPc21
        isplitl [EkPc30]; · iexact EkPc30
        iexact EkPc31
      isplitl [EV0 EvPc1 EvPc2 EvPc3]
      · iexists (vAll m ρ c)
        rw [vP_slots]
        isplitl [EV0]; · iexact EV0
        isplitl [EvPc1]; · iexact EvPc1
        isplitl [EvPc2]; · iexact EvPc2
        iexact EvPc3
      iexists (qAll m ρ c); iexact Escratch2
    · rw [zeros_eq]
      isplitl [Ezeroc0]; · iexact Ezeroc0
      isplitl [Ezeroc1]; · iexact Ezeroc1
      isplitl [Ezeroc2]; · iexact Ezeroc2
      isplitl [Ezeroc3]; · iexact Ezeroc3
      isplitl [Ezeroc4]; · iexact Ezeroc4
      isplitl [Ezeroc5]; · iexact Ezeroc5
      isplitl [Ezeroc6]; · iexact Ezeroc6
      isplitl [Ezeroc7]; · iexact Ezeroc7
      isplitl [Ezeroc8]; · iexact Ezeroc8
      isplitl [Ezeroc9]; · iexact Ezeroc9
      isplitl [Ezeroc10]; · iexact Ezeroc10
      isplitl [Ezeroc11]; · iexact Ezeroc11
      isplitl [Ezeroc12]; · iexact Ezeroc12
      isplitl [Ezeroc13]; · iexact Ezeroc13
      isplitl [Ezeroc14]; · iexact Ezeroc14
      isplitl [Ezeroc15]; · iexact Ezeroc15
      isplitl [Ezeroc16]; · iexact Ezeroc16
      isplitl [Ezeroc17]; · iexact Ezeroc17
      isplitl [Ezeroc18]; · iexact Ezeroc18
      isplitl [Ezeroc19]; · iexact Ezeroc19
      isplitl [Ezeroc20]; · iexact Ezeroc20
      iexact Ezeroc21
  isplitl [EoXc]
  · unfold oX Dat.owesAt Pipeline.owesWithin
    icases EoXc with ⟨%W', HO⟩
    iexists W'
    isplitr; · ipureintro; exact fun _ _ => Or.inl trivial
    iexact HO
  isplitl [Estg00]
  · iexists _; isplitr; · (ipureintro; rfl)
    iexact Estg00
  isplitl [Estg10]
  · iexists _; isplitr; · (ipureintro; rfl)
    iexact Estg10
  isplitl [Estg20]
  · iexists _; isplitr; · (ipureintro; rfl)
    iexact Estg20
  isplitl [Estg30]
  · iexists _; isplitr; · (ipureintro; rfl)
    iexact Estg30
  isplitl [Estg40]
  · iexists _; isplitr; · (ipureintro; rfl)
    iexact Estg40
  iexists _; isplitr; · (ipureintro; rfl)
  iexact Estg50

/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_run m ρ c

/-! ## The launch's set-up -/

/-- The kernel's own semaphores: all but the barrier's. -/
def osem : Fin 21 → SemLoc sig := fun k => .dma ⟨6 + k.val, by have := k.isLt; show _ < 27; omega⟩

theorem ownSemFacts : Pipeline.OwnSemFacts cfg0.spec osem := by decide

theorem share_eq (c : Dev nD) (w : Fin cfg0.W) : (dats m ρ 0 c).share w = fullShare := by unfold Dat.share; split <;> rfl

theorem kcell_inj {c c' : Dev nD} {k k' : Fin 22} (h : kcell c k = kcell c' k') : c = c' ∧ k = k' :=
  ⟨congrArg (fun g : GSem nD τ sig => g.1.1) h, csem_inj (congrArg Prod.snd h)⟩
def ringCells : Finset (GSem nD τ sig) :=
  Finset.univ.map ⟨fun x : Dev nD × Fin 22 => kcell x.1 x.2, fun _ _ h => Prod.ext (kcell_inj h).1 (kcell_inj h).2⟩

theorem tok_inj : Function.Injective fun j : Fin 21 => (tokCell j, tokDuty j) := by decide
def ringToks : Finset (GSem nD τ sig × ℕ × Fin 3) :=
  Finset.univ.map ⟨fun x : Dev nD × Fin 21 => (kcell x.1 (tokCell x.2), 0, tokDuty x.2), fun a b h => by
    have h1 := kcell_inj (congrArg Prod.fst h)
    have h2 := congrArg (fun y : GSem nD τ sig × ℕ × Fin 3 => y.2.2) h
    exact Prod.ext h1.1 (tok_inj (Prod.ext h1.2 h2))⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Fin 22 => roundState ER (ringRd m ρ) (kcell c k) 0)
    ∗ (bigSep Finset.univ fun k : Fin 22 => iprop(atP c k ∗ reached ER (kcell c k) 0)) ∗ ownToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 22 => Φ (kcell c k) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G atP; simp only [bigSep_sep']
  isplitl [Hst']; · iexact Hst'
  isplitl [Hat' Hr']
  · isplitl [Hat'] <;> iassumption
  iexact Htok'

omit [FloatOps F] [Named F] in
theorem ownSems0_eq (c : Dev nD) : (Pipeline.ownSems0 (Ix := Unit) (Name := ℕ) (U := UU) (Lvl := ℕ) (Val := Elt F) (τ := τ) osem c : sProp 𝕄)
    = iprop(zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14 ∗ zero c 15 ∗ zero c 16 ∗ zero c 17 ∗ zero c 18 ∗ zero c 19 ∗ zero c 20 ∗ zero c 21) := by
  rw [Pipeline.ownSems0_eq_of_list c osem [0, 1, 2, 3, 4, 5, 6, 7, 8, 9, 10, 11, 12, 13, 14, 15, 16, 17, 18, 19, 20] (by decide) (by decide)]; rfl
omit [FloatOps F] [Named F] in
theorem unscopedSems0_eq (c : Dev nD) : (unscopedSems0 c : sProp 𝕄) = zero c 0 := by
  unfold unscopedSems0; rw [bigSep_eq_bigSepL_of_eq [SemLoc.reg barS] (by decide) (by decide)]; rfl
omit [FloatOps F] [Named F] in
theorem sems0_eq (c : Dev nD) :
    iprop(Pipeline.ownSems0 (Ix := Unit) (Name := ℕ) (U := UU) (Lvl := ℕ) (Val := Elt F) (τ := τ) osem c ∗ unscopedSems0 c) ⊢ (zeros c : sProp 𝕄) := by
  rw [ownSems0_eq, unscopedSems0_eq, zeros_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell c k)))
          ∗ (bigSep Finset.univ fun k => iprop(atP c k ∗ reached ER (kcell c k) 0)) ∗ ownToks c) := by
  unfold G
  iintro ⟨Hos, Hus, Hst, Hat, Htok⟩
  ihave Hv := (sems0_eq (F := F) c) $$ [Hos Hus]
  · isplitl [Hos] <;> iassumption
  imod (show iprop(zeros c ∗ bigSep Finset.univ fun k : Fin 22 => roundState ER (ringRd m ρ) (kcell c k) 0)
      ⊢ (|={Set.univ}=> bigSep Finset.univ fun k => iprop(∃ κ : ℕ, cellInv ER (ringRd m ρ) κ (kcell c k)) : sProp 𝕄) from by
        unfold zeros zero
        rw [← bigSep_sep']
        exact (bigSep_mono fun k _ => (Rounds.body_intro ER (ringRd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

theorem on_bij (o : Fin 4) : Function.Bijective fun c : Dev nD => on c o.val := by
  have h : ∀ o : Fin 4, Function.Injective fun c : Fin 4 => (⟨(c.val + o.val) % 4, Nat.mod_lt _ (by decide)⟩ : Fin 4) := by decide
  exact Finite.injective_iff_bijective.mp (h o)
theorem off_lt (j : Fin 21) : tokOff j < 4 := by revert j; decide
/-- A token's cell as its device mints it, and as its payer counts it. -/
def around : Dev nD × Fin 21 ≃ Dev nD × Fin 21 :=
  Equiv.ofBijective (fun x => (on x.1 (tokOff x.2), x.2)) (Finite.injective_iff_bijective.mp fun a b h => by
    have h2 : a.2 = b.2 := by have := congrArg Prod.snd h; exact this
    have h1 : on a.1 (tokOff a.2) = on b.1 (tokOff b.2) := by have := congrArg Prod.fst h; exact this
    rw [← h2] at h1
    exact Prod.ext ((on_bij ⟨_, off_lt a.2⟩).1 h1) h2)

omit [FloatOps F] [Named F] in
theorem toks_around : (bigSep Finset.univ fun c : Dev nD => (ownToks c : sProp 𝕄)) = bigSep Finset.univ fun c : Dev nD => payToks c := by
  unfold ownToks payToks
  rw [← bigSep_univ_prod (fun x : Dev nD × Fin 21 => (tok x.1 (tokCell x.2) (tokDuty x.2) : sProp 𝕄)),
    ← bigSep_univ_prod (fun x : Dev nD × Fin 21 => (tok (on x.1 (tokOff x.2)) (tokCell x.2) (tokDuty x.2) : sProp 𝕄)),
    bigSep_univ_equiv around]
  rfl

omit [FloatOps F] [Named F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell c k)))
          ∗ (bigSep Finset.univ fun k => iprop(atP c k ∗ reached ER (kcell c k) 0)) ∗ ownToks c) : sProp 𝕄)
      ⊢ bigSep Finset.univ (G' m ρ) := by
  rw [bigSep_sep', bigSep_sep', ← bigSep_univ_prod (fun x : Dev nD × Fin 22 => iprop(∃ κ : ℕ, cellInv ER (ringRd m ρ) κ (kcell x.1 x.2))),
    bigSep_congr (s := Finset.univ) (fun (c : Dev nD) _ => bigSep_sep' Finset.univ (fun k : Fin 22 => (atP c k : sProp 𝕄)) (fun k => reached ER (kcell c k) 0)),
    bigSep_sep', ← bigSep_univ_prod (fun x : Dev nD × Fin 22 => (reached ER (kcell x.1 x.2) 0 : sProp 𝕄)), toks_around]
  iintro ⟨HI, ⟨Hat, #HR⟩, Htok⟩
  ihave HK := (BI.bigSep_exists_pi Finset.univ (fun (x : Dev nD × Fin 22) (κ : ℕ) => (cellInv ER (ringRd m ρ) κ (kcell x.1 x.2) : sProp 𝕄))) $$ HI
  icases HK with ⟨%K, #HI⟩
  iapply (with_persistent (R := records m ρ K) (Φ := linear) fun c _ => show _ ⊢ G' m ρ c from by
    unfold G'; iintro ⟨#H1, H2⟩; iexists K; isplitr; · iexact H1
    iexact H2)
  isplitr
  · unfold records rec1; rw [bigSep_sep']; isplitl; · iexact HI
    iexact HR
  · unfold linear ats; rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem tl_cell (xs : List (GSem nD τ sig × ℕ)) (g : GSem nD τ sig) : tl xs g () = (xs.map fun x => if g = x.1 then x.2 else 0).sum := by
  induction xs with
  | nil => rfl
  | cons x xs ih =>
    show (tl xs + tallyAt x.1 () x.2) g () = _
    rw [Pi.add_apply, Finsupp.add_apply, tallyAt_apply, ih, List.map_cons, List.sum_cons, Nat.add_comm]
    simp only [and_true]

theorem kcell_iff (c c' : Dev nD) (k k' : Fin 22) : kcell c k = kcell c' k' ↔ c = c' ∧ k = k' :=
  ⟨kcell_inj, fun h => by rw [h.1, h.2]⟩

theorem sum_on (o : Fin 4) (c : Dev nD) (n : ℕ) : (∑ d : Dev nD, if c = on d o.val then n else 0) = n := by
  obtain ⟨d, hd⟩ := (on_bij o).2 c
  dsimp only at hd
  rw [Finset.sum_eq_single d, if_pos hd.symm]
  · intro b _ hb; exact if_neg fun h => hb ((on_bij o).1 (show on b o.val = on d o.val from h.symm.trans hd.symm))
  · exact fun h => absurd (Finset.mem_univ _) h

theorem owed_sum (c : Dev nD) (j : Fin 10) : (∑ d : Dev nD, tl (due d) (kcell c (crdCell j)) ()) = crdAmt j := by
  have s1 := sum_on 1 c; have s2 := sum_on 2 c; have s3 := sum_on 3 c
  simp only [tl_cell, due, dueX, List.map_cons, List.map_nil, List.sum_cons, List.sum_nil, kcell_iff]
  fin_cases j <;> simp [crdCell, crdAmt, Finset.sum_add_distrib, -Finset.sum_boole] <;> simp_all

theorem launch_crd (c : Dev nD) (j : Fin 10) :
    tallyOn (kcell c (crdCell j)) (launchCredit (Pipeline.owing fun d => tl (due d)) 0 (kcell c (crdCell j)))
      = (tallyAt (kcell c (crdCell j)) () (crdAmt j) : CellTallies nD τ sig Unit) := by
  unfold tallyAt; refine congrArg _ (Finsupp.ext fun u => ?_); cases u
  rw [Pipeline.launchCredit_owing, Finsupp.single_eq_same, owed_sum]

theorem crdCell_inj : Function.Injective crdCell := by decide
omit [FloatOps F] [Named F] in
theorem creds (c : Dev nD) : (Pipeline.launchCred (fun d => tl (due d)) c : sProp 𝕄) ⊢ crds c := by
  unfold Pipeline.launchCred crds
  refine (bigSep_subset (t := Finset.univ.map ⟨fun j : Fin 10 => csem (crdCell j), fun _ _ h => crdCell_inj (csem_inj h)⟩) (Finset.subset_univ _)).trans ?_
  rw [bigSep_map]
  exact bigSep_mono fun j _ => Entails.of_eq (by
    show (cred (tallyOn (kcell c (crdCell j)) (launchCredit (Pipeline.owing fun d => tl (due d)) 0 (kcell c (crdCell j)))) : sProp 𝕄) = cred (tallyAt (kcell c (crdCell j)) () (crdAmt j))
    rw [launch_crd])

/-! ### The side conditions -/

theorem start_intro (c : Dev nD) :
    iprop(Pipeline.unscopedRestP Pipeline.Prefetch.none cfg0.spec c (fun b => m ((c : Thread nD τ).loc b)) ∗ levAts L lv
        ∗ Pipeline.launchCred (fun d => tl (due d)) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  rw [zeros_eq]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · exact mayWait_of c _ [] fun x hx => absurd hx List.not_mem_nil

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every weakly fair execution of the four devices' programs terminates, every
    array ends at the stated contents, and every counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => tl (due d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Frames.lean ====
/-
# The claims that say a program runs

The run of the four devices' programs was proved over any float values.  Here it is read at the two instances
the claims speak of, and the single device's plain program is run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 65536

noncomputable section

namespace Cert.KernelIdeal.Ring

open Cert.KernelIdeal Cert.KernelIdeal.Gen
open Idealize.ShloMosaic
open Idealize.ShloMosaic.TcCoe
open Idealize.SL Idealize.SL.Sem
open Idealize.ShloMosaic.Pipeline (Dat Cfg Window)

section Any

variable {F : FTy → Type} [FloatOps F] [Named F]
variable (m : (ℓ : Loc nD τ sig) → Buf (Elt F) ℓ) (ρ : Dev nD → PrngReg)

/-- A final state's arrays: the five arguments as they were, the result the computed one. -/
def Ends (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

theorem run_ends : θ_run defs (onTc (τ := τ) (main (F := F))) ⟨m, fun _ => 0, ρ⟩ (Ends m) :=
  (θ_run defs _ _).mono (fun _ h => ⟨fun c =>
    ⟨(h.1 c (0 : Fin 6)).trans ((dats m ρ 0 c).arrAt_in (0 : Fin 6) rfl _),
     (h.1 c (1 : Fin 6)).trans ((dats m ρ 0 c).arrAt_in (1 : Fin 6) rfl _),
     (h.1 c (2 : Fin 6)).trans ((dats m ρ 0 c).arrAt_in (2 : Fin 6) rfl _),
     (h.1 c (3 : Fin 6)).trans ((dats m ρ 0 c).arrAt_in (3 : Fin 6) rfl _),
     (h.1 c (4 : Fin 6)).trans ((dats m ρ 0 c).arrAt_in (4 : Fin 6) rfl _)⟩, h.2⟩) (run_main m ρ)

end Any

end Cert.KernelIdeal.Ring

namespace Cert.Frames

open Idealize.ShloMosaic
open Idealize.SL Idealize.SL.Sem

/-- Over bit patterns a named constant is the bit pattern it was printed from. -/
@[reducible] def namedBits : Named Bits where
  named _ _ _ bits := FloatOps.ofBits _ bits

attribute [local instance] namedBits

/-! The two programs print the same text but for the named constant, so over bit patterns they are one program. -/

theorem body_eq : Cert.Kernel.cc0_body (F := Bits) = Cert.KernelIdeal.cc0_body (F := Bits) := rfl
theorem defs₀_eq : Cert.Kernel.defs₀ (F := Bits) = Cert.KernelIdeal.defs₀ (F := Bits) := by
  unfold Cert.Kernel.defs₀ Cert.KernelIdeal.defs₀
  rw [body_eq]
  refine congrArg Defs.onTc ?_
  funext l x
  match l, x with
  | ⟨0, _⟩, (t, s) => rfl
  | ⟨n + 1, h⟩, _ => exact absurd h (Nat.not_lt.2 (Nat.le_add_left _ _))
theorem defs_eq : Cert.Kernel.defs (F := Bits) = Cert.KernelIdeal.defs (F := Bits) :=
  congrArg (Pipeline.defs Cert.KernelIdeal.pcfgs) defs₀_eq

theorem kernel : Cert.quiescent_Kernel := fun m g _ => by
  have h := Cert.KernelIdeal.Ring.run_ends (F := Bits) m g
  rw [← defs_eq] at h
  exact h

theorem ideal : Cert.quiescent_KernelIdeal := fun m g _ => Cert.KernelIdeal.Ring.run_ends (F := Ideal) m g

/-- The plain program runs on one device, writes no argument and declares no semaphore. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Final.lean ====
/-
# What the kernel leaves in its result

The one grid point flushes the whole staged block, so every device's result array ends holding what it staged.
-/
module

public import proofs.«01_k».proof.Proof.Launch
public import Idealize.ShloMosaic.Lib.Pipeline.Value

@[expose] public section

set_option maxRecDepth 65536

noncomputable section

namespace Cert.KernelIdeal.Ring

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The one grid point's block is the whole array. -/
theorem out_cover (i : S2x128x512.Idx) :
    ∃ t : Fin cfg0.N, (cfg0.win (5 : Fin 6)).flush t = true ∧ i ∈ ((cfg0.win (5 : Fin 6)).blk t).view.set := by
  refine ⟨t0_0, by decide +kernel, ?_⟩
  show i ∈ ((View.whole main_v1).slice (win0_5.rect t0_0)).set
  rw [View.set_slice_whole, Rect.mem_set_unit]
  have e : ∀ a, win0_5.index t0_0 a * win0_5.size a = 0 ∧ win0_5.xsize (grid0.coords t0_0) a = S2x128x512.size a := by
    decide +kernel
  intro a
  show win0_5.index t0_0 a * win0_5.size a ≤ (i a : Nat) ∧ (i a : Nat) < win0_5.index t0_0 a * win0_5.size a + win0_5.xsize (grid0.coords t0_0) a
  rw [(e a).1, (e a).2, Nat.zero_add]
  exact ⟨Nat.zero_le _, (i a).isLt⟩

theorem out_flushed (c : Dev nD) (t : Fin cfg0.N) :
    (dats m ρ 0 c).flushed (5 : Fin 6) t = ((cfg0.win (5 : Fin 6)).blk t).view.read (Elt F) (outAll m ρ c) := by
  show (cfg0.win (5 : Fin 6)).cut (grid0.coords t) (outAll m ρ c) = _
  generalize outAll m ρ c = G
  obtain rfl : t = t0_0 := fin_N0 t
  funext y
  refine congrArg G ?_
  funext a; apply Fin.ext
  match a with
  | ⟨0, h⟩ => show (y ⟨0, h⟩).val = 0 * 2 + 1 * (y ⟨0, h⟩).val; omega
  | ⟨1, h⟩ => show (y ⟨1, h⟩).val = 0 * 128 + 1 * (y ⟨1, h⟩).val; omega
  | ⟨2, h⟩ => show (y ⟨2, h⟩).val = 0 * 512 + 1 * (y ⟨2, h⟩).val; omega

theorem out_final (c : Dev nD) : finalA m ρ c (5 : Fin 6) = outAll m ρ c :=
  (dats m ρ 0 c).arrAt_eq_of_cover (5 : Fin 6) (outAll m ρ c) (fun t _ => out_flushed m ρ c t) out_cover

end Cert.KernelIdeal.Ring

end
-- ==== Proof.Spec.lean ====
/-
# What both programs compute, written once in plain mathematics

The projections, the rotation of the queries and keys by position, and the attention result, as functions of the five
whole arrays over the extended reals. The kernel's value and the reference's are each brought to these.
-/
module

public import Idealize.ShloMosaic.Lib.ValueIdx
public import Idealize.ShloMosaic.PureOps.Ideal.Laws
public import Mathlib.Analysis.SpecialFunctions.Pow.Real

@[expose] public section

noncomputable section

namespace Cert.Spec

open Idealize.ShloMosaic Idealize.ShloMosaic.ValueIdx
open scoped BigOperators

/-- The whole activations, a projection matrix, the output matrix. -/
abbrev Act : Type := (⟨3, ![2, 512, 512]⟩ : Shape).Idx → EReal
abbrev Wgt : Type := (⟨2, ![512, 256]⟩ : Shape).Idx → EReal
abbrev Wout : Type := (⟨2, ![256, 512]⟩ : Shape).Idx → EReal

/-- A column from its head and its place in the head. -/
def col (h : Fin 4) (d : Fin 64) : Fin 256 := ⟨64 * h.val + d.val, by omega⟩

/-- The angle of row `i` at column `j`: the two columns of a pair share a frequency, and every head has the same ones. -/
def ang (i : Fin 512) (j : Fin 256) : ℝ :=
  (i.val : ℝ) * Real.exp ((j.val % 64 / 2 * 2 : ℕ) * (-(Real.log 10000) * 64⁻¹))

/-- The other column of a pair, and the sign with which it enters. -/
def mate (j : Fin 256) : Fin 256 := if j.val % 2 = 0 then ⟨(j.val + 1) % 256, Nat.mod_lt _ (by decide)⟩ else ⟨j.val - 1, by omega⟩
def sgn (j : Fin 256) : ℝ := if j.val % 2 = 0 then -1 else 1

/-- Row `i` of batch row `b` against column `j` of `w`. -/
def proj (x : Act) (w : Wgt) (b : Fin 2) (i : Fin 512) (j : Fin 256) : EReal := ∑ k : Fin 512, x (ix3 b i k) * w (ix2 k j)

/-- The same, rotated by position. -/
def rot (x : Act) (w : Wgt) (b : Fin 2) (i : Fin 512) (j : Fin 256) : EReal :=
  proj x w b i j * ((Real.cos (ang i j) : ℝ) : EReal) + proj x w b i (mate j) * ((sgn j : ℝ) : EReal) * ((Real.sin (ang i j) : ℝ) : EReal)

/-- The exponential of a scaled score, from real rotated queries and keys. -/
def wt (q k : Fin 2 → Fin 512 → Fin 256 → ℝ) (b : Fin 2) (h : Fin 4) (i j : Fin 512) : ℝ :=
  Real.exp ((∑ d : Fin 64, q b i (col h d) * k b j (col h d)) * (1 / 8))

/-- The head of a column. -/
def hd (c : Fin 256) : Fin 4 := ⟨c.val / 64, by omega⟩

/-- The attention result times the output matrix. -/
def out (q k : Fin 2 → Fin 512 → Fin 256 → ℝ) (x : Act) (wv : Wgt) (wo : Wout) (b : Fin 2) (i n : Fin 512) : EReal :=
  ∑ c : Fin 256, (∑ j : Fin 512, ((wt q k b (hd c) i j : ℝ) : EReal) * proj x wv b j c) * (((1 / ∑ j : Fin 512, wt q k b (hd c) i j : ℝ)) : EReal)
    * wo (ix2 c n)

theorem wt_pos (q k) (b h i j) : 0 < wt q k b h i j := Real.exp_pos _
theorem sum_wt_pos (q k) (b h i) : 0 < ∑ j : Fin 512, wt q k b h i j :=
  Finset.sum_pos (fun j _ => wt_pos q k b h i j) ⟨0, Finset.mem_univ _⟩

/-! ## Finite inputs give real rotated rows -/

/-- A sum of real values is real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real, nonnegative factor passes through a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem real_of_ne {x : EReal} (h : x ≠ ⊤) (h' : x ≠ ⊥) : x = ((x.toReal : ℝ) : EReal) := (EReal.coe_toReal h h').symm

/-- With finite activations and weights every rotated row is real. -/
theorem rot_real (x : Act) (w : Wgt) (hx : ∀ i, x i = (((x i).toReal : ℝ) : EReal)) (hw : ∀ i, w i = (((w i).toReal : ℝ) : EReal))
    (b : Fin 2) (i : Fin 512) (j : Fin 256) : rot x w b i j = (((rot x w b i j).toReal : ℝ) : EReal) := by
  have hp : ∀ j, ∃ r : ℝ, proj x w b i j = (r : EReal) := fun j =>
    ⟨∑ k : Fin 512, (x (ix3 b i k)).toReal * (w (ix2 k j)).toReal, by
      rw [coe_sum]; unfold proj
      exact Finset.sum_congr rfl fun k _ => by rw [EReal.coe_mul, ← hx, ← hw]⟩
  obtain ⟨r, hr⟩ := hp j
  obtain ⟨r', hr'⟩ := hp (mate j)
  have : ∃ t : ℝ, rot x w b i j = (t : EReal) :=
    ⟨r * Real.cos (ang i j) + r' * sgn j * Real.sin (ang i j), by
      unfold rot; rw [hr, hr']; push_cast; rfl⟩
  obtain ⟨t, ht⟩ := this
  rw [ht, EReal.toReal_coe]

/-! ## Sums over the keys and over the heads -/

/-- Row `r` of the block that device `c` of four holds. -/
def row (c : Fin 4) (r : Fin 128) : Fin 512 := ⟨128 * c.val + r.val, by omega⟩

/-- A sum over all the keys, block by block, starting from any device's block. -/
theorem sum_keys (c : Fin 4) (f : Fin 512 → EReal) :
    ∑ j : Fin 512, f j = ∑ s : Fin 4, ∑ r : Fin 128, f (row (c + s) r) := by
  rw [← Equiv.sum_comp (finProdFinEquiv (m := 4) (n := 128)) f, Fintype.sum_prod_type,
    ← Equiv.sum_comp (Equiv.addLeft c)]
  refine Finset.sum_congr rfl fun s _ => Finset.sum_congr rfl fun r _ => congrArg f (Fin.ext ?_)
  show r.val + 128 * (c + s).val = 128 * (c + s).val + r.val
  omega

/-- A sum over all the columns, head by head. -/
theorem sum_cols (f : Fin 256 → EReal) : ∑ c : Fin 256, f c = ∑ h : Fin 4, ∑ d : Fin 64, f (col h d) := by
  rw [← Equiv.sum_comp (finProdFinEquiv (m := 4) (n := 64)) f, Fintype.sum_prod_type]
  refine Finset.sum_congr rfl fun s _ => Finset.sum_congr rfl fun r _ => congrArg f (Fin.ext ?_)
  show r.val + 64 * s.val = 64 * s.val + r.val
  omega

theorem hd_col (h : Fin 4) (d : Fin 64) : hd (col h d) = h := by
  apply Fin.ext; simp only [hd, col]; omega

/-! ## The two spellings of one softmax -/

/-- Dividing by the sum afterwards: what the kernel does. -/
theorem div_real (x : EReal) {l : ℝ} (hl : 0 < l) : Ideal.div x (l : EReal) = x * ((1 / l : ℝ) : EReal) :=
  Ideal.div_coe hl.ne' x

/-- Weights shifted by a common real and divided by their sum, against the values: what the reference does. -/
theorem softmax_shift (s : Fin 512 → ℝ) (M : ℝ) (v : Fin 512 → EReal) :
    ∑ j : Fin 512, v j * Ideal.div ((Real.exp (s j - M) : ℝ) : EReal) ((∑ j : Fin 512, Real.exp (s j - M) : ℝ) : EReal)
      = (∑ j : Fin 512, ((Real.exp (s j) : ℝ) : EReal) * v j) * ((1 / ∑ j : Fin 512, Real.exp (s j) : ℝ) : EReal) := by
  have hp : ∀ t : Fin 512 → ℝ, 0 < ∑ j : Fin 512, Real.exp (t j) := fun t =>
    Finset.sum_pos (fun j _ => Real.exp_pos _) ⟨0, Finset.mem_univ _⟩
  rw [sum_mul_coe _ _ _ (one_div_nonneg.mpr (hp s).le)]
  refine Finset.sum_congr rfl fun j _ => ?_
  rw [div_real _ (hp fun j => s j - M), ← EReal.coe_mul, mul_comm (((Real.exp (s j) : ℝ) : EReal)) (v j), mul_assoc, ← EReal.coe_mul]
  refine congrArg (fun t : ℝ => v j * (t : EReal)) ?_
  have h1 : ∑ j : Fin 512, Real.exp (s j - M) = (∑ j : Fin 512, Real.exp (s j)) * Real.exp (-M) := by
    rw [Finset.sum_mul]; exact Finset.sum_congr rfl fun j _ => by rw [← Real.exp_add, sub_eq_add_neg]
  rw [h1, sub_eq_add_neg, Real.exp_add]
  have := (hp s).ne'; have := (Real.exp_pos (-M)).ne'
  field_simp

end Cert.Spec

end
-- ==== Proof.KerTab.lean ====
/-
# The kernel's tables at the extended reals

The cosine and sine tables of a device's rows and the signed pair-swap matrix, read at an index.
-/
module

public import proofs.«01_k».proof.Proof.Ops
public import proofs.«01_k».proof.Proof.Spec
public import Idealize.ShloMosaic.Lib.IdealHost
public import Idealize.ShloMosaic.Lib.MatmulPlain
public import Idealize.ShloMosaic.Lib.Pipeline.Value

@[expose] public section

noncomputable section

namespace Cert.KerVal

open Cert.KernelIdeal Cert.KernelIdeal.Gen Cert.Spec
open Cert.KernelIdeal.Ring (pos cosT sinT swapM)
open Idealize.ShloMosaic Idealize.ShloMosaic.ValueIdx
open scoped BigOperators

/-! ## The words of the tables -/

/-- The even number of a column's pair inside its head, as the kernel's words compute it. -/
def pairWord (j : BitVec 32) : BitVec 32 :=
  let v20 : BitVec 32 := Scalar.select (Scalar.cmpi .eq 64#32 0#32) 1#32 64#32
  let v22 := IntOp.remsi .vector j v20
  let v31 := IntOp.andi (IntOp.xori (IntOp.cmpi .slt v22 0#32) (Scalar.cmpi .slt v20 0#32)) (IntOp.cmpi .ne v22 0#32)
  let v34 := Scalar.select v31 (IntOp.addi v22 v20) v22
  let v36 := IntOp.divsi .vector v34 2#32
  let v43 := IntOp.subi ((IntOp.cmpi .sgt v34 0#32).setWidth 32) ((IntOp.cmpi .slt v34 0#32).setWidth 32)
  let v48 : BitVec 32 := Scalar.subi (Scalar.extui (Scalar.cmpi .sgt 2#32 0#32)) (Scalar.extui (Scalar.cmpi .slt 2#32 0#32))
  let v55 := IntOp.andi (IntOp.cmpi .ne v43 v48) (IntOp.cmpi .ne (IntOp.remsi .vector v34 2#32) 0#32)
  IntOp.muli (Scalar.select v55 (IntOp.subi v36 1#32) v36) 2#32

theorem pairWord_toInt : ∀ j : Fin 256, (pairWord (BitVec.ofNat 32 j.val)).toInt = ((j.val % 64 / 2 * 2 : ℕ) : ℤ) := by decide

theorem pos_toInt : ∀ c : Dev nD, (Scalar.muli (pos c) 128#32).toInt = ((128 * c.val : ℕ) : ℤ) := by decide

/-- Whether a column's number leaves remainder `p` by two, as the kernel's words ask it. -/
def parWord (j p : BitVec 32) : BitVec 1 :=
  let two : BitVec 32 := Scalar.select (Scalar.cmpi .eq 2#32 0#32) 1#32 2#32
  let v80 := IntOp.remsi .vector j two
  let v89 := IntOp.andi (IntOp.xori (IntOp.cmpi .slt v80 0#32) (Scalar.cmpi .slt two 0#32)) (IntOp.cmpi .ne v80 0#32)
  IntOp.cmpi .eq (Scalar.select v89 (IntOp.addi v80 two) v80) p

theorem parWord_eq : ∀ j : Fin 256, parWord (BitVec.ofNat 32 j.val) 0#32 = (if j.val % 2 = 0 then 1#1 else 0#1)
    ∧ parWord (BitVec.ofNat 32 j.val) 1#32 = (if j.val % 2 = 0 then 0#1 else 1#1) := by decide

theorem cmp_succ (a b : Fin 256) : IntOp.cmpi .eq (BitVec.ofNat 32 a.val) (IntOp.addi (BitVec.ofNat 32 b.val) 1#32) = if a.val = b.val + 1 then 1#1 else 0#1 := by
  have ha := a.isLt; have hb := b.isLt
  have h : (BitVec.ofNat 32 a.val = IntOp.addi (BitVec.ofNat 32 b.val) 1#32) ↔ a.val = b.val + 1 := by
    rw [← BitVec.toNat_inj]
    simp [IntOp.addi]
    omega
  by_cases hab : a.val = b.val + 1
  · rw [if_pos hab]; show BitVec.ofBool (_ == _) = _; rw [beq_iff_eq.mpr (h.mpr hab)]; rfl
  · rw [if_neg hab]; show BitVec.ofBool (_ == _) = _; rw [beq_eq_false_iff_ne.mpr (mt h.mp hab)]; rfl

theorem cmp_succ' (a b : Fin 256) : IntOp.cmpi .eq (IntOp.addi (BitVec.ofNat 32 a.val) 1#32) (BitVec.ofNat 32 b.val) = if b.val = a.val + 1 then 1#1 else 0#1 := by
  rw [← cmp_succ b a]
  show BitVec.ofBool (_ == _) = BitVec.ofBool (_ == _)
  rw [BEq.comm]

/-! ## The tables -/

/-- The named constant at the extended reals. -/
theorem freq_eq : (Named.named (F := Ideal) κ "freq" 0xBE135D8E#32 : Ideal .f32) = ((-(Real.log 10000) * 64⁻¹ : ℝ) : EReal) := by
  refine (IdealRules.named_const.ideal_named_scalar (φ := .f32) κ "freq" 0xBE135D8E#32 ((-((Real.log 10000) * 64⁻¹) : ℝ) : EReal) rfl).trans ?_
  exact congrArg (fun t : ℝ => (t : EReal)) (neg_mul _ _).symm

theorem pay5_at (c : Dev nD) (r : Fin 128) (j : Fin 256) :
    k0_pay5 (F := Ideal) (pos c) k0_pay1 k0_pay2 k0_pay3 k0_pay4 (ix2 r j) = ((ang (row c r) j : ℝ) : EReal) := by
  have e1 : k0_pay5 (F := Ideal) (pos c) k0_pay1 k0_pay2 k0_pay3 k0_pay4 (ix2 r j)
      = ((((iota .tc S128x256 32 [0] iota_S128x256_d0_w32 (ix2 r j)).toInt : ℝ) : EReal) + (((Scalar.muli (pos c) 128#32).toInt : ℝ) : EReal))
        * Ideal.exp ((((pairWord (iota .tc S128x256 32 [1] iota_S128x256_d1_w32 (ix2 r j))).toInt : ℝ) : EReal) * (Named.named (F := Ideal) κ "freq" 0xBE135D8E#32 : Ideal .f32)) := rfl
  rw [e1, iota_single_apply, iota_single_apply]
  show ((((BitVec.ofNat 32 r.val).toInt : ℝ) : EReal) + _) * Ideal.exp ((((pairWord (BitVec.ofNat 32 j.val)).toInt : ℝ) : EReal) * _) = _
  have hr : (BitVec.ofNat 32 r.val).toInt = ((r.val : ℕ) : ℤ) := by
    have := r.isLt
    rw [BitVec.toInt_ofNat', Int.bmod_def]
    norm_num; omega
  rw [pairWord_toInt, pos_toInt, hr, freq_eq, ← EReal.coe_add, ← EReal.coe_mul, Ideal.exp_coe, ← EReal.coe_mul]
  refine congrArg (fun t : ℝ => (t : EReal)) ?_
  unfold ang row
  generalize j.val % 64 / 2 * 2 = n
  rw [Int.cast_natCast, Int.cast_natCast, Int.cast_natCast]
  show ((r.val : ℝ) + ((128 * c.val : ℕ) : ℝ)) * _ = ((128 * c.val + r.val : ℕ) : ℝ) * _
  rw [Nat.cast_add, add_comm]

theorem cosT_at (c : Dev nD) (r : Fin 128) (j : Fin 256) : cosT (F := Ideal) c (ix2 r j) = ((Real.cos (ang (row c r) j) : ℝ) : EReal) := by
  show Ideal.cos (k0_pay5 (F := Ideal) (pos c) k0_pay1 k0_pay2 k0_pay3 k0_pay4 (ix2 r j)) = _
  rw [pay5_at]; rfl
theorem sinT_at (c : Dev nD) (r : Fin 128) (j : Fin 256) : sinT (F := Ideal) c (ix2 r j) = ((Real.sin (ang (row c r) j) : ℝ) : EReal) := by
  show Ideal.sin (k0_pay5 (F := Ideal) (pos c) k0_pay1 k0_pay2 k0_pay3 k0_pay4 (ix2 r j)) = _
  rw [pay5_at]; rfl

theorem bits_neg_one : Ideal.ofBits .f32 0xBF800000#32 = ((-1 : ℝ) : EReal) := by
  simp [Ideal.ofBits, Ideal.ieee, -EReal.coe_mul]; norm_num

/-- Column `j` of the swap matrix holds the pair's sign in the row of the pair's other column, zero elsewhere. -/
theorem swapM_at (k j : Fin 256) : swapM (F := Ideal) (ix2 k j) = if k = mate j then ((sgn j : ℝ) : EReal) else 0 := by
  have e1 : swapM (F := Ideal) (ix2 k j)
      = Scalar.select (IntOp.andi (IntOp.cmpi .eq (iota .tc S256x256 32 [0] iota_S256x256_d0_w32 (ix2 k j)) (IntOp.addi (iota .tc S256x256 32 [1] iota_S256x256_d1_w32 (ix2 k j)) 1#32))
          (parWord (iota .tc S256x256 32 [1] iota_S256x256_d1_w32 (ix2 k j)) 0#32))
        (Ideal.ofBits .f32 0xBF800000#32)
        (Scalar.select (IntOp.andi (IntOp.cmpi .eq (IntOp.addi (iota .tc S256x256 32 [0] iota_S256x256_d0_w32 (ix2 k j)) 1#32) (iota .tc S256x256 32 [1] iota_S256x256_d1_w32 (ix2 k j)))
          (parWord (iota .tc S256x256 32 [1] iota_S256x256_d1_w32 (ix2 k j)) 1#32))
          (Ideal.ofBits .f32 0x3F800000#32) (Ideal.ofBits .f32 0x00000000#32)) := rfl
  rw [e1, iota_single_apply, iota_single_apply]
  show Scalar.select (IntOp.andi (IntOp.cmpi .eq (BitVec.ofNat 32 k.val) (IntOp.addi (BitVec.ofNat 32 j.val) 1#32)) (parWord (BitVec.ofNat 32 j.val) 0#32)) _
    (Scalar.select (IntOp.andi (IntOp.cmpi .eq (IntOp.addi (BitVec.ofNat 32 k.val) 1#32) (BitVec.ofNat 32 j.val)) (parWord (BitVec.ofNat 32 j.val) 1#32)) _ _) = _
  rw [cmp_succ, cmp_succ', (parWord_eq j).1, (parWord_eq j).2, bits_neg_one, Ideal.ofBits_one_f32, Ideal.ofBits_zero_f32]
  have hk := k.isLt; have hj := j.isLt
  by_cases hev : j.val % 2 = 0
  · have hm : k = mate j ↔ k.val = j.val + 1 := by
      unfold mate; rw [if_pos hev, Fin.ext_iff]; show k.val = (j.val + 1) % 256 ↔ _; omega
    have hs : sgn j = -1 := if_pos hev
    by_cases h : k.val = j.val + 1
    · rw [if_pos h, if_pos hev, if_pos hev, if_pos (hm.mpr h), hs]; rfl
    · rw [if_neg h, if_pos hev, if_pos hev, if_neg (mt hm.mp h)]
      split <;> rfl
  · have hm : k = mate j ↔ j.val = k.val + 1 := by
      unfold mate; rw [if_neg hev, Fin.ext_iff]; show k.val = j.val - 1 ↔ _; omega
    have hs : sgn j = 1 := if_neg hev
    by_cases h : j.val = k.val + 1
    · rw [if_neg (by omega), if_neg hev, if_neg hev, if_pos h, if_pos (hm.mpr h), hs]; rfl
    · rw [if_neg hev, if_neg hev, if_neg h, if_neg (mt hm.mp h)]
      split <;> rfl

end Cert.KerVal

end
-- ==== Proof.KerRows.lean ====
/-
# The kernel's rotated rows at the extended reals

What a device loads of its arguments, and the key, value and query blocks that it computes, read at an index: the rows
of the whole arrays' projections and rotations that the device holds.
-/
module

public import proofs.«01_k».proof.Proof.KerTab

@[expose] public section

noncomputable section

namespace Cert.KerVal

open Cert.KernelIdeal Cert.KernelIdeal.Gen Cert.Spec
open Cert.KernelIdeal.Ring (pos cosT sinT swapM s₀ xS wqS wkS wvS woS xLd0 xLd1 wqLd wkLd wvLd woLd kBlk vBlk qBlk)
open Idealize.ShloMosaic Idealize.ShloMosaic.ValueIdx
open Idealize.ShloMosaic.TcCoe Idealize.SL.Sem
open scoped BigOperators

variable (m : (ℓ : Loc nD τ sig) → Buf (Elt Ideal) ℓ) (ρ : Dev nD → PrngReg)

/-! ## What is loaded -/

theorem xS_at (c : Dev nD) (b : Fin 2) (r : Fin 128) (k : Fin 512) :
    xS m ρ c (ix3 b r k) = m ((c : Thread nD τ).loc main_arg0) (ix3 b r k) := by
  refine congrArg (m ((c : Thread nD τ).loc main_arg0)) ?_
  funext a; apply Fin.ext
  match a with
  | ⟨0, _⟩ => show 0 * 2 + 1 * b.val = b.val; omega
  | ⟨1, _⟩ => show 0 * 128 + 1 * r.val = r.val; omega
  | ⟨2, _⟩ => show 0 * 512 + 1 * k.val = k.val; omega

theorem xLd0_at (c : Dev nD) (r : Fin 128) (k : Fin 512) :
    xLd0 m ρ c (ix3 (0 : Fin 1) r k) = m ((c : Thread nD τ).loc main_arg0) (ix3 (0 : Fin 2) r k) := by
  rw [← xS_at m ρ c (0 : Fin 2) r k]
  refine congrArg (xS m ρ c) ?_
  funext a; apply Fin.ext
  match a with
  | ⟨0, _⟩ => rfl
  | ⟨1, _⟩ => show 0 + 1 * r.val = r.val; omega
  | ⟨2, _⟩ => show 0 + 1 * k.val = k.val; omega

theorem xLd1_at (c : Dev nD) (r : Fin 128) (k : Fin 512) :
    xLd1 m ρ c (ix3 (0 : Fin 1) r k) = m ((c : Thread nD τ).loc main_arg0) (ix3 (1 : Fin 2) r k) := by
  rw [← xS_at m ρ c (1 : Fin 2) r k]
  refine congrArg (xS m ρ c) ?_
  funext a; apply Fin.ext
  match a with
  | ⟨0, _⟩ => rfl
  | ⟨1, _⟩ => show 0 + 1 * r.val = r.val; omega
  | ⟨2, _⟩ => show 0 + 1 * k.val = k.val; omega

theorem wqLd_at (c : Dev nD) (k : Fin 512) (j : Fin 256) :
    wqLd m ρ c (ix2 k j) = m ((c : Thread nD τ).loc main_arg1) (ix2 k j) := by
  refine congrArg (m ((c : Thread nD τ).loc main_arg1)) ?_
  funext a; apply Fin.ext
  match a with
  | ⟨0, _⟩ => show 0 * 512 + 1 * (0 + 1 * k.val) = k.val; omega
  | ⟨1, _⟩ => show 0 * 256 + 1 * (0 + 1 * j.val) = j.val; omega
theorem wkLd_at (c : Dev nD) (k : Fin 512) (j : Fin 256) :
    wkLd m ρ c (ix2 k j) = m ((c : Thread nD τ).loc main_arg2) (ix2 k j) := by
  refine congrArg (m ((c : Thread nD τ).loc main_arg2)) ?_
  funext a; apply Fin.ext
  match a with
  | ⟨0, _⟩ => show 0 * 512 + 1 * (0 + 1 * k.val) = k.val; omega
  | ⟨1, _⟩ => show 0 * 256 + 1 * (0 + 1 * j.val) = j.val; omega
theorem wvLd_at (c : Dev nD) (k : Fin 512) (j : Fin 256) :
    wvLd m ρ c (ix2 k j) = m ((c : Thread nD τ).loc main_arg3) (ix2 k j) := by
  refine congrArg (m ((c : Thread nD τ).loc main_arg3)) ?_
  funext a; apply Fin.ext
  match a with
  | ⟨0, _⟩ => show 0 * 512 + 1 * (0 + 1 * k.val) = k.val; omega
  | ⟨1, _⟩ => show 0 * 256 + 1 * (0 + 1 * j.val) = j.val; omega
theorem woLd_at (c : Dev nD) (k : Fin 256) (j : Fin 512) :
    woLd m ρ c (ix2 k j) = m ((c : Thread nD τ).loc main_arg4) (ix2 k j) := by
  refine congrArg (m ((c : Thread nD τ).loc main_arg4)) ?_
  funext a; apply Fin.ext
  match a with
  | ⟨0, _⟩ => show 0 * 256 + 1 * (0 + 1 * k.val) = k.val; omega
  | ⟨1, _⟩ => show 0 * 512 + 1 * (0 + 1 * j.val) = j.val; omega

/-! ## A projected and a rotated block -/

/-- A block's product with a projection matrix. -/
def projV (xb : FVec Ideal S128x512 .bf16) (w : FVec Ideal S512x256 .bf16) : FVec Ideal S128x256 .f32 :=
  matmul dot_S128x512_S512x256_S128x256_1_0_0_1_n_n none xb w (constant S128x256 .f32 0x00000000#32)

/-- The rotated product, times the scale `s`. -/
def rotV (c : Dev nD) (xb : FVec Ideal S128x512 .bf16) (w : FVec Ideal S512x256 .bf16) (s : BitVec 32) : FVec Ideal S128x256 .f32 :=
  mulf (addf (mulf (projV xb w) (cosT c))
    (mulf (matmul dot_S128x256_S256x256_S128x256_1_0_0_1_n_n none (truncf .bf16 (projV xb w) bitsLt_bf16_f32) swapM (constant S128x256 .f32 0x00000000#32)) (sinT c)))
    (broadcast S128x256 (Scalar.ofBits .f32 s))

section

variable {X : Act} {W : Wgt} {c : Dev nD} {b : Fin 2} {xb : FVec Ideal S128x512 .bf16} {w : FVec Ideal S512x256 .bf16}
  (hx : ∀ r k, xb (ix2 r k) = X (ix3 b (row c r) k)) (hw : ∀ k j, w (ix2 k j) = W (ix2 k j))

include hx hw

theorem projV_at (r : Fin 128) (j : Fin 256) : projV xb w (ix2 r j) = proj X W b (row c r) j := by
  unfold projV
  refine (Ideal.matmul_plain_apply (M := 128) (K := 512) (N := 256) none xb w _ r j).trans ?_
  rw [constant_apply, Ideal.ofBits_zero_f32, zero_add]
  exact Finset.sum_congr rfl fun k _ => by rw [hx, hw]

theorem rotV_at (s : BitVec 32) (r : Fin 128) (j : Fin 256) :
    rotV c xb w s (ix2 r j) = rot X W b (row c r) j * Ideal.ofBits .f32 s := by
  unfold rotV
  rw [mulf_apply, addf_apply, mulf_apply, mulf_apply, cosT_at, sinT_at, projV_at hx hw]
  have e : matmul (F := Ideal) dot_S128x256_S256x256_S128x256_1_0_0_1_n_n none (truncf .bf16 (projV xb w) bitsLt_bf16_f32 : FVec Ideal S128x256 .bf16) swapM (constant S128x256 .f32 0x00000000#32) (ix2 r j)
      = proj X W b (row c r) (mate j) * ((sgn j : ℝ) : EReal) := by
    refine (Ideal.matmul_plain_apply (M := 128) (K := 256) (N := 256) none (truncf .bf16 (projV xb w) bitsLt_bf16_f32 : FVec Ideal S128x256 .bf16) swapM _ r j).trans ?_
    rw [constant_apply, Ideal.ofBits_zero_f32, zero_add, Finset.sum_eq_single (mate j)]
    · rw [swapM_at, if_pos rfl, truncf_apply, projV_at hx hw]
    · intro k _ hk; rw [swapM_at, if_neg hk, mul_zero]
    · intro h; exact absurd (Finset.mem_univ _) h
  rw [e]; rfl

end

/-! ## The blocks that a device computes -/

/-- A block with unit axes in front, read without them. -/
theorem cast4_at (v : FVec Ideal S128x256 .bf16) (r : Fin 128) (j : Fin 256) :
    (shapeCast S1x1x128x256 v shapeCasts_S128x256_S1x1x128x256 : FVec Ideal S1x1x128x256 .bf16) (ix4 (0 : Fin 1) (0 : Fin 1) r j) = v (ix2 r j) :=
  shapeCast_apply _ _ _ _ (by rw [Shape.rowMajor_val_two, Shape.rowMajor_val_four]; show r.val * 256 + j.val = ((0 * 1 + 0) * 128 + r.val) * 256 + j.val; omega)
theorem cast3_at (v : FVec Ideal S128x256 .bf16) (r : Fin 128) (j : Fin 256) :
    (shapeCast S1x128x256 v shapeCasts_S128x256_S1x128x256 : FVec Ideal S1x128x256 .bf16) (ix3 (0 : Fin 1) r j) = v (ix2 r j) :=
  shapeCast_apply _ _ _ _ (by rw [Shape.rowMajor_val_two, Shape.rowMajor_val_three]; show r.val * 256 + j.val = (0 * 128 + r.val) * 256 + j.val; omega)
theorem castX_at (v : FVec Ideal S1x128x512 .bf16) (r : Fin 128) (k : Fin 512) :
    (shapeCast S128x512 v shapeCasts_S1x128x512_S128x512 : FVec Ideal S128x512 .bf16) (ix2 r k) = v (ix3 (0 : Fin 1) r k) :=
  shapeCast_apply _ _ _ _ (by rw [Shape.rowMajor_val_three, Shape.rowMajor_val_two]; show (0 * 128 + r.val) * 512 + k.val = r.val * 512 + k.val; omega)

theorem bits_eighth : Ideal.ofBits .f32 0x3E000000#32 = ((1 / 8 : ℝ) : EReal) := by
  simp [Ideal.ofBits, Ideal.ieee, -EReal.coe_mul]; norm_num

section

variable {X : Act} {Wq Wk Wv : Wgt}
  (hX : ∀ (c : Dev nD) (b : Fin 2) r k, m ((c : Thread nD τ).loc main_arg0) (ix3 b r k) = X (ix3 b (row c r) k))

include hX

theorem x0_at (c : Dev nD) (r : Fin 128) (k : Fin 512) :
    (shapeCast S128x512 (xLd0 m ρ c) shapeCasts_S1x128x512_S128x512 : FVec Ideal S128x512 .bf16) (ix2 r k) = X (ix3 (0 : Fin 2) (row c r) k) := by
  rw [castX_at, xLd0_at, hX]
theorem x1_at (c : Dev nD) (r : Fin 128) (k : Fin 512) :
    (shapeCast S128x512 (xLd1 m ρ c) shapeCasts_S1x128x512_S128x512 : FVec Ideal S128x512 .bf16) (ix2 r k) = X (ix3 (1 : Fin 2) (row c r) k) := by
  rw [castX_at, xLd1_at, hX]

/-- The keys of device `c`. -/
theorem kBlk_at (hW : ∀ (c : Dev nD) k j, m ((c : Thread nD τ).loc main_arg2) (ix2 k j) = Wk (ix2 k j))
    (c : Dev nD) (b : Fin 2) (r : Fin 128) (j : Fin 256) :
    kBlk m ρ c b.val (ix4 (0 : Fin 1) (0 : Fin 1) r j) = rot X Wk b (row c r) j := by
  have hw : ∀ k j, (shapeCast S512x256 (wkLd m ρ c) shapeCasts_S512x256_S512x256 : FVec Ideal S512x256 .bf16) (ix2 k j) = Wk (ix2 k j) := fun k j => by
    rw [shapeCast_self, wkLd_at, hW]
  match b with
  | ⟨0, _⟩ =>
    refine (cast4_at (truncf .bf16 (rotV c (shapeCast S128x512 (xLd0 m ρ c) shapeCasts_S1x128x512_S128x512)
      (shapeCast S512x256 (wkLd m ρ c) shapeCasts_S512x256_S512x256) 0x3F800000#32) bitsLt_bf16_f32) r j).trans ?_
    rw [truncf_apply, rotV_at (x0_at m ρ hX c) hw, Ideal.ofBits_one_f32, mul_one]; rfl
  | ⟨1, _⟩ =>
    refine (cast4_at (truncf .bf16 (rotV c (shapeCast S128x512 (xLd1 m ρ c) shapeCasts_S1x128x512_S128x512)
      (shapeCast S512x256 (wkLd m ρ c) shapeCasts_S512x256_S512x256) 0x3F800000#32) bitsLt_bf16_f32) r j).trans ?_
    rw [truncf_apply, rotV_at (x1_at m ρ hX c) hw, Ideal.ofBits_one_f32, mul_one]; rfl

/-- Its queries, scaled. -/
theorem qBlk_at (hW : ∀ (c : Dev nD) k j, m ((c : Thread nD τ).loc main_arg1) (ix2 k j) = Wq (ix2 k j))
    (c : Dev nD) (b : Fin 2) (r : Fin 128) (j : Fin 256) :
    qBlk m ρ c b.val (ix3 (0 : Fin 1) r j) = rot X Wq b (row c r) j * ((1 / 8 : ℝ) : EReal) := by
  have hw : ∀ k j, (shapeCast S512x256 (wqLd m ρ c) shapeCasts_S512x256_S512x256 : FVec Ideal S512x256 .bf16) (ix2 k j) = Wq (ix2 k j) := fun k j => by
    rw [shapeCast_self, wqLd_at, hW]
  match b with
  | ⟨0, _⟩ =>
    refine (cast3_at (truncf .bf16 (rotV c (shapeCast S128x512 (xLd0 m ρ c) shapeCasts_S1x128x512_S128x512)
      (shapeCast S512x256 (wqLd m ρ c) shapeCasts_S512x256_S512x256) 0x3E000000#32) bitsLt_bf16_f32) r j).trans ?_
    rw [truncf_apply, rotV_at (x0_at m ρ hX c) hw, bits_eighth]; rfl
  | ⟨1, _⟩ =>
    refine (cast3_at (truncf .bf16 (rotV c (shapeCast S128x512 (xLd1 m ρ c) shapeCasts_S1x128x512_S128x512)
      (shapeCast S512x256 (wqLd m ρ c) shapeCasts_S512x256_S512x256) 0x3E000000#32) bitsLt_bf16_f32) r j).trans ?_
    rw [truncf_apply, rotV_at (x1_at m ρ hX c) hw, bits_eighth]; rfl

/-- Its values. -/
theorem vBlk_at (hW : ∀ (c : Dev nD) k j, m ((c : Thread nD τ).loc main_arg3) (ix2 k j) = Wv (ix2 k j))
    (c : Dev nD) (b : Fin 2) (r : Fin 128) (j : Fin 256) :
    vBlk m ρ c b.val (ix4 (0 : Fin 1) (0 : Fin 1) r j) = proj X Wv b (row c r) j := by
  have hw : ∀ k j, (shapeCast S512x256 (wvLd m ρ c) shapeCasts_S512x256_S512x256 : FVec Ideal S512x256 .bf16) (ix2 k j) = Wv (ix2 k j) := fun k j => by
    rw [shapeCast_self, wvLd_at, hW]
  match b with
  | ⟨0, _⟩ =>
    refine (cast4_at (truncf .bf16 (projV (shapeCast S128x512 (xLd0 m ρ c) shapeCasts_S1x128x512_S128x512)
      (shapeCast S512x256 (wvLd m ρ c) shapeCasts_S512x256_S512x256)) bitsLt_bf16_f32) r j).trans ?_
    rw [truncf_apply, projV_at (x0_at m ρ hX c) hw]; rfl
  | ⟨1, _⟩ =>
    refine (cast4_at (truncf .bf16 (projV (shapeCast S128x512 (xLd1 m ρ c) shapeCasts_S1x128x512_S128x512)
      (shapeCast S512x256 (wvLd m ρ c) shapeCasts_S512x256_S512x256)) bitsLt_bf16_f32) r j).trans ?_
    rw [truncf_apply, projV_at (x1_at m ρ hX c) hw]; rfl

end

end Cert.KerVal

end
-- ==== Proof.KerOut.lean ====
/-
# The kernel's attention at the extended reals

One device's exponentials, denominators and unnormalised results, head by head, and the rows of the result it stages:
the rows of the plain result that it holds.
-/
module

public import proofs.«01_k».proof.Proof.KerRows

@[expose] public section

noncomputable section

namespace Cert.KerVal

open Cert.KernelIdeal Cert.KernelIdeal.Gen Cert.Spec
open Cert.KernelIdeal.Ring (on woLd kBlk vBlk qBlk kAll vAll qAll qLd kLd vLd eOp lOp cOp lSum cSum oOp eH vH lH aH oBlk outAll inbQ inbS)
open Idealize.ShloMosaic Idealize.ShloMosaic.ValueIdx
open Idealize.ShloMosaic.TcCoe Idealize.SL.Sem
open scoped BigOperators

variable (m : (ℓ : Loc nD τ sig) → Buf (Elt Ideal) ℓ) (ρ : Dev nD → PrngReg)

/-! ## What a head loads -/

theorem on_eq (c : Dev nD) (s : Fin 4) : on c s = ((c : Fin 4) + s : Fin 4) := rfl

theorem qLd_at (c : Dev nD) (b : Fin 2) (h : Fin 4) (r : Fin 128) (d : Fin 64) :
    qLd m ρ c b.val (64 * h.val) (inbQ b h) (ix3 (0 : Fin 1) r d) = qBlk m ρ c b.val (ix3 (0 : Fin 1) r (col h d)) := by
  have e : qLd m ρ c b.val (64 * h.val) (inbQ b h) (ix3 (0 : Fin 1) r d) = qAll m ρ c (ix3 b r (col h d)) := by
    refine congrArg (qAll m ρ c) ?_
    funext a; apply Fin.ext
    match a with
    | ⟨0, _⟩ => show b.val + 1 * 0 = b.val; omega
    | ⟨1, _⟩ => show 0 + 1 * r.val = r.val; omega
    | ⟨2, _⟩ => show 64 * h.val + 1 * d.val = 64 * h.val + d.val; omega
  rw [e]
  refine congrArg (qBlk m ρ c b.val) ?_
  funext a; match a with | ⟨0, _⟩ => rfl | ⟨1, _⟩ => rfl | ⟨2, _⟩ => rfl

theorem kLd_at (c : Dev nD) (s : Fin 4) (b : Fin 2) (h : Fin 4) (r : Fin 128) (d : Fin 64) :
    kLd m ρ c s.val b.val (64 * h.val) (inbS s b h) (ix4 (0 : Fin 1) (0 : Fin 1) r d)
      = kBlk m ρ (on c s) b.val (ix4 (0 : Fin 1) (0 : Fin 1) r (col h d)) := by
  have e : kLd m ρ c s.val b.val (64 * h.val) (inbS s b h) (ix4 (0 : Fin 1) (0 : Fin 1) r d) = kAll m ρ c (ix4 s b r (col h d)) := by
    refine congrArg (kAll m ρ c) ?_
    funext a; apply Fin.ext
    match a with
    | ⟨0, _⟩ => show s.val + 1 * 0 = s.val; omega
    | ⟨1, _⟩ => show b.val + 1 * 0 = b.val; omega
    | ⟨2, _⟩ => show 0 + 1 * r.val = r.val; omega
    | ⟨3, _⟩ => show 64 * h.val + 1 * d.val = 64 * h.val + d.val; omega
  rw [e]
  refine congrArg (kBlk m ρ (on c s) b.val) ?_
  funext a; match a with | ⟨0, _⟩ => rfl | ⟨1, _⟩ => rfl | ⟨2, _⟩ => rfl | ⟨3, _⟩ => rfl

theorem vH_at (c : Dev nD) (s : Fin 4) (b : Fin 2) (h : Fin 4) (r : Fin 128) (d : Fin 64) :
    vH m ρ c s b h (ix4 (0 : Fin 1) (0 : Fin 1) r d)
      = vBlk m ρ (on c s) b.val (ix4 (0 : Fin 1) (0 : Fin 1) r (col h d)) := by
  have e : vH m ρ c s b h (ix4 (0 : Fin 1) (0 : Fin 1) r d) = vAll m ρ c (ix4 s b r (col h d)) := by
    refine congrArg (vAll m ρ c) ?_
    funext a; apply Fin.ext
    match a with
    | ⟨0, _⟩ => show s.val + 1 * 0 = s.val; omega
    | ⟨1, _⟩ => show b.val + 1 * 0 = b.val; omega
    | ⟨2, _⟩ => show 0 + 1 * r.val = r.val; omega
    | ⟨3, _⟩ => show 64 * h.val + 1 * d.val = 64 * h.val + d.val; omega
  rw [e]
  refine congrArg (vBlk m ρ (on c s) b.val) ?_
  funext a; match a with | ⟨0, _⟩ => rfl | ⟨1, _⟩ => rfl | ⟨2, _⟩ => rfl | ⟨3, _⟩ => rfl

/-! ## The operations of a head at an index -/

theorem castQ_at (v : FVec Ideal S1x128x64 .bf16) (r : Fin 128) (d : Fin 64) :
    (shapeCast S128x64 v shapeCasts_S1x128x64_S128x64 : FVec Ideal S128x64 .bf16) (ix2 r d) = v (ix3 (0 : Fin 1) r d) :=
  shapeCast_apply _ _ _ _ (by rw [Shape.rowMajor_val_three, Shape.rowMajor_val_two]; show (0 * 128 + r.val) * 64 + d.val = r.val * 64 + d.val; omega)
theorem castK_at (v : FVec Ideal S1x1x128x64 .bf16) (r : Fin 128) (d : Fin 64) :
    (shapeCast S128x64 v shapeCasts_S1x1x128x64_S128x64 : FVec Ideal S128x64 .bf16) (ix2 r d) = v (ix4 (0 : Fin 1) (0 : Fin 1) r d) :=
  shapeCast_apply _ _ _ _ (by rw [Shape.rowMajor_val_four, Shape.rowMajor_val_two]; show ((0 * 1 + 0) * 128 + r.val) * 64 + d.val = r.val * 64 + d.val; omega)

theorem eOp_at (q : Vec Ideal S1x128x64 .bf16) (k : Vec Ideal S1x1x128x64 .bf16) (r t : Fin 128) :
    eOp q k (ix2 r t) = Ideal.exp (∑ d : Fin 64, q (ix3 (0 : Fin 1) r d) * k (ix4 (0 : Fin 1) (0 : Fin 1) t d)) := by
  refine congrArg Ideal.exp ?_
  refine (Ideal.matmul_transposedRhs_apply (M := 128) (K := 64) (N := 128) none _ _ _ r t).trans ?_
  rw [constant_apply, Ideal.ofBits_zero_f32, zero_add]
  exact Finset.sum_congr rfl fun d _ => by rw [castQ_at, castK_at]

theorem lOp_at (e : FVec Ideal S128x128 .f32) (r : Fin 128) : lOp e (ix2 r (0 : Fin 1)) = ∑ t : Fin 128, e (ix2 r t) := by
  unfold lOp
  rw [shapeCast_apply _ _ (ix2 r (0 : Fin 1)) (ix1 r) (by rw [Shape.rowMajor_val_one, Shape.rowMajor_val_two]; show r.val = r.val * 1 + 0; omega)]
  refine (Ideal.multiReduction_add_single _ _ _ _ _ _).trans ?_
  refine Finset.sum_congr rfl fun t _ => congrArg e ?_
  funext a; match a with | ⟨0, _⟩ => rfl | ⟨1, _⟩ => rfl

theorem cOp_at (e : FVec Ideal S128x128 .f32) (v : Vec Ideal S1x1x128x64 .bf16) (r : Fin 128) (d : Fin 64) :
    cOp e v (ix2 r d) = ∑ t : Fin 128, e (ix2 r t) * v (ix4 (0 : Fin 1) (0 : Fin 1) t d) := by
  refine (Ideal.matmul_plain_apply (M := 128) (K := 128) (N := 64) none _ _ _ r d).trans ?_
  rw [constant_apply, Ideal.ofBits_zero_f32, zero_add]
  exact Finset.sum_congr rfl fun t _ => by rw [truncf_apply, castK_at]

/-- One head's share of the result: the normalised head against its 64 rows of the output matrix. -/
def hOut (l : FVec Ideal S128x1 .f32) (a : FVec Ideal S128x64 .f32) (w : FVec Ideal S64x512 .bf16) : FVec Ideal S128x512 .f32 :=
  matmul dot_S128x64_S64x512_S128x512_1_0_0_1_n_n none
    (truncf .bf16 (divf a (broadcastTo S128x64 l broadcasts_S128x1_S128x64 : FVec Ideal S128x64 .f32)) bitsLt_bf16_f32 : FVec Ideal S128x64 .bf16)
    w (constant S128x512 .f32 0x00000000#32 : FVec Ideal S128x512 .f32)

theorem hOut_at (l a w) (r : Fin 128) (n : Fin 512) :
    hOut l a w (ix2 r n) = ∑ d : Fin 64, Ideal.div (a (ix2 r d)) (l (ix2 r (0 : Fin 1))) * w (ix2 d n) := by
  refine (Ideal.matmul_plain_apply (M := 128) (K := 64) (N := 512) none _ _ _ r n).trans ?_
  rw [constant_apply, Ideal.ofBits_zero_f32, zero_add]
  refine Finset.sum_congr rfl fun d _ => ?_
  rw [truncf_apply, divf_apply, broadcastTo_apply _ _ (ix2 r d) (ix2 r (0 : Fin 1)) (fun a => by match a with | ⟨0, _⟩ => rfl | ⟨1, _⟩ => rfl)]

theorem slice_at (o : ℕ) (v : FVec Ideal S256x512 .bf16) (hs) (h : Fin 4) (ho : o = 64 * h.val) (d : Fin 64) (n : Fin 512) :
    (extractStridedSlice S64x512 ![o, 0] v hs : FVec Ideal S64x512 .bf16) (ix2 d n) = v (ix2 (col h d) n) := by
  subst ho
  refine extractStridedSlice_apply _ _ _ _ _ fun a => ?_
  match a with
  | ⟨0, _⟩ => rfl
  | ⟨1, _⟩ => show n.val = 0 + n.val; omega

theorem cast5_at (v : FVec Ideal S128x512 .bf16) (r : Fin 128) (n : Fin 512) :
    (shapeCast S1x128x512 v shapeCasts_S128x512_S1x128x512 : FVec Ideal S1x128x512 .bf16) (ix3 (0 : Fin 1) r n) = v (ix2 r n) :=
  shapeCast_apply _ _ _ _ (by rw [Shape.rowMajor_val_two, Shape.rowMajor_val_three]; show r.val * 512 + n.val = (0 * 128 + r.val) * 512 + n.val; omega)

theorem oOp_eq (l₀ l₁ l₂ l₃ : FVec Ideal S128x1 .f32) (a₀ a₁ a₂ a₃ : FVec Ideal S128x64 .f32) (wo : Vec Ideal S256x512 .bf16) :
    oOp l₀ l₁ l₂ l₃ a₀ a₁ a₂ a₃ wo = shapeCast S1x128x512 (truncf .bf16 (addf (addf (addf
      (hOut l₀ a₀ (extractStridedSlice S64x512 ![0, 0] (k0_pay158 wo) slices_S256x512_o0_0_S64x512))
      (hOut l₁ a₁ (extractStridedSlice S64x512 ![64, 0] (k0_pay158 wo) slices_S256x512_o64_0_S64x512)))
      (hOut l₂ a₂ (extractStridedSlice S64x512 ![128, 0] (k0_pay158 wo) slices_S256x512_o128_0_S64x512)))
      (hOut l₃ a₃ (extractStridedSlice S64x512 ![192, 0] (k0_pay158 wo) slices_S256x512_o192_0_S64x512))) bitsLt_bf16_f32 : FVec Ideal S128x512 .bf16)
      shapeCasts_S128x512_S1x128x512 := by
  unfold oOp k0_pay159 hOut; rfl

theorem oOp_at (l : Fin 4 → FVec Ideal S128x1 .f32) (a : Fin 4 → FVec Ideal S128x64 .f32) (wo : Vec Ideal S256x512 .bf16) (r : Fin 128) (n : Fin 512) :
    oOp (l 0) (l 1) (l 2) (l 3) (a 0) (a 1) (a 2) (a 3) wo (ix3 (0 : Fin 1) r n)
      = ∑ h : Fin 4, ∑ d : Fin 64, Ideal.div (a h (ix2 r d)) (l h (ix2 r (0 : Fin 1))) * wo (ix2 (col h d) n) := by
  have e : k0_pay158 wo = wo := shapeCast_self _ _
  rw [oOp_eq, cast5_at, truncf_apply, addf_apply, addf_apply, addf_apply, hOut_at, hOut_at, hOut_at, hOut_at, Fin.sum_univ_four, e]
  simp only [slice_at 0 wo _ 0 rfl, slice_at 64 wo _ 1 rfl, slice_at 128 wo _ 2 rfl, slice_at 192 wo _ 3 rfl]

/-! ## The result's rows -/

section

variable {X : Act} {Wq Wk Wv : Wgt} {Wo : Wout} (q k : Fin 2 → Fin 512 → Fin 256 → ℝ)
  (hX : ∀ (c : Dev nD) (b : Fin 2) r k, m ((c : Thread nD τ).loc main_arg0) (ix3 b r k) = X (ix3 b (row c r) k))
  (hWq : ∀ (c : Dev nD) k j, m ((c : Thread nD τ).loc main_arg1) (ix2 k j) = Wq (ix2 k j))
  (hWk : ∀ (c : Dev nD) k j, m ((c : Thread nD τ).loc main_arg2) (ix2 k j) = Wk (ix2 k j))
  (hWv : ∀ (c : Dev nD) k j, m ((c : Thread nD τ).loc main_arg3) (ix2 k j) = Wv (ix2 k j))
  (hWo : ∀ (c : Dev nD) j n, m ((c : Thread nD τ).loc main_arg4) (ix2 j n) = Wo (ix2 j n))
  (hq : ∀ b i j, rot X Wq b i j = ((q b i j : ℝ) : EReal)) (hk : ∀ b i j, rot X Wk b i j = ((k b i j : ℝ) : EReal))

include hX hWq hWk hq hk

theorem eH_at (c : Dev nD) (s : Fin 4) (b : Fin 2) (h : Fin 4) (r t : Fin 128) :
    eH m ρ c s b h (ix2 r t) = ((wt q k b h (row c r) (row (c + s : Fin 4) t) : ℝ) : EReal) := by
  unfold eH
  rw [eOp_at]
  have e : ∀ d : Fin 64, qLd m ρ c b.val (64 * h.val) (inbQ b h) (ix3 (0 : Fin 1) r d)
      * kLd m ρ c s.val b.val (64 * h.val) (inbS s b h) (ix4 (0 : Fin 1) (0 : Fin 1) t d)
      = ((q b (row c r) (col h d) * k b (row (c + s : Fin 4) t) (col h d) * (1 / 8) : ℝ) : EReal) := fun d => by
    rw [qLd_at, kLd_at, qBlk_at m ρ hX hWq, kBlk_at m ρ hX hWk, hq, hk, on_eq, ← EReal.coe_mul, ← EReal.coe_mul]
    refine congrArg _ ?_; ring
  rw [Finset.sum_congr rfl fun d _ => e d, ← coe_sum, Ideal.exp_coe]
  refine congrArg (fun z : ℝ => ((Real.exp z : ℝ) : EReal)) ?_
  rw [Finset.sum_mul]

theorem lH_at (c : Dev nD) (b : Fin 2) (h : Fin 4) (r : Fin 128) :
    lH m ρ c b h (ix2 r (0 : Fin 1)) = ((∑ j : Fin 512, wt q k b h (row c r) j : ℝ) : EReal) := by
  unfold lH lSum
  rw [addf_apply, addf_apply, addf_apply, lOp_at, lOp_at, lOp_at, lOp_at, coe_sum, sum_keys c, Fin.sum_univ_four]
  simp only [eH_at m ρ q k hX hWq hWk hq hk]
  exact add_right_comm _ _ _

include hWv

theorem aH_at (c : Dev nD) (b : Fin 2) (h : Fin 4) (r : Fin 128) (d : Fin 64) :
    aH m ρ c b h (ix2 r d) = ∑ j : Fin 512, ((wt q k b h (row c r) j : ℝ) : EReal) * proj X Wv b j (col h d) := by
  unfold aH cSum
  rw [addf_apply, addf_apply, addf_apply, cOp_at, cOp_at, cOp_at, cOp_at, sum_keys c, Fin.sum_univ_four]
  simp only [eH_at m ρ q k hX hWq hWk hq hk, vH_at, vBlk_at m ρ hX hWv, on_eq]
  exact add_right_comm _ _ _

include hWo

theorem oBlk_at (c : Dev nD) (b : Fin 2) (r : Fin 128) (n : Fin 512) :
    oBlk m ρ c b (ix3 (0 : Fin 1) r n) = out q k X Wv Wo b (row c r) n := by
  refine (oOp_at (fun h => lH m ρ c b h) (fun h => aH m ρ c b h) (woLd m ρ c) r n).trans ?_
  unfold out
  rw [sum_cols]
  refine Finset.sum_congr rfl fun h _ => Finset.sum_congr rfl fun d _ => ?_
  rw [lH_at m ρ q k hX hWq hWk hq hk, aH_at m ρ q k hX hWq hWk hWv hq hk, div_real _ (sum_wt_pos q k b h (row c r)), woLd_at, hWo, hd_col]

/-- The staged result of device `c`: the rows that it holds. -/
theorem outAll_at (c : Dev nD) (b : Fin 2) (r : Fin 128) (n : Fin 512) :
    outAll m ρ c (ix3 b r n) = out q k X Wv Wo b (row c r) n := by
  rw [← oBlk_at m ρ q k hX hWq hWk hWv hWo hq hk]
  have e : (if (b : ℕ) = 0 then (0 : Fin 2) else 1) = b := by revert b; decide
  show oBlk m ρ c (if (b : ℕ) = 0 then (0 : Fin 2) else 1) _ = _
  rw [e]
  refine congrArg (oBlk m ρ c b) ?_
  funext a; match a with | ⟨0, _⟩ => rfl | ⟨1, _⟩ => rfl | ⟨2, _⟩ => rfl

end

end Cert.KerVal

end
-- ==== Proof.RefRot.lean ====
/-
# The reference's rotated rows

The reference's projections, its cosine and sine tables and its rotated queries and keys, read at an index.
-/
module

public import proofs.«01_k».proof.Proof.Gen.ReferenceIdeal.Read
public import proofs.«01_k».proof.Proof.Spec
public import Idealize.ShloMosaic.Lib.IdealHost

@[expose] public section

noncomputable section

namespace Cert.RefVal

open Cert.ReferenceIdeal Cert.ReferenceIdeal.Gen Cert.ReferenceIdeal.Read Cert.Spec
open Idealize.ShloMosaic Idealize.ShloMosaic.ValueIdx
open scoped BigOperators

/-! ## The projections -/

theorem v30_at (x : Act) (w : Wgt) (b : Fin 2) (i : Fin 512) (j : Fin 256) :
    val_main_v30 (F := Ideal) x w (ix3 b i j) = proj x w b i j := by
  rw [val_main_v30_apply]; unfold proj
  refine Finset.sum_congr rfl fun k _ => ?_
  have e1 : lidx_main_v30 (ix3 b i j) k = ix3 b i k := by
    funext a; match a with | ⟨0, _⟩ => rfl | ⟨1, _⟩ => rfl | ⟨2, _⟩ => rfl
  have e2 : ridx_main_v30 (ix3 b i j) k = ix2 k j := by
    funext a; match a with | ⟨0, _⟩ => rfl | ⟨1, _⟩ => rfl
  rw [e1, e2]; rfl

theorem v31_at (x : Act) (w : Wgt) (b : Fin 2) (i : Fin 512) (h : Fin 4) (d : Fin 64) :
    val_main_v31 (F := Ideal) x w (ix4 b i h d) = proj x w b i (col h d) := by
  have hb := b.isLt; have hi := i.isLt; have hh := h.isLt; have hd := d.isLt
  rw [val_main_v31_apply, ← v30_at]
  refine congrArg _ ?_
  funext a
  match a with
  | ⟨0, _⟩ => apply Fin.ext; show (((b.val * 512 + i.val) * 4 + h.val) * 64 + d.val) / 131072 = b.val; omega
  | ⟨1, _⟩ => apply Fin.ext; show (((b.val * 512 + i.val) * 4 + h.val) * 64 + d.val) / 256 % 512 = i.val; omega
  | ⟨2, _⟩ => apply Fin.ext; show (((b.val * 512 + i.val) * 4 + h.val) * 64 + d.val) % 256 = 64 * h.val + d.val; omega

theorem v68_eq (x : Act) (w : Wgt) : val_main_v69 (F := Ideal) x w = val_main_v31 (F := Ideal) x w := rfl

/-! ## The tables -/

theorem bits_64 : Ideal.ofBits .f32 0x42800000#32 = ((64 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num

/-- Twice the pair's number, as the reference's word. -/
theorem v9_toInt : ∀ p : Fin 32, (val_main_v9 (F := Ideal) (ix1 p)).toInt = ((p.val * 2 : ℕ) : ℤ) := by
  intro p
  rw [val_main_v9_apply, val_main_v8_apply, val_main_v7_apply, val_main_v6_apply, val_main_v5_apply]
  show (IntOp.addi 0#32 (IntOp.muli 2#32 (BitVec.ofNat 32 p.val))).toInt = _
  revert p; decide

/-- The inverse frequency of pair `p`. -/
theorem v16_at (p : Fin 32) :
    val_main_v16 (F := Ideal) (ix1 p) = ((Real.exp ((p.val * 2 : ℕ) * (-(Real.log 10000) * 64⁻¹)) : ℝ) : EReal) := by
  rw [val_main_v16_apply, val_main_v15_apply, val_main_v14_apply, val_main_v13_apply, val_main_v12_apply, val_main_v11_apply, val_main_v10_apply]
  show Ideal.div (Ideal.ofBits .f32 0x3F800000#32) (Ideal.pow (Ideal.ofBits .f32 0x461C4000#32)
    (Ideal.div (((val_main_v9 (F := Ideal) (ix1 p)).toInt : ℝ) : EReal) (Ideal.ofBits .f32 0x42800000#32))) = _
  rw [v9_toInt, bits_64, bits_10000, Ideal.div_coe (by norm_num), ← EReal.coe_mul, Ideal.pow_coe_coe, Ideal.ofBits_one_f32]
  have hp : (0 : ℝ) < Real.rpow 10000 ((((p.val * 2 : ℕ) : ℤ) : ℝ) * (1 / 64)) := Real.rpow_pos_of_pos (by norm_num) _
  rw [Ideal.div_coe hp.ne', one_mul]
  refine congrArg (fun t : ℝ => (t : EReal)) ?_
  show 1 / ((10000 : ℝ) ^ ((((p.val * 2 : ℕ) : ℤ) : ℝ) * (1 / 64))) = _
  rw [Real.rpow_def_of_pos (by norm_num), one_div, ← Real.exp_neg]
  refine congrArg Real.exp ?_
  push_cast; ring

theorem row_toInt : ∀ i : Fin 512, (BitVec.ofNat 32 i.val).toInt = ((i.val : ℕ) : ℤ) := by
  intro i
  have := i.isLt
  rw [BitVec.toInt_ofNat', Int.bmod_def]
  norm_num; omega

theorem v23_at (i : Fin 512) (p : Fin 32) :
    val_main_v23 (F := Ideal) (ix2 i p) = (((i.val : ℝ) * Real.exp ((p.val * 2 : ℕ) * (-(Real.log 10000) * 64⁻¹)) : ℝ) : EReal) := by
  rw [val_main_v23_apply, val_main_v22_apply, val_main_v21_apply, val_main_v20_apply, val_main_v19_apply, val_main_v18_apply, val_main_v17_apply]
  have e : idx_main_v19 (idx_main_v22 (ix2 i p)) = ix1 p := by
    funext a; match a with | ⟨0, _⟩ => rfl
  rw [e, v16_at]
  show (((BitVec.ofNat 32 i.val).toInt : ℝ) : EReal) * _ = _
  rw [row_toInt, ← EReal.coe_mul]; push_cast; rfl

/-- Row `i`, place `d` of a head: the angle does not depend on the head. -/
theorem v26_at (i : Fin 512) (h : Fin 4) (d : Fin 64) :
    val_main_v26 (F := Ideal) (ix2 i d) = ((Real.cos (ang i (col h d)) : ℝ) : EReal)
      ∧ val_main_v29 (F := Ideal) (ix2 i d) = ((Real.sin (ang i (col h d)) : ℝ) : EReal) := by
  have hi := i.isLt; have hh := h.isLt; have hd := d.isLt
  have e : idx_main_v25 (idx_main_v26 (ix2 i d)) = ix2 i ⟨d.val / 2, by omega⟩ := by
    funext a
    match a with
    | ⟨0, _⟩ => apply Fin.ext; show (i.val * 64 + d.val) / 64 = i.val; omega
    | ⟨1, _⟩ => apply Fin.ext; show (i.val * 64 + d.val) / 2 % 32 = d.val / 2; omega
  have e' : idx_main_v28 (idx_main_v29 (ix2 i d)) = ix2 i ⟨d.val / 2, by omega⟩ := e
  have ea : ang i (col h d) = (i.val : ℝ) * Real.exp ((d.val / 2 * 2 : ℕ) * (-(Real.log 10000) * 64⁻¹)) := by
    unfold ang col
    have : (64 * h.val + d.val) % 64 / 2 * 2 = d.val / 2 * 2 := by omega
    rw [this]
  rw [val_main_v26_apply, val_main_v25_apply, val_main_v24_apply, val_main_v29_apply, val_main_v28_apply, val_main_v27_apply, e, e', v23_at, ea]
  exact ⟨rfl, rfl⟩

/-! ## The rotation -/

theorem v32_at (x : Act) (w : Wgt) (b : Fin 2) (i : Fin 512) (h : Fin 4) (p : Fin 32) (o : Fin 2) :
    val_main_v32 (F := Ideal) x w (ix5 b i h p o) = proj x w b i (col h ⟨2 * p.val + o.val, by omega⟩) := by
  have hb := b.isLt; have hi := i.isLt; have hh := h.isLt; have hp := p.isLt; have ho := o.isLt
  rw [val_main_v32_apply, ← v31_at]
  refine congrArg _ ?_
  funext a
  match a with
  | ⟨0, _⟩ => apply Fin.ext; show ((((b.val * 512 + i.val) * 4 + h.val) * 32 + p.val) * 2 + o.val) / 131072 = b.val; omega
  | ⟨1, _⟩ => apply Fin.ext; show ((((b.val * 512 + i.val) * 4 + h.val) * 32 + p.val) * 2 + o.val) / 256 % 512 = i.val; omega
  | ⟨2, _⟩ => apply Fin.ext; show ((((b.val * 512 + i.val) * 4 + h.val) * 32 + p.val) * 2 + o.val) / 64 % 4 = h.val; omega
  | ⟨3, _⟩ => apply Fin.ext; show ((((b.val * 512 + i.val) * 4 + h.val) * 32 + p.val) * 2 + o.val) % 64 = 2 * p.val + o.val; omega

theorem v34_idx (b : Fin 2) (i : Fin 512) (h : Fin 4) (p : Fin 32) : idx_main_v34 (ix4 b i h p) = ix5 b i h p (0 : Fin 1) := by
  have hb := b.isLt; have hi := i.isLt; have hh := h.isLt; have hp := p.isLt
  funext a
  match a with
  | ⟨0, _⟩ => apply Fin.ext; show (((b.val * 512 + i.val) * 4 + h.val) * 32 + p.val) / 65536 = b.val; omega
  | ⟨1, _⟩ => apply Fin.ext; show (((b.val * 512 + i.val) * 4 + h.val) * 32 + p.val) / 128 % 512 = i.val; omega
  | ⟨2, _⟩ => apply Fin.ext; show (((b.val * 512 + i.val) * 4 + h.val) * 32 + p.val) / 32 % 4 = h.val; omega
  | ⟨3, _⟩ => apply Fin.ext; show (((b.val * 512 + i.val) * 4 + h.val) * 32 + p.val) / 1 % 32 = p.val; omega
  | ⟨4, _⟩ => rfl

theorem v38_at (x : Act) (w : Wgt) (b : Fin 2) (i : Fin 512) (h : Fin 4) (p : Fin 32) :
    val_main_v38 (F := Ideal) x w (ix5 b i h p (0 : Fin 1)) = -proj x w b i (col h ⟨2 * p.val + 1, by omega⟩) := by
  rw [val_main_v38_apply, val_main_v35_apply, val_main_v34_apply, val_main_v33_apply]
  have e : idx_main_v38 (ix5 b i h p (0 : Fin 1)) = ix4 b i h p := by
    funext a; match a with | ⟨0, _⟩ => rfl | ⟨1, _⟩ => rfl | ⟨2, _⟩ => rfl | ⟨3, _⟩ => rfl
  have e' : idx_main_v33 (ix5 b i h p (0 : Fin 1)) = ix5 b i h p (1 : Fin 2) := by
    funext a; match a with | ⟨0, _⟩ => rfl | ⟨1, _⟩ => rfl | ⟨2, _⟩ => rfl | ⟨3, _⟩ => rfl | ⟨4, _⟩ => rfl
  rw [e, v34_idx, e', v32_at]; rfl

theorem v39_at (x : Act) (w : Wgt) (b : Fin 2) (i : Fin 512) (h : Fin 4) (p : Fin 32) :
    val_main_v39 (F := Ideal) x w (ix5 b i h p (0 : Fin 1)) = proj x w b i (col h ⟨2 * p.val, by omega⟩) := by
  rw [val_main_v39_apply, val_main_v37_apply, val_main_v36_apply]
  have e : idx_main_v39 (ix5 b i h p (0 : Fin 1)) = ix4 b i h p := by
    funext a; match a with | ⟨0, _⟩ => rfl | ⟨1, _⟩ => rfl | ⟨2, _⟩ => rfl | ⟨3, _⟩ => rfl
  have e' : idx_main_v36 (idx_main_v37 (ix4 b i h p)) = ix5 b i h p (0 : Fin 2) := by
    rw [show idx_main_v37 (ix4 b i h p) = ix5 b i h p (0 : Fin 1) from v34_idx b i h p]
    funext a; match a with | ⟨0, _⟩ => rfl | ⟨1, _⟩ => rfl | ⟨2, _⟩ => rfl | ⟨3, _⟩ => rfl | ⟨4, _⟩ => rfl
  rw [e, e', v32_at]; rfl

theorem v41_at (x : Act) (w : Wgt) (b : Fin 2) (i : Fin 512) (h : Fin 4) (d : Fin 64) :
    val_main_v41 (F := Ideal) x w (ix4 b i h d) = proj x w b i (mate (col h d)) * ((sgn (col h d) : ℝ) : EReal) := by
  have hb := b.isLt; have hi := i.isLt; have hh := h.isLt; have hd := d.isLt
  rw [val_main_v41_apply]
  have e : idx_main_v41 (ix4 b i h d) = ix5 b i h ⟨d.val / 2, by omega⟩ (⟨d.val % 2, by omega⟩ : Fin 2) := by
    funext a
    match a with
    | ⟨0, _⟩ => apply Fin.ext; show (((b.val * 512 + i.val) * 4 + h.val) * 64 + d.val) / 131072 = b.val; omega
    | ⟨1, _⟩ => apply Fin.ext; show (((b.val * 512 + i.val) * 4 + h.val) * 64 + d.val) / 256 % 512 = i.val; omega
    | ⟨2, _⟩ => apply Fin.ext; show (((b.val * 512 + i.val) * 4 + h.val) * 64 + d.val) / 64 % 4 = h.val; omega
    | ⟨3, _⟩ => apply Fin.ext; show (((b.val * 512 + i.val) * 4 + h.val) * 64 + d.val) / 2 % 32 = d.val / 2; omega
    | ⟨4, _⟩ => apply Fin.ext; show (((b.val * 512 + i.val) * 4 + h.val) * 64 + d.val) % 2 = d.val % 2; omega
  rw [e]; unfold val_main_v40
  by_cases hev : d.val % 2 = 0
  · have hs : sgn (col h d) = -1 := by
      unfold sgn col; rw [if_pos (by show (64 * h.val + d.val) % 2 = 0; omega)]
    have hm : mate (col h d) = col h ⟨2 * (d.val / 2) + 1, by omega⟩ := by
      unfold mate col; rw [if_pos (by show (64 * h.val + d.val) % 2 = 0; omega)]
      apply Fin.ext; show (64 * h.val + d.val + 1) % 256 = 64 * h.val + (2 * (d.val / 2) + 1); omega
    rw [concatenate_pair_apply_left (t := S2x512x4x32x2) (s₁ := S2x512x4x32x1) (s₂ := S2x512x4x32x1) 4 _ _ _ (ix5 b i h ⟨d.val / 2, by omega⟩ (⟨d.val % 2, by omega⟩ : Fin 2)) rfl (ix5 b i h ⟨d.val / 2, by omega⟩ (0 : Fin 1))
      (fun a => by
        match a with
        | ⟨0, _⟩ => rfl
        | ⟨1, _⟩ => rfl
        | ⟨2, _⟩ => rfl
        | ⟨3, _⟩ => rfl
        | ⟨4, _⟩ => exact hev.symm)]
    rw [v38_at, hs, hm, EReal.coe_neg, EReal.coe_one, mul_neg, mul_one]
  · have hs : sgn (col h d) = 1 := by
      unfold sgn col; rw [if_neg (by show ¬(64 * h.val + d.val) % 2 = 0; omega)]
    have hm : mate (col h d) = col h ⟨2 * (d.val / 2), by omega⟩ := by
      unfold mate col; rw [if_neg (by show ¬(64 * h.val + d.val) % 2 = 0; omega)]
      apply Fin.ext; show 64 * h.val + d.val - 1 = 64 * h.val + (2 * (d.val / 2)); omega
    rw [concatenate_pair_apply_right (t := S2x512x4x32x2) (s₁ := S2x512x4x32x1) (s₂ := S2x512x4x32x1) 4 _ _ _ (ix5 b i h ⟨d.val / 2, by omega⟩ (⟨d.val % 2, by omega⟩ : Fin 2)) rfl rfl (ix5 b i h ⟨d.val / 2, by omega⟩ (0 : Fin 1))
      (fun a ha => by
        match a, ha with
        | ⟨0, _⟩, _ => rfl
        | ⟨1, _⟩, _ => rfl
        | ⟨2, _⟩, _ => rfl
        | ⟨3, _⟩, _ => rfl
        | ⟨4, _⟩, ha => exact absurd rfl ha)
      (by show 0 + 1 = d.val % 2; omega)]
    rw [v39_at, hs, hm, EReal.coe_one, mul_one]

theorem v43_at (b : Fin 2) (i : Fin 512) (h : Fin 4) (d : Fin 64) :
    val_main_v43 (F := Ideal) (ix4 b i h d) = ((Real.cos (ang i (col h d)) : ℝ) : EReal)
      ∧ val_main_v46 (F := Ideal) (ix4 b i h d) = ((Real.sin (ang i (col h d)) : ℝ) : EReal) := by
  have e : idx_main_v42 (idx_main_v43 (ix4 b i h d)) = ix2 i d := by
    funext a; match a with | ⟨0, _⟩ => rfl | ⟨1, _⟩ => rfl
  have e' : idx_main_v45 (idx_main_v46 (ix4 b i h d)) = ix2 i d := e
  rw [val_main_v43_apply, val_main_v42_apply, val_main_v46_apply, val_main_v45_apply, e, e']
  exact v26_at i h d

/-- The reference's rotated queries. -/
theorem v48_at (x : Act) (w : Wgt) (b : Fin 2) (i : Fin 512) (h : Fin 4) (d : Fin 64) :
    val_main_v48 (F := Ideal) x w (ix4 b i h d) = rot x w b i (col h d) := by
  rw [val_main_v48_apply, val_main_v44_apply, val_main_v47_apply, v31_at, v41_at, (v43_at b i h d).1, (v43_at b i h d).2]
  rfl

/-- The keys go through the same operations. -/
theorem v67_at (x : Act) (w : Wgt) (b : Fin 2) (i : Fin 512) (h : Fin 4) (d : Fin 64) :
    val_main_v67 (F := Ideal) x w (ix4 b i h d) = rot x w b i (col h d) :=
  (show val_main_v67 (F := Ideal) x w (ix4 b i h d) = val_main_v48 (F := Ideal) x w (ix4 b i h d) from rfl).trans (v48_at x w b i h d)

end Cert.RefVal

end
-- ==== Proof.RefOut.lean ====
/-
# The reference's result

The reference's scores, its weights (shifted by the row's greatest score) and its result, read at an index: with real
rotated queries and keys it is `Spec.out`.
-/
module

public import proofs.«01_k».proof.Proof.RefRot

@[expose] public section

noncomputable section

namespace Cert.RefVal

open Cert.ReferenceIdeal Cert.ReferenceIdeal.Gen Cert.ReferenceIdeal.Read Cert.Spec
open Idealize.ShloMosaic Idealize.ShloMosaic.ValueIdx
open scoped BigOperators

/-- The greatest of finitely many reals, starting from −∞: real when there is at least one. -/
theorem fold_max_real {n : ℕ} (f : Fin (n + 1) → EReal) (s : Fin (n + 1) → ℝ) (hf : ∀ j, f j = ((s j : ℝ) : EReal)) :
    ∃ M : ℝ, (Finset.univ : Finset (Fin (n + 1))).fold max (⊥ : EReal) f = (M : EReal) := by
  have hm : ∀ S : Finset (Fin (n + 1)), S.fold max (⊥ : EReal) f = ⊥ ∧ S = ∅ ∨ ∃ M : ℝ, S.fold max (⊥ : EReal) f = (M : EReal) := by
    classical
    intro S
    induction S using Finset.induction_on with
    | empty => exact Or.inl ⟨Finset.fold_empty, rfl⟩
    | insert a S ha ih =>
      refine Or.inr ?_
      rw [Finset.fold_insert ha, hf]
      rcases ih with ⟨h, -⟩ | ⟨M, h⟩
      · exact ⟨s a, by rw [h]; exact max_eq_left bot_le⟩
      · exact ⟨max (s a) M, by rw [h]; exact (EReal.coe_strictMono.monotone.map_max (a := s a) (b := M)).symm⟩
  rcases hm Finset.univ with ⟨-, h⟩ | h
  · exact absurd h (Finset.univ_nonempty).ne_empty
  · exact h

theorem redS : S2x4x512x512.Reduces [3] S2x4x512 := by decide

theorem bits_ninf : Ideal.ofBits .f32 0xFF800000#32 = (⊥ : EReal) := by
  simp [Ideal.ofBits, Ideal.ieee]

section

variable (x : Act) (wq wk wv : Wgt) (wo : Wout) (q k : Fin 2 → Fin 512 → Fin 256 → ℝ)

/-- A scaled score. -/
def sc (b : Fin 2) (h : Fin 4) (i j : Fin 512) : ℝ := (∑ d : Fin 64, q b i (col h d) * k b j (col h d)) * (1 / 8)

variable (hq : ∀ b i j, rot x wq b i j = ((q b i j : ℝ) : EReal)) (hk : ∀ b i j, rot x wk b i j = ((k b i j : ℝ) : EReal))

include hq hk

theorem v72_at (b : Fin 2) (h : Fin 4) (i j : Fin 512) :
    val_main_v72 (F := Ideal) x wq wk (ix4 b h i j) = ((sc q k b h i j : ℝ) : EReal) := by
  rw [val_main_v72_apply, val_main_v71_apply, val_main_v70_apply]
  have e : ∀ d : Fin 64, val_main_v48 (F := Ideal) x wq (lidx_main_v70 (ix4 b h i j) d) * val_main_v67 (F := Ideal) x wk (ridx_main_v70 (ix4 b h i j) d)
      = ((q b i (col h d) * k b j (col h d) : ℝ) : EReal) := fun d => by
    have e1 : lidx_main_v70 (ix4 b h i j) d = ix4 b i h d := by
      funext a; match a with | ⟨0, _⟩ => rfl | ⟨1, _⟩ => rfl | ⟨2, _⟩ => rfl | ⟨3, _⟩ => rfl
    have e2 : ridx_main_v70 (ix4 b h i j) d = ix4 b j h d := by
      funext a; match a with | ⟨0, _⟩ => rfl | ⟨1, _⟩ => rfl | ⟨2, _⟩ => rfl | ⟨3, _⟩ => rfl
    rw [e1, e2, v48_at, v67_at, hq, hk, EReal.coe_mul]
  rw [Finset.sum_congr rfl fun d _ => e d, ← coe_sum]
  show _ * Ideal.ofBits .f32 0x3E000000#32 = _
  rw [bits_eighth, ← EReal.coe_mul]; rfl

theorem v73_at (b : Fin 2) (h : Fin 4) (i : Fin 512) :
    ∃ M : ℝ, val_main_v73 (F := Ideal) x wq wk (ix3 b h i) = (M : EReal) := by
  unfold val_main_v73
  rw [Host.reduce_eq_fold_single FloatOps.maximumf _ _ _ redS]
  have hi : val_main_cst_4 (F := Ideal) (Shape.Idx.first h_S_) = ⊥ := bits_ninf
  rw [hi]
  refine fold_max_real (n := 511) _ (fun j => sc q k b h i j) fun j => ?_
  have e : redS.lift (ix3 b h i) j = ix4 b h i j := by
    funext a; match a with | ⟨0, _⟩ => rfl | ⟨1, _⟩ => rfl | ⟨2, _⟩ => rfl | ⟨3, _⟩ => rfl
  show val_main_v72 (F := Ideal) x wq wk (redS.lift (ix3 b h i) j) = _
  rw [e]; exact v72_at x wq wk q k hq hk b h i j

theorem v82_at (b : Fin 2) (h : Fin 4) (d : Fin 64) (i : Fin 512) :
    val_main_v82 (F := Ideal) x wq wk wv (ix4 b h d i)
      = (∑ j : Fin 512, ((wt q k b h i j : ℝ) : EReal) * proj x wv b j (col h d)) * ((1 / ∑ j : Fin 512, wt q k b h i j : ℝ) : EReal) := by
  obtain ⟨M, hM⟩ := v73_at x wq wk q k hq hk b h i
  have h77 : ∀ j : Fin 512, val_main_v77 (F := Ideal) x wq wk (ix4 b h i j) = ((Real.exp (sc q k b h i j - M) : ℝ) : EReal) := fun j => by
    rw [val_main_v77_apply, val_main_v76_apply, val_main_v75_apply, val_main_v74_apply, v72_at x wq wk q k hq hk]
    have e : idx_main_v74 (idx_main_v75 (ix4 b h i j)) = ix3 b h i := by
      funext a; match a with | ⟨0, _⟩ => rfl | ⟨1, _⟩ => rfl | ⟨2, _⟩ => rfl
    rw [e, hM]; rfl
  have h78 : val_main_v78 (F := Ideal) x wq wk (ix3 b h i) = ((∑ j : Fin 512, Real.exp (sc q k b h i j - M) : ℝ) : EReal) := by
    rw [val_main_v78_apply, coe_sum]
    have hz : val_main_cst_5 (F := Ideal) (Shape.Idx.first h_S_) = 0 := Ideal.ofBits_zero_f32
    rw [hz, zero_add]
    refine Finset.sum_congr rfl fun j _ => ?_
    have e : idx_main_v78 (ix3 b h i) j = ix4 b h i j := by
      funext a; match a with | ⟨0, _⟩ => rfl | ⟨1, _⟩ => rfl | ⟨2, _⟩ => rfl | ⟨3, _⟩ => rfl
    rw [e, h77]
  have h81 : ∀ j : Fin 512, val_main_v81 (F := Ideal) x wq wk (ix4 b h i j)
      = Ideal.div ((Real.exp (sc q k b h i j - M) : ℝ) : EReal) ((∑ j : Fin 512, Real.exp (sc q k b h i j - M) : ℝ) : EReal) := fun j => by
    rw [val_main_v81_apply, val_main_v80_apply, val_main_v79_apply, h77]
    have e : idx_main_v79 (idx_main_v80 (ix4 b h i j)) = ix3 b h i := by
      funext a; match a with | ⟨0, _⟩ => rfl | ⟨1, _⟩ => rfl | ⟨2, _⟩ => rfl
    rw [e, h78]; rfl
  rw [val_main_v82_apply]
  refine Eq.trans (Finset.sum_congr rfl fun j _ => ?_) (softmax_shift (fun j => sc q k b h i j) M (fun j => proj x wv b j (col h d)))
  have e1 : lidx_main_v82 (ix4 b h d i) j = ix4 b j h d := by
    funext a; match a with | ⟨0, _⟩ => rfl | ⟨1, _⟩ => rfl | ⟨2, _⟩ => rfl | ⟨3, _⟩ => rfl
  have e2 : ridx_main_v82 (ix4 b h d i) j = ix4 b h i j := by
    funext a; match a with | ⟨0, _⟩ => rfl | ⟨1, _⟩ => rfl | ⟨2, _⟩ => rfl | ⟨3, _⟩ => rfl
  rw [e1, e2, h81, v68_eq, v31_at]

/-- The reference's result. -/
theorem v86_at (b : Fin 2) (i n : Fin 512) :
    val_main_v86 (F := Ideal) x wq wk wv wo (ix3 b i n) = out q k x wv wo b i n := by
  rw [val_main_v86_apply]
  show val_main_v85 (F := Ideal) x wq wk wv wo (ix3 b i n) = _
  rw [val_main_v85_apply]; unfold out
  refine Finset.sum_congr rfl fun c _ => ?_
  have hb := b.isLt; have hi := i.isLt; have hc := c.isLt
  have e1 : idx_main_v83 (idx_main_v84 (lidx_main_v85 (ix3 b i n) c)) = ix4 b (hd c) (⟨c.val % 64, by omega⟩ : Fin 64) i := by
    funext a
    match a with
    | ⟨0, _⟩ => apply Fin.ext; show ((b.val * 512 + i.val) * 256 + c.val) / 131072 = b.val; omega
    | ⟨1, _⟩ => apply Fin.ext; show ((b.val * 512 + i.val) * 256 + c.val) / 64 % 4 = c.val / 64; omega
    | ⟨2, _⟩ => apply Fin.ext; show ((b.val * 512 + i.val) * 256 + c.val) % 64 = c.val % 64; omega
    | ⟨3, _⟩ => apply Fin.ext; show ((b.val * 512 + i.val) * 256 + c.val) / 256 % 512 = i.val; omega
  have e2 : ridx_main_v85 (ix3 b i n) c = ix2 c n := by
    funext a; match a with | ⟨0, _⟩ => rfl | ⟨1, _⟩ => rfl
  have e3 : col (hd c) (⟨c.val % 64, by omega⟩ : Fin 64) = c := by
    apply Fin.ext; show 64 * (c.val / 64) + c.val % 64 = c.val; omega
  rw [val_main_v84_apply, val_main_v83_apply, e1, e2, v82_at x wq wk wv q k hq hk, e3]; rfl

end

end Cert.RefVal

end
-- ==== Proof.Algebraic.lean ====
/-
# The kernel computes the plain program's result

With finite activations, query weights and key weights, every device's result is its block of rows of the plain
program's result: both are `Spec.out` of the whole arrays.
-/
module

public import proofs.«01_k».proof.Proof.Frames
public import proofs.«01_k».proof.Proof.Final
public import proofs.«01_k».proof.Proof.KerOut
public import proofs.«01_k».proof.Proof.RefOut

@[expose] public section

set_option maxRecDepth 65536

noncomputable section

namespace Cert.Algebraic

open Idealize.ShloMosaic Idealize.ShloMosaic.ValueIdx
open Idealize.SL Idealize.SL.Sem
open Cert.Spec

/-! ## The precondition, read at an index -/

theorem bits_pinf : Ideal.ofBits .bf16 0x7F80#16 = (⊤ : EReal) := by
  simp [Ideal.ofBits, Ideal.ieee]

/-- A value whose magnitude is below infinity is real. -/
theorem real_of_olt {x : EReal} (h : Ideal.cmp .olt (max x (-x)) (Ideal.ofBits .bf16 0x7F80#16) = 1#1) : x = ((x.toReal : ℝ) : EReal) := by
  rw [bits_pinf] at h
  refine real_of_ne ?_ ?_
  · rintro rfl; simp [Ideal.cmp] at h
  · rintro rfl; simp [Ideal.cmp] at h

theorem pre_x : Cert.Pre_finite_KernelIdeal.Facts := ⟨by decide, by decide⟩
theorem pre_r : Cert.Pre_finite_ReferenceIdeal.Facts := ⟨by decide, by decide⟩

attribute [local instance] pre_x

/-- Of one device's blocks: the activations and the two weights under the precondition are real. -/
theorem real_args (x : FVec Ideal Cert.Pre_finite_KernelIdeal.S2x128x512 .bf16) (wq wk wv : FVec Ideal Cert.Pre_finite_KernelIdeal.S512x256 .bf16)
    (wo : FVec Ideal Cert.Pre_finite_KernelIdeal.S256x512 .bf16)
    (h : (Cert.Pre_finite_KernelIdeal.fn (F := Ideal) x wq wk wv wo).1 = (fun _ => 1#1)
      ∧ (Cert.Pre_finite_KernelIdeal.fn (F := Ideal) x wq wk wv wo).2.1 = (fun _ => 1#1)
      ∧ (Cert.Pre_finite_KernelIdeal.fn (F := Ideal) x wq wk wv wo).2.2 = (fun _ => 1#1)) :
    (∀ i, x i = (((x i : EReal).toReal : ℝ) : EReal)) ∧ (∀ i, wq i = (((wq i : EReal).toReal : ℝ) : EReal))
      ∧ (∀ i, wk i = (((wk i : EReal).toReal : ℝ) : EReal)) :=
  ⟨fun i => real_of_olt (congrFun h.1 i), fun i => real_of_olt (congrFun h.2.1 i), fun i => real_of_olt (congrFun h.2.2 i)⟩

/-! ## A device's block of rows -/

theorem block_at (c : Fin 4) (v : (⟨3, ![2, 512, 512]⟩ : Shape).Idx → EReal) (b : Fin 2) (r : Fin 128) (k : Fin 512) :
    Layout.block ⟨3, ![2, 128, 512]⟩ ⟨3, ![2, 512, 512]⟩ 1 4 c v (by decide) (ix3 b r k) = v (ix3 b (row c r) k) := by
  refine congrArg v ?_
  funext a; apply Fin.ext
  match a with
  | ⟨0, _⟩ => rfl
  | ⟨1, _⟩ => show c.val * 128 + r.val = 128 * c.val + r.val; omega
  | ⟨2, _⟩ => rfl

theorem idx3 {p q s : ℕ} (i : (⟨3, ![p, q, s]⟩ : Shape).Idx) : ∃ (a : Fin p) (b : Fin q) (c : Fin s), i = ix3 a b c :=
  ⟨i 0, i 1, i 2, by funext a; match a with | ⟨0, _⟩ => rfl | ⟨1, _⟩ => rfl | ⟨2, _⟩ => rfl⟩

theorem row_split (i : Fin 512) : ∃ (c : Fin 4) (r : Fin 128), i = row c r :=
  ⟨⟨i.val / 128, by omega⟩, ⟨i.val % 128, by omega⟩, Fin.ext (by show i.val = 128 * (i.val / 128) + i.val % 128; omega)⟩

/-! ## The claim -/

theorem algebraic : Cert.algebraic_KernelIdeal_ReferenceIdeal_pre_finite_KernelIdeal := by
  intro m g m' g' hpre hargs
  refine ⟨Cert.ReferenceIdeal.Value.res_main_v86 m' 0, ?_, ?_⟩
  · have hr := fun c => real_args _ _ _ _ _ (hpre c)
    have hx : ∀ i : (⟨3, ![2, 512, 512]⟩ : Shape).Idx, (m' (((0 : Dev Cert.ReferenceIdeal.nD).tc : Thread Cert.ReferenceIdeal.nD Cert.ReferenceIdeal.τ).loc Cert.ReferenceIdeal.main_arg0) i : EReal)
        = (((m' (((0 : Dev Cert.ReferenceIdeal.nD).tc : Thread Cert.ReferenceIdeal.nD Cert.ReferenceIdeal.τ).loc Cert.ReferenceIdeal.main_arg0) i : EReal).toReal : ℝ) : EReal) := fun i => by
      obtain ⟨b, j, k, rfl⟩ := idx3 i
      obtain ⟨c, r, rfl⟩ := row_split j
      have h := (hr c).1 (ix3 b r k)
      rw [(hargs c).1, block_at] at h
      exact h
    have hwq := (hr 0).2.1
    have hwk := (hr 0).2.2
    rw [(hargs 0).2.1] at hwq
    rw [(hargs 0).2.2.1] at hwk
    refine (θ_run Cert.KernelIdeal.defs _ _).mono (fun r h c => ?_) (Cert.KernelIdeal.Ring.run_main (F := Ideal) m g)
    refine ⟨?_, (h.1 c (0 : Fin 6)).trans ((Cert.KernelIdeal.Ring.dats m g 0 c).arrAt_in (0 : Fin 6) rfl _),
      (h.1 c (1 : Fin 6)).trans ((Cert.KernelIdeal.Ring.dats m g 0 c).arrAt_in (1 : Fin 6) rfl _),
      (h.1 c (2 : Fin 6)).trans ((Cert.KernelIdeal.Ring.dats m g 0 c).arrAt_in (2 : Fin 6) rfl _),
      (h.1 c (3 : Fin 6)).trans ((Cert.KernelIdeal.Ring.dats m g 0 c).arrAt_in (3 : Fin 6) rfl _),
      (h.1 c (4 : Fin 6)).trans ((Cert.KernelIdeal.Ring.dats m g 0 c).arrAt_in (4 : Fin 6) rfl _)⟩
    refine (h.1 c (5 : Fin 6)).trans ((Cert.KernelIdeal.Ring.out_final m g c).trans ?_)
    rw [Cert.ReferenceIdeal.Read.val_main_v86_eq]
    funext i
    obtain ⟨b, r, n, rfl⟩ := idx3 i
    rw [block_at]
    refine (Cert.KerVal.outAll_at m g (fun b i j => (rot _ _ b i j).toReal) (fun b i j => (rot _ _ b i j).toReal)
      (fun c b r k => ?_) (fun c k j => congrFun (hargs c).2.1 _) (fun c k j => congrFun (hargs c).2.2.1 _)
      (fun c k j => congrFun (hargs c).2.2.2.1 _) (fun c k j => congrFun (hargs c).2.2.2.2 _)
      (fun b i j => rot_real _ _ hx hwq b i j) (fun b i j => rot_real _ _ hx hwk b i j) c b r n).trans ?_
    · rw [(hargs c).1, block_at]
    · exact (Cert.RefVal.v86_at _ _ _ _ _ _ _ (fun b i j => rot_real _ _ hx hwq b i j) (fun b i j => rot_real _ _ hx hwk b i j) b (row c r) n).symm
  · exact (θ_run Cert.ReferenceIdeal.defs _ _).mono (fun r h => h 0) (Cert.ReferenceIdeal.Value.run (F := Ideal) m' g')

end Cert.Algebraic

end
-- ==== Proof.lean ====
/-
# The claims, proved

`Proof/Launch.lean` runs the four devices' programs from any memory and names what every array ends holding;
`Proof/Frames.lean` reads that run at the two instances and runs the plain program on its one device;
`Proof/Algebraic.lean` shows the two results equal under the precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic

@[expose] public section

noncomputable section

namespace Cert.Proof

open Idealize.ShloMosaic Idealize.SL.Sem

/-- The one named constant has the value the table gives it. -/
theorem preserves : Cert.preserves_Kernel_KernelIdeal :=
  IdealRules.named_const.statement Cert.KernelIdeal.κ "freq" .f32 0xBE135D8E#32 ((-((Real.log 10000) * 64⁻¹) : ℝ) : EReal) rfl

theorem claim : Cert.Claim :=
  ⟨Cert.Kernel.Gen.facts, Cert.KernelIdeal.Gen.facts, Cert.ReferenceIdeal.Gen.facts, Cert.Algebraic.pre_x, Cert.Algebraic.pre_r,
    Cert.Frames.kernel, Cert.Frames.ideal, fun m g _ => Cert.Frames.ideal m g trivial,
    Cert.Frames.reference, fun m g _ => Cert.Frames.reference m g trivial, preserves, Cert.Algebraic.algebraic⟩

end Cert.Proof

end
